-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v46_0)) (v1 : (c : Dev Cert.Kernel7Ideal.nD) → Buf (Elt Ideal) ((c.tc : Thread Cert.Kernel7Ideal.nD Cert.Kernel7Ideal.τ).loc Cert.Kernel7Ideal.main_v46_1)) (v2 : (c : Dev Cert.Kernel7Ideal.nD) → Buf (Elt Ideal) ((c.tc : Thread Cert.Kernel7Ideal.nD Cert.Kernel7Ideal.τ).loc Cert.Kernel7Ideal.main_v46_2)) (v3 : (c : Dev Cert.Kernel7Ideal.nD) → Buf (Elt Ideal) ((c.tc : Thread Cert.Kernel7Ideal.nD Cert.Kernel7Ideal.τ).loc Cert.Kernel7Ideal.main_v46_3)) (v4 : (c : Dev Cert.Kernel7Ideal.nD) → Buf (Elt Ideal) ((c.tc : Thread Cert.Kernel7Ideal.nD Cert.Kernel7Ideal.τ).loc Cert.Kernel7Ideal.main_v48)) (v5 : (c : Dev Cert.Kernel7Ideal.nD) → Buf (Elt Ideal) ((c.tc : Thread Cert.Kernel7Ideal.nD Cert.Kernel7Ideal.τ).loc Cert.Kernel7Ideal.main_v50)) (v6 : (c : Dev Cert.Kernel7Ideal.nD) → Buf (Elt Ideal) ((c.tc : Thread Cert.Kernel7Ideal.nD Cert.Kernel7Ideal.τ).loc Cert.Kernel7Ideal.main_v52)) (v7 : (c : Dev Cert.Kernel7Ideal.nD) → Buf (Elt Ideal) ((c.tc : Thread Cert.Kernel7Ideal.nD Cert.Kernel7Ideal.τ).loc Cert.Kernel7Ideal.main_v54)) (v8 : (c : Dev Cert.Kernel7Ideal.nD) → Buf (Elt Ideal) ((c.tc : Thread Cert.Kernel7Ideal.nD Cert.Kernel7Ideal.τ).loc Cert.Kernel7Ideal.main_v56)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v46_0) = v0 c
          ∧ r.2.mem ((c.tc : Thread Cert.Kernel7Ideal.nD Cert.Kernel7Ideal.τ).loc Cert.Kernel7Ideal.main_v46_1) = v1 c
          ∧ r.2.mem ((c.tc : Thread Cert.Kernel7Ideal.nD Cert.Kernel7Ideal.τ).loc Cert.Kernel7Ideal.main_v46_2) = v2 c
          ∧ r.2.mem ((c.tc : Thread Cert.Kernel7Ideal.nD Cert.Kernel7Ideal.τ).loc Cert.Kernel7Ideal.main_v46_3) = v3 c
          ∧ r.2.mem ((c.tc : Thread Cert.Kernel7Ideal.nD Cert.Kernel7Ideal.τ).loc Cert.Kernel7Ideal.main_v48) = v4 c
          ∧ r.2.mem ((c.tc : Thread Cert.Kernel7Ideal.nD Cert.Kernel7Ideal.τ).loc Cert.Kernel7Ideal.main_v50) = v5 c
          ∧ r.2.mem ((c.tc : Thread Cert.Kernel7Ideal.nD Cert.Kernel7Ideal.τ).loc Cert.Kernel7Ideal.main_v52) = v6 c
          ∧ r.2.mem ((c.tc : Thread Cert.Kernel7Ideal.nD Cert.Kernel7Ideal.τ).loc Cert.Kernel7Ideal.main_v54) = v7 c
          ∧ r.2.mem ((c.tc : Thread Cert.Kernel7Ideal.nD Cert.Kernel7Ideal.τ).loc Cert.Kernel7Ideal.main_v56) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v126) = v0 c
          ∧ r.2.mem ((c.tc : Thread Cert.Reference7Ideal.nD Cert.Reference7Ideal.τ).loc Cert.Reference7Ideal.main_v127) = v1 c
          ∧ r.2.mem ((c.tc : Thread Cert.Reference7Ideal.nD Cert.Reference7Ideal.τ).loc Cert.Reference7Ideal.main_v128) = v2 c
          ∧ r.2.mem ((c.tc : Thread Cert.Reference7Ideal.nD Cert.Reference7Ideal.τ).loc Cert.Reference7Ideal.main_v129) = v3 c
          ∧ r.2.mem ((c.tc : Thread Cert.Reference7Ideal.nD Cert.Reference7Ideal.τ).loc Cert.Reference7Ideal.main_v99) = v4 c
          ∧ r.2.mem ((c.tc : Thread Cert.Reference7Ideal.nD Cert.Reference7Ideal.τ).loc Cert.Reference7Ideal.main_v105) = v5 c
          ∧ r.2.mem ((c.tc : Thread Cert.Reference7Ideal.nD Cert.Reference7Ideal.τ).loc Cert.Reference7Ideal.main_v71) = v6 c
          ∧ r.2.mem ((c.tc : Thread Cert.Reference7Ideal.nD Cert.Reference7Ideal.τ).loc Cert.Reference7Ideal.main_v111) = v7 c
          ∧ r.2.mem ((c.tc : Thread Cert.Reference7Ideal.nD Cert.Reference7Ideal.τ).loc Cert.Reference7Ideal.main_v77) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x512 : Shape := ⟨2, ![4096, 512]⟩
abbrev S4096x256 : Shape := ⟨2, ![4096, 256]⟩
abbrev S8 : Shape := ⟨1, ![8]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v15 : IVec S_ 1) (main_v16 : FVec F S4096x512 .f32) (main_cst_4 : FVec F S_ .f32) : IVec S_ 1 :=
  let main_v17 : FVec F S4096x512 .f32 := broadcastInDim S4096x512 ![] bcast_S_S4096x512 main_cst_4
  let main_v18 : IVec S4096x512 1 := cmpf .olt main_v16 main_v17
  let main_c_5 : IVec S_ 1 := constantI S_ 1 1#1
  let main_v19 : IVec S_ 1 := (fun x v => Host.reduce IntOp.andi x v reducesTo_S4096x512_S_d0_1 h_S_) main_v18 main_c_5
  let main_v20 : IVec S_ 1 := andi main_v15 main_v19
  main_v20

def fn {F : FTy → Type} [FloatOps F] (main_arg0 : FVec F S4096x512 .bf16) (main_arg1 : FVec F S4096x256 .bf16) (main_arg2 : FVec F S8 .f32) (main_arg3 : FVec F S4096x512 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S8 .f32 := Host.absf main_arg2
  let main_cst_2 : FVec F S_ .f32 := constant S_ .f32 0x7F800000#32
  let main_v12 : FVec F S8 .f32 := broadcastInDim S8 ![] bcast_S_S8 main_cst_2
  let main_v13 : IVec S8 1 := cmpf .olt main_v11 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v10 main_v14
  let main_v16 : FVec F S4096x512 .f32 := Host.absf main_arg3
  let main_cst_4 : FVec F S_ .f32 := constant S_ .f32 0x7F800000#32
  fn_part1 (F := F) main_v15 main_v16 main_cst_4
-- ==== Kernel.lean ====
abbrev S4096x512 : Shape := ⟨2, ![4096, 512]⟩
abbrev S4096x256 : Shape := ⟨2, ![4096, 256]⟩
abbrev S8 : Shape := ⟨1, ![8]⟩
abbrev S32x8x128 : Shape := ⟨3, ![32, 8, 128]⟩
abbrev S128x512 : Shape := ⟨2, ![128, 512]⟩
abbrev S128x256 : Shape := ⟨2, ![128, 256]⟩
abbrev S1x8x128 : Shape := ⟨3, ![1, 8, 128]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S1x1 : Shape := ⟨2, ![1, 1]⟩
abbrev S1x128 : Shape := ⟨2, ![1, 128]⟩
abbrev S256x256 : Shape := ⟨2, ![256, 256]⟩
abbrev S8x128 : Shape := ⟨2, ![8, 128]⟩
abbrev S32x8x1 : Shape := ⟨3, ![32, 8, 1]⟩
abbrev S32x8 : Shape := ⟨2, ![32, 8]⟩
abbrev S_ : Shape := ⟨0, ![]⟩

abbrev nBuf : Space → Nat
  | .hbm => 11
  | .vmem => 15
  | .smem => 1
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S8, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S32x8x128, .f32⟩
  | .hbm, ⟨7, _⟩ => ⟨S32x8x1, .f32⟩
  | .hbm, ⟨8, _⟩ => ⟨S32x8, .f32⟩
  | .hbm, ⟨9, _⟩ => ⟨S_, .f32⟩
  | .hbm, ⟨10, _⟩ => ⟨S8, .f32⟩
  | .local _ .vmem, ⟨0, _⟩ => ⟨S128x512, .bf16⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x256, .f32⟩
  | .local _ .vmem, ⟨11, _⟩ => ⟨S128x256, .f32⟩
  | .local _ .vmem, ⟨12, _⟩ => ⟨S1x8x128, .f32⟩
  | .local _ .vmem, ⟨13, _⟩ => ⟨S1x8x128, .f32⟩
  | .local _ .vmem, ⟨14, _⟩ => ⟨S128x256, .f32⟩
  | .local _ .smem, ⟨0, _⟩ => ⟨S8, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x256 : Shape := ⟨2, ![4096, 256]⟩
abbrev S8 : Shape := ⟨1, ![8]⟩
abbrev S4096x128 : Shape := ⟨2, ![4096, 128]⟩
abbrev S32x128x2x4x64 : Shape := ⟨5, ![32, 128, 2, 4, 64]⟩
abbrev S4096x2x64 : Shape := ⟨3, ![4096, 2, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩
abbrev S32x2x64x256 : Shape := ⟨4, ![32, 2, 64, 256]⟩
abbrev S32x2x128x4x64 : Shape := ⟨5, ![32, 2, 128, 4, 64]⟩
abbrev S32x2x256x64 : Shape := ⟨4, ![32, 2, 256, 64]⟩

abbrev nBuf : Space → Nat
  | .hbm => 217
  | .vmem => 0
  | .smem => 0
  | _ => 0

abbrev hbmTy0_0 (i : Nat) : BufTy := match i % 128 with
  | 0 => ⟨S4096x512, .bf16⟩
  | 1 => ⟨S4096x256, .bf16⟩
  | 2 => ⟨S8, .f32⟩
  | 3 => ⟨S4096x512, .f32⟩
  | 4 => ⟨S4096x512, .f32⟩
  | 5 => ⟨S4096x256, .f32⟩
  | 6 => ⟨S4096x128, .f32⟩
  | 7 => ⟨S4096x128, .f32⟩
  | 8 => ⟨S32x128x2x4x64, .f32⟩
  | 9 => ⟨S4096x2x64, .f32⟩
  | 10 => ⟨S_, .f32⟩
  | 11 => ⟨S128x2x64, .f32⟩
  | 12 => ⟨S4224x2x64, .f32⟩
  | 13 => ⟨S_, .f32⟩
  | 14 => ⟨S128x2x64, .f32⟩
  | 15 => ⟨S33x128x2x64, .f32⟩
  | 16 => ⟨S32x128x2x64, .f32⟩
  | 17 => ⟨S32x128x2x64, .f32⟩
  | 18 => ⟨S32x256x2x64, .f32⟩
  | 19 => ⟨S4096x2x64, .f32⟩
  | 20 => ⟨S_, .f32⟩
  | 21 => ⟨S128x2x64, .f32⟩
  | 22 => ⟨S4224x2x64, .f32⟩
  | 23 => ⟨S_, .f32⟩
  | 24 => ⟨S128x2x64, .f32⟩
  | 25 => ⟨S33x128x2x64, .f32⟩
  | 26 => ⟨S32x128x2x64, .f32⟩
  | 27 => ⟨S32x128x2x64, .f32⟩
  | 28 => ⟨S32x256x2x64, .f32⟩
  | 29 => ⟨S32x2x256x128x4, .f32⟩
  | 30 => ⟨S32x2x4x128x256, .f32⟩
  | 31 => ⟨S_, .f32⟩
  | 32 => ⟨S32x2x4x128x256, .f32⟩
  | 33 => ⟨S32x2x4x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S32, .i32⟩
  | 45 => ⟨S32x1x1, .i32⟩
  | 46 => ⟨S_, .i32⟩
  | 47 => ⟨S32x1x1, .i32⟩
  | 48 => ⟨S32x1x1, .i32⟩
  | 49 => ⟨S_, .i32⟩
  | 50 => ⟨S32x1x1, .i32⟩
  | 51 => ⟨S32x1x1, .i32⟩
  | 52 => ⟨S1x1x256, .i32⟩
  | 53 => ⟨S32x1x256, .i32⟩
  | 54 => ⟨S32x1x256, .i32⟩
  | 55 => ⟨S32x1x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S1x128x256, .i1⟩
  | 64 => ⟨S_, .i32⟩
  | 65 => ⟨S32x1x256, .i32⟩
  | 66 => ⟨S32x1x256, .i1⟩
  | 67 => ⟨S32x128x256, .i1⟩
  | 68 => ⟨S32x128x256, .i1⟩
  | 69 => ⟨S32x128x256, .i1⟩
  | 70 => ⟨S_, .f32⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S1, .f32⟩
  | 80 => ⟨S_, .f32⟩
  | 81 => ⟨S1, .f32⟩
  | 82 => ⟨S_, .f32⟩
  | 83 => ⟨S1, .f32⟩
  | 84 => ⟨S_, .f32⟩
  | 85 => ⟨S1, .f32⟩
  | 86 => ⟨S8, .f32⟩
  | 87 => ⟨S2x4, .f32⟩
  | 88 => ⟨S2x4x1x1, .f32⟩
  | 89 => ⟨S2x4x1x1, .f32⟩
  | 90 => ⟨S128x256, .f32⟩
  | 91 => ⟨S1x1x128x256, .f32⟩
  | 92 => ⟨S2x4x128x256, .f32⟩
  | 93 => ⟨S2x4x128x256, .f32⟩
  | 94 => ⟨S2x4x128x256, .f32⟩
  | 95 => ⟨S32x1x1x128x256, .i1⟩
  | 96 => ⟨S1x2x4x128x256, .f32⟩
  | 97 => ⟨S32x2x4x128x256, .f32⟩
  | 98 => ⟨S32x2x4x128x256, .f32⟩
  | 99 => ⟨S_, .f32⟩
  | 100 => ⟨S_, .f32⟩
  | 101 => ⟨S32x2x4x128x256, .i1⟩
  | 102 => ⟨S32x2x4x128x256, .f32⟩
  | 103 => ⟨S32x2x4x128x256, .f32⟩
  | 104 => ⟨S_, .f32⟩
  | 105 => ⟨S32x2x4x128x256, .f32⟩
  | 106 => ⟨S1x2x4x1x1, .f32⟩
  | 107 => ⟨S32x2x4x128x1, .f32⟩
  | 108 => ⟨S32x2x4x128x257, .f32⟩
  | 109 => ⟨S_, .f32⟩
  | 110 => ⟨S32x2x4x128, .f32⟩
  | 111 => ⟨S32x2x4x128x1, .f32⟩
  | 112 => ⟨S32x2x4x128x257, .f32⟩
  | 113 => ⟨S32x2x4x128x257, .i1⟩
  | 114 => ⟨S32x2x4x128x257, .f32⟩
  | 115 => ⟨S_, .f32⟩
  | 116 => ⟨S32x2x4x128, .f32⟩
  | 117 => ⟨S_, .f32⟩
  | 118 => ⟨S32x2x4x128, .f32⟩
  | 119 => ⟨S32x2x4x128, .f32⟩
  | 120 => ⟨S_, .f32⟩
  | 121 => ⟨S32x2x4x128, .f32⟩
  | 122 => ⟨S32x2x4x128, .i1⟩
  | 123 => ⟨S_, .f32⟩
  | 124 => ⟨S32x2x4x128, .f32⟩
  | 125 => ⟨S32x2x4x128, .i1⟩
  | 126 => ⟨S_, .f32⟩
  | 127 => ⟨S32x2x4x128, .f32⟩
  | _ => ⟨S4096x512, .bf16⟩

abbrev hbmTy0_1 (i : Nat) : BufTy := match i % 128 with
  | 0 => ⟨S_, .f32⟩
  | 1 => ⟨S32x2x4x128, .f32⟩
  | 2 => ⟨S_, .f32⟩
  | 3 => ⟨S32x2x4x128, .f32⟩
  | 4 => ⟨S32x2x4x128, .f32⟩
  | 5 => ⟨S32x2x4x128, .f32⟩
  | 6 => ⟨S32x2x4x128x1, .f32⟩
  | 7 => ⟨S32x2x4x128x257, .f32⟩
  | 8 => ⟨S32x2x4x128x257, .f32⟩
  | 9 => ⟨S32x2x4x128x257, .f32⟩
  | 10 => ⟨S_, .f32⟩
  | 11 => ⟨S32x2x4x128, .f32⟩
  | 12 => ⟨S32x2x4x128x1, .f32⟩
  | 13 => ⟨S32x2x4x128x257, .f32⟩
  | 14 => ⟨S32x2x4x128x257, .f32⟩
  | 15 => ⟨S32x2x4x128x1, .f32⟩
  | 16 => ⟨S_, .f32⟩
  | 17 => ⟨S32x2x4x128x1, .f32⟩
  | 18 => ⟨S32x2x4x128x1, .f32⟩
  | 19 => ⟨S32x2x4x128x256, .f32⟩
  | 20 => ⟨S32x2x64x4x128, .f32⟩
  | 21 => ⟨S32x128x2x4x64, .f32⟩
  | 22 => ⟨S4096x512, .f32⟩
  | 23 => ⟨S32x128x2x4x64, .f32⟩
  | 24 => ⟨S32x2x64x4x128, .f32⟩
  | 25 => ⟨S32x2x4x128x256, .f32⟩
  | 26 => ⟨S32x2x64x256, .f32⟩
  | 27 => ⟨S32x256x2x64, .f32⟩
  | 28 => ⟨S_, .f32⟩
  | 29 => ⟨S32x2x4x128x257, .f32⟩
  | 30 => ⟨S32x2x4x128x257, .f32⟩
  | 31 => ⟨S32x2x4x128x257, .f32⟩
  | 32 => ⟨S32x2x4x128x257, .f32⟩
  | 33 => ⟨S_, .f32⟩
  | 34 => ⟨S32x2x4x128, .f32⟩
  | 35 => ⟨S32x2x4x128x1, .f32⟩
  | 36 => ⟨S32x2x4x128x1, .f32⟩
  | 37 => ⟨S32x2x4x128x257, .f32⟩
  | 38 => ⟨S32x2x4x128x257, .f32⟩
  | 39 => ⟨S_, .f32⟩
  | 40 => ⟨S32x2x4x128, .f32⟩
  | 41 => ⟨S32x2x4x128x257, .f32⟩
  | 42 => ⟨S32x2x4x128x257, .f32⟩
  | 43 => ⟨S32x2x4x128x257, .f32⟩
  | 44 => ⟨S32x2x4x128x256, .f32⟩
  | 45 => ⟨S32x2x4x128x1, .f32⟩
  | 46 => ⟨S_, .f32⟩
  | 47 => ⟨S2x4, .f32⟩
  | 48 => ⟨S1x2x4x1x1, .f32⟩
  | 49 => ⟨S8, .f32⟩
  | 50 => ⟨S_, .f32⟩
  | 51 => ⟨S32x2x4x128x256, .f32⟩
  | 52 => ⟨S32x2x4x128x256, .f32⟩
  | 53 => ⟨S_, .f32⟩
  | 54 => ⟨S32x2x4x128x256, .f32⟩
  | 55 => ⟨S32x2x4x128x256, .f32⟩
  | 56 => ⟨S32x2x256x128x4, .f32⟩
  | 57 => ⟨S32x2x128x4x64, .f32⟩
  | 58 => ⟨S32x128x2x4x64, .f32⟩
  | 59 => ⟨S32x2x256x64, .f32⟩
  | 60 => ⟨S32x256x2x64, .f32⟩
  | 61 => ⟨S32x128x2x64, .f32⟩
  | 62 => ⟨S32x128x2x64, .f32⟩
  | 63 => ⟨S_, .f32⟩
  | 64 => ⟨S33x128x2x64, .f32⟩
  | 65 => ⟨S_, .f32⟩
  | 66 => ⟨S33x128x2x64, .f32⟩
  | 67 => ⟨S33x128x2x64, .f32⟩
  | 68 => ⟨S4224x2x64, .f32⟩
  | 69 => ⟨S128x2x64, .f32⟩
  | 70 => ⟨S4096x2x64, .f32⟩
  | 71 => ⟨S4096x128, .f32⟩
  | 72 => ⟨S32x128x2x64, .f32⟩
  | 73 => ⟨S32x128x2x64, .f32⟩
  | 74 => ⟨S_, .f32⟩
  | 75 => ⟨S33x128x2x64, .f32⟩
  | 76 => ⟨S_, .f32⟩
  | 77 => ⟨S33x128x2x64, .f32⟩
  | 78 => ⟨S33x128x2x64, .f32⟩
  | 79 => ⟨S4224x2x64, .f32⟩
  | 80 => ⟨S128x2x64, .f32⟩
  | 81 => ⟨S4096x2x64, .f32⟩
  | 82 => ⟨S4096x128, .f32⟩
  | 83 => ⟨S4096x512, .f32⟩
  | 84 => ⟨S_, .f32⟩
  | 85 => ⟨S4096x256, .f32⟩
  | 86 => ⟨S_, .f32⟩
  | 87 => ⟨S4096x256, .f32⟩
  | 88 => ⟨S4096x256, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_call0_v0 : Ref sig .tc := ⟨.hbm, 100, rfl⟩
abbrev main_v76_1 : Ref sig .tc := ⟨.hbm, 101, rfl⟩
abbrev main_call0_v2 : Ref sig .tc := ⟨.hbm, 102, rfl⟩
abbrev main_v76_0 : Ref sig .tc := ⟨.hbm, 103, rfl⟩
abbrev main_call0_cst : Ref sig .tc := ⟨.hbm, 104, rfl⟩
abbrev main_v76_2 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_cst_25 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_26 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_27 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_28 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_29 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_30 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_31 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_call1_cst : Ref sig .tc := ⟨.hbm, 178, rfl⟩
abbrev main_call1_v0 : Ref sig .tc := ⟨.hbm, 179, rfl⟩
abbrev main_v135 : Ref sig .tc := ⟨.hbm, 180, rfl⟩
abbrev main_cst_32 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_33 : Ref sig .tc := ⟨.hbm, 191, rfl⟩
abbrev main_v145 : Ref sig .tc := ⟨.hbm, 192, rfl⟩
abbrev main_cst_34 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_35 : Ref sig .tc := ⟨.hbm, 202, rfl⟩
abbrev main_v154 : Ref sig .tc := ⟨.hbm, 203, rfl⟩
abbrev main_cst_36 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_37 : Ref sig .tc := ⟨.hbm, 212, rfl⟩
abbrev main_v162 : Ref sig .tc := ⟨.hbm, 213, rfl⟩
abbrev main_cst_38 : Ref sig .tc := ⟨.hbm, 214, rfl⟩
abbrev main_v163 : Ref sig .tc := ⟨.hbm, 215, rfl⟩
abbrev main_v164 : Ref sig .tc := ⟨.hbm, 216, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x1280 : Shape := ⟨2, ![4096, 1280]⟩
abbrev S1024x1280 : Shape := ⟨2, ![1024, 1280]⟩
abbrev S2048x512 : Shape := ⟨2, ![2048, 512]⟩
abbrev S2048x1280 : Shape := ⟨2, ![2048, 1280]⟩
abbrev S512x1280 : Shape := ⟨2, ![512, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S1024x1280, .bf16⟩
  | .local _ .vmem, ⟨0, _⟩ => ⟨S2048x512, .bf16⟩
  | .local _ .vmem, ⟨1, _⟩ => ⟨S2048x512, .bf16⟩
  | .local _ .vmem, ⟨2, _⟩ => ⟨S2048x1280, .bf16⟩
  | .local _ .vmem, ⟨3, _⟩ => ⟨S2048x1280, .bf16⟩
  | .local _ .vmem, ⟨4, _⟩ => ⟨S512x1280, .bf16⟩
  | .local _ .vmem, ⟨5, _⟩ => ⟨S512x1280, .bf16⟩
  | .local _ .vmem, ⟨6, _⟩ => ⟨S512x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S_, .f32⟩
  | .hbm, ⟨3, _⟩ => ⟨S1024x1280, .f32⟩
  | .hbm, ⟨4, _⟩ => ⟨S4096x1024, .f32⟩
  | .hbm, ⟨5, _⟩ => ⟨S4096x1280, .f32⟩
  | .hbm, ⟨6, _⟩ => ⟨S4096x1280, .f32⟩
  | .hbm, ⟨7, _⟩ => ⟨S1280x1024, .f32⟩
  | .hbm, ⟨8, _⟩ => ⟨S1024x1280, .f32⟩
  | .hbm, ⟨9, _⟩ => ⟨S1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S4096x4096 : Shape := ⟨2, ![4096, 4096]⟩
abbrev S256x1024 : Shape := ⟨2, ![256, 1024]⟩
abbrev S1x16x1024 : Shape := ⟨3, ![1, 16, 1024]⟩
abbrev S256x4096 : Shape := ⟨2, ![256, 4096]⟩
abbrev S2 : Shape := ⟨1, ![2]⟩
abbrev S1 : Shape := ⟨1, ![1]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 22
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4x6x1024, .f32⟩
  | .hbm, ⟨10, _⟩ => ⟨S4x6x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x16x1024, .f32⟩
  | .hbm, ⟨16, _⟩ => ⟨S1024x4096, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x4096, .bf16⟩
  | .hbm, ⟨21, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x16x1024, .f32⟩
  | .local _ .vmem, ⟨3, _⟩ => ⟨S256x1024, .f32⟩
  | .local _ .vmem, ⟨4, _⟩ => ⟨S256x1024, .f32⟩
  | .local _ .vmem, ⟨5, _⟩ => ⟨S256x4096, .bf16⟩
  | .local _ .vmem, ⟨6, _⟩ => ⟨S256x4096, .bf16⟩
  | .local _ .vmem, ⟨7, _⟩ => ⟨S256x1024, .f32⟩
  | .local _ .vmem, ⟨8, _⟩ => ⟨S256x1024, .f32⟩
  | .local _ .vmem, ⟨9, _⟩ => ⟨S4096x1024, .bf16⟩
  | .local _ .vmem, ⟨10, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x4096, .f32⟩
  | .hbm, ⟨7, _⟩ => ⟨S4096x1024, .f32⟩
  | .hbm, ⟨8, _⟩ => ⟨S1x6144, .f32⟩
  | .hbm, ⟨9, _⟩ => ⟨S6144, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel7.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S4096 : Shape := ⟨1, ![4096]⟩
abbrev S4096x1 : Shape := ⟨2, ![4096, 1]⟩
abbrev S4096x4096 : Shape := ⟨2, ![4096, 4096]⟩
abbrev S16x1024 : Shape := ⟨2, ![16, 1024]⟩
abbrev S256x1024 : Shape := ⟨2, ![256, 1024]⟩
abbrev S256x4096 : Shape := ⟨2, ![256, 4096]⟩
abbrev S1x16x1024 : Shape := ⟨3, ![1, 16, 1024]⟩
abbrev S2 : Shape := ⟨1, ![2]⟩
abbrev S1 : Shape := ⟨1, ![1]⟩
abbrev S1x1x1024 : Shape := ⟨3, ![1, 1, 1024]⟩
abbrev S256 : Shape := ⟨1, ![256]⟩
abbrev S256x1 : Shape := ⟨2, ![256, 1]⟩

abbrev nBuf : Space → Nat
  | .hbm => 77
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6144, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4x6x1024, .f32⟩
  | .hbm, ⟨11, _⟩ => ⟨S4x6x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x16x1024, .f32⟩
  | .hbm, ⟨17, _⟩ => ⟨S1024x4096, .bf16⟩
  | .hbm, ⟨18, _⟩ => ⟨S4096x1024, .bf16⟩
  | .hbm, ⟨19, _⟩ => ⟨S4096x1024, .bf16⟩
  | .hbm, ⟨20, _⟩ => ⟨S1x6144, .f32⟩
  | .hbm, ⟨21, _⟩ => ⟨S6144, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .bf16⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x4096, .bf16⟩
  | .hbm, ⟨65, _⟩ => ⟨S4096x1024, .bf16⟩
  | .hbm, ⟨66, _⟩ => ⟨S16x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S1x16x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S16x1024, .f32⟩
  | .local _ .vmem, ⟨18, _⟩ => ⟨S4096x1024, .bf16⟩
  | .local _ .vmem, ⟨19, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v46_3 : Ref sig .tc := ⟨.hbm, 65, rfl⟩
abbrev main_v46_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 170
  | .vmem => 0
  | .smem => 0
  | _ => 0

abbrev hbmTy0_0 (i : Nat) : BufTy := match i % 128 with
  | 0 => ⟨S4096x1024, .f32⟩
  | 1 => ⟨S4096x1024, .f32⟩
  | 2 => ⟨S4x6144, .f32⟩
  | 3 => ⟨S4x1024, .f32⟩
  | 4 => ⟨S4x1024, .f32⟩
  | 5 => ⟨S4x1024, .f32⟩
  | 6 => ⟨S4x1024, .f32⟩
  | 7 => ⟨S1024x4096, .f32⟩
  | 8 => ⟨S4096x1024, .f32⟩
  | 9 => ⟨S1x6144, .f32⟩
  | 10 => ⟨S6144, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1x1024, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S1x1024, .f32⟩
  | 37 => ⟨S4096x1024, .f32⟩
  | 38 => ⟨S4096x1024, .f32⟩
  | 39 => ⟨S_, .f32⟩
  | 40 => ⟨S1024, .f32⟩
  | 41 => ⟨S1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x1024, .f32⟩
  | 62 => ⟨S1x1024, .f32⟩
  | 63 => ⟨S1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S1x1024, .f32⟩
  | 82 => ⟨S4096x1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S_, .f32⟩
  | 12 => ⟨S1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1024, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .bf16⟩
  | 40 => ⟨S4096x4096, .bf16⟩
  | 41 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_22 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_cst_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩

abbrev nD : Nat := 1
abbrev τ : Topo := Topo.v7x

variable {F : FTy → Type} [FloatOps F]
-- ==== Proof.Heads.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-! # One grid point of the kernel, head by head

The body treats eight query heads with the same arithmetic, written out eight times. Here that arithmetic
is named once, as functions of the head; what the body leaves in its outputs is a term over these. -/

/-- One of eight things, by the head. -/
def pick {α : Type} (a0 a1 a2 a3 a4 a5 a6 a7 : α) : Fin 8 → α
  | 0 => a0 | 1 => a1 | 2 => a2 | 3 => a3 | 4 => a4 | 5 => a5 | 6 => a6 | 7 => a7

variable (w : BitVec 32) (x0 : Vec Ideal S8 .f32) (x1 : Vec Ideal S128x512 .bf16) (x2 x3 : Vec Ideal S128x256 .bf16)
  (x4 : Vec Ideal S128x512 .f32)

/-- The head's slope, as the body's constant. -/
def slopeW : Fin 8 → BitVec 32 :=
  pick 0x3F000000#32 0x3E800000#32 0x3E000000#32 0x3D800000#32 0x3D000000#32 0x3C800000#32 0x3C000000#32 0x3B800000#32

/-- The head's sink. -/
def sinkV (h : Fin 8) : Elt Ideal .f32 := x0 (ix1 h)

/-- Queries times keys of the head. -/
def qkV : Fin 8 → FVec Ideal S128x256 .f32 := pick
  (k0_pay8 x1 x2 x3) (k0_pay9 x1 x2 x3) (k0_pay10 x1 x2 x3) (k0_pay11 x1 x2 x3)
  (k0_pay12 x1 x2 x3) (k0_pay13 x1 x2 x3) (k0_pay14 x1 x2 x3) (k0_pay15 x1 x2 x3)

/-- The output's gradient times values of the head. -/
def dpV : Fin 8 → FVec Ideal S128x256 .f32 := pick
  (k0_pay17 (k0_pay5 x2 x3) (k0_pay16 x4) (constant S128x256 .f32 0x00000000#32))
  (k0_pay18 (k0_pay3 x4) (k0_pay5 x2 x3)) (k0_pay19 (k0_pay3 x4) (k0_pay5 x2 x3)) (k0_pay20 (k0_pay3 x4) (k0_pay5 x2 x3))
  (k0_pay21 (k0_pay3 x4) (k0_pay7 x2 x3)) (k0_pay22 (k0_pay3 x4) (k0_pay7 x2 x3)) (k0_pay23 (k0_pay3 x4) (k0_pay7 x2 x3))
  (k0_pay24 (k0_pay3 x4) (k0_pay7 x2 x3))

/-- The keys' band of the head. -/
def kbV : Fin 8 → FVec Ideal S256x64 .bf16 := pick
  (k0_pay4 x2 x3) (k0_pay4 x2 x3) (k0_pay4 x2 x3) (k0_pay4 x2 x3) (k0_pay6 x2 x3) (k0_pay6 x2 x3) (k0_pay6 x2 x3) (k0_pay6 x2 x3)

/-- The masked, biased scores of a head with slope `sl`. -/
def scV (sl : BitVec 32) (qk : FVec Ideal S128x256 .f32) : FVec Ideal S128x256 .f32 :=
  let rr : IVec S128x256 32 := iota .tc S128x256 32 [0] iota_S128x256_d0_w32
  let jj : IVec S128x256 32 := iota .tc S128x256 32 [1] iota_S128x256_d1_w32
  let df : IVec S128x256 32 := subi (addi (broadcast S128x256 128#32) rr) jj
  let inside : IVec S128x256 1 := andi (cmpi .sge df (broadcast S128x256 0#32)) (cmpi .slt df (broadcast S128x256 128#32))
  let there : IVec S128x256 1 := ori (cmpi .sge jj (broadcast S128x256 128#32)) (broadcast S128x256 (Scalar.cmpi .sgt w 0#32))
  select (andi inside there)
    (subf (mulf qk (broadcast S128x256 (Scalar.ofBits .f32 0x3E000000#32)))
      (mulf (broadcast S128x256 (Scalar.ofBits .f32 sl)) (sitofp .f32 df)))
    (broadcast S128x256 (Named.named κ "mask" 0xF149F2CA#32))

/-- The row maxima. -/
def mxV (s : FVec Ideal S128x256 .f32) : FVec Ideal S128x1 .f32 :=
  shapeCast S128x1 (multiReduction .maximumf [1] S128 s 0xFF800000#32 reduces_S128x256_S128 (.inl rfl) rfl) shapeCasts_S128_S128x1

/-- The head's masked scores. -/
def sV (h : Fin 8) : FVec Ideal S128x256 .f32 := scV w (slopeW h) (qkV x1 x2 x3 h)

/-- The gradient of one head's scores, from the gradient `dp` of its probabilities, its sink `s` and its scores. -/
def dsH (dp : FVec Ideal S128x256 .f32) (s : Elt Ideal .f32) (sc : FVec Ideal S128x256 .f32) : FVec Ideal S128x256 .bf16 :=
  k0_pay34 dp s sc (mxV sc) (k0_pay27 s)

/-- One head's probabilities. -/
def prH (s : Elt Ideal .f32) (sc : FVec Ideal S128x256 .f32) : FVec Ideal S128x256 .bf16 := k0_pay35 s sc (mxV sc) (k0_pay27 s)

/-- One head's part of the sink's gradient, on every lane. -/
def skH (dp : FVec Ideal S128x256 .f32) (s : Elt Ideal .f32) (sc : FVec Ideal S128x256 .f32) : FVec Ideal S1x128 .f32 :=
  k0_pay36 dp s sc (mxV sc) (k0_pay27 s)

/-- The gradient of the head's scores. -/
def dsV (h : Fin 8) : FVec Ideal S128x256 .bf16 := dsH (dpV x2 x3 x4 h) (sinkV x0 h) (sV w x1 x2 x3 h)

/-- The head's probabilities. -/
def prV (h : Fin 8) : FVec Ideal S128x256 .bf16 := prH (sinkV x0 h) (sV w x1 x2 x3 h)

/-- The head's part of the sink's gradient, on every lane. -/
def skV (h : Fin 8) : FVec Ideal S1x128 .f32 := skH (dpV x2 x3 x4 h) (sinkV x0 h) (sV w x1 x2 x3 h)

/-- The head's part of the queries' gradient. -/
def dqV (h : Fin 8) : FVec Ideal S128x64 .f32 := k0_pay118 (kbV x2 x3 h) (dsV w x0 x1 x2 x3 x4 h)

/-- The gradients of the keys and of the values over the whole band. -/
def bandV : FVec Ideal S256x256 .f32 :=
  let ds := dsV w x0 x1 x2 x3 x4
  let pr := prV w x0 x1 x2 x3
  k0_pay129 x1 (k0_pay3 x4) (pr 4) (ds 5) (pr 5) (ds 6) (pr 6) (ds 7) (pr 7)
    (k0_pay126 x1 (ds 0) (ds 1) (ds 2) (ds 3)) (k0_pay127 (k0_pay3 x4) (pr 0) (pr 1) (pr 2) (pr 3)) (k0_pay128 x1 (ds 4))

/-- The band's lower half with what the point before left. -/
def dkvV (prev : FVec Ideal S128x256 .f32) : FVec Ideal S128x256 .f32 :=
  addf (extractStridedSlice S128x256 ![128, 0] (bandV w x0 x1 x2 x3 x4) slices_S256x256_o128_0_S128x256) prev

/-- The band's upper half, left for the next point. -/
def carryV : FVec Ideal S128x256 .f32 :=
  shapeCast S128x256 (extractStridedSlice S128x256 ![0, 0] (bandV w x0 x1 x2 x3 x4) slices_S256x256_o0_0_S128x256)
    shapeCasts_S128x256_S128x256

/-- The sinks' gradient, on every lane. -/
def dskV : FVec Ideal S1x8x128 .f32 :=
  let sk := skV w x0 x1 x2 x3 x4
  k0_pay1 (sk 0) (sk 1) (sk 2) (sk 3) (sk 4) (sk 5) (sk 6) (sk 7)

/-- The eight heads' stores into the queries' gradient, last first. -/
def dqP (d : Fin 8 → FVec Ideal S128x64 .f32) : List (View.Piece (Elt Ideal) S128x512 .f32) :=
  [⟨Rect.unit ![0, 448] S128x64.size inb_S128x512_S128x64_0_448, d 7⟩,
   ⟨Rect.unit ![0, 384] S128x64.size inb_S128x512_S128x64_0_384, d 6⟩,
   ⟨Rect.unit ![0, 320] S128x64.size inb_S128x512_S128x64_0_320, d 5⟩,
   ⟨Rect.unit ![0, 256] S128x64.size inb_S128x512_S128x64_0_256, d 4⟩,
   ⟨Rect.unit ![0, 192] S128x64.size inb_S128x512_S128x64_0_192, d 3⟩,
   ⟨Rect.unit ![0, 128] S128x64.size inb_S128x512_S128x64_0_128, d 2⟩,
   ⟨Rect.unit ![0, 64] S128x64.size inb_S128x512_S128x64_0_64, d 1⟩,
   ⟨Rect.unit ![0, 0] S128x64.size inb_S128x512_S128x64_0_0, d 0⟩]

end Cert.KernelIdeal.Value
end
-- ==== Proof.WordsA.lean ====
module

public import proofs.«01_k».proof.Proof.Heads

@[expose] public section

set_option maxRecDepth 16384

noncomputable section

open Idealize.ShloMosaic Idealize.ShloMosaic.TcCoe Idealize.SL.Sem
open Idealize.ShloMosaic.Pipeline (Dat)

namespace Cert.KernelIdeal.Value.RunA
open Cert.KernelIdeal Cert.KernelIdeal.Gen Cert.KernelIdeal.Value

/-! # The words of the body's run in case A, as the heads' functions -/

variable (c : Dev nD) (i : grid0.Coords)
  (arg1 : Memref sig .tc .smem S8 .f32) (harg1 : arg1.IsWhole) (arg2 : Memref sig .tc .vmem S128x512 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x512 .f32) (harg5 : arg5.IsWhole) (arg6 : Memref sig .tc .vmem S128x512 .f32) (harg6 : arg6.IsWhole)
  (arg7 : Memref sig .tc .vmem S128x256 .f32) (harg7 : arg7.IsWhole) (arg8 : Memref sig .tc .vmem S1x8x128 .f32) (harg8 : arg8.IsWhole)
  (arg9 : Memref sig .tc .vmem S128x256 .f32) (harg9 : arg9.IsWhole)
  (x0 : Vec Ideal S8 .f32) (x1 : Vec Ideal S128x512 .bf16) (x2 x3 : Vec Ideal S128x256 .bf16)
  (x4 : Vec Ideal S128x512 .f32) (xs0 : Vec Ideal S128x256 .f32)

/-- Reading a whole block gives the block. -/
theorem rd2 : View.readAt (Elt Ideal) arg2.view (Rect.unit (s := S128x512) ![0, 0] S128x512.size (by decide)).toLoadRect (harg2.unread x1) = x1 := by
  rw [View.readAt_eq_ld, harg2.read_unread]; exact View.ld_unit_lit' _ _ (by decide)
theorem rd3 : View.readAt (Elt Ideal) arg3.view (Rect.unit (s := S128x256) ![0, 0] S128x256.size (by decide)).toLoadRect (harg3.unread x2) = x2 := by
  rw [View.readAt_eq_ld, harg3.read_unread]; exact View.ld_unit_lit' _ _ (by decide)
theorem rd5 : View.readAt (Elt Ideal) arg5.view (Rect.unit (s := S128x512) ![0, 0] S128x512.size (by decide)).toLoadRect (harg5.unread x4) = x4 := by
  rw [View.readAt_eq_ld, harg5.read_unread]; exact View.ld_unit_lit' _ _ (by decide)
theorem q_eq : kernelRun0_A.sl.r (F := Ideal) c arg2 harg2 x1 = x1 := rd2 arg2 harg2 x1
theorem do_eq : kernelRun0_A.sl.v8 (F := Ideal) c arg5 harg5 x4 = k0_pay3 x4 := congrArg k0_pay3 (rd5 arg5 harg5 x4)
theorem w_eq : kernelRun0_A.sl.v0 i = Scalar.subi 31#32 (BitVec.ofNat 32 (i 0).val) := rfl
theorem kb_eq0 : kernelRun0_A.sl.v11 (F := Ideal) c arg3 harg3 arg4 harg4 x2 x3 = k0_pay4 x2 x3 := congrArg₂ k0_pay4 (rd3 arg3 harg3 x2) (rd3 arg4 harg4 x3)
theorem kb_eq1 : kernelRun0_A.sl.v17 (F := Ideal) c arg3 harg3 arg4 harg4 x2 x3 = k0_pay6 x2 x3 := congrArg₂ k0_pay6 (rd3 arg3 harg3 x2) (rd3 arg4 harg4 x3)
theorem s_eq0 : kernelRun0_A.sl.r_1 (F := Ideal) c arg1 harg1 x0 = sinkV x0 0 := by
  show View.readAt (Elt Ideal) arg1.view (Rect.unit (s := S8) ![0] S1.size inb_S8_S1_0).toLoadRect (harg1.unread x0) (Shape.Idx.first (by decide)) = _
  rw [View.readAt_eq_ld, harg1.read_unread]; exact congrArg x0 (funext fun a => by fin_cases a; rfl)
theorem qk_eq0 : kernelRun0_A.sl.v22 (F := Ideal) c arg2 harg2 arg3 harg3 arg4 harg4 x1 x2 x3 = qkV x1 x2 x3 0 :=
  (congr (congrArg₂ k0_pay8 (rd2 arg2 harg2 x1) (rd3 arg3 harg3 x2)) (rd3 arg4 harg4 x3) :)
theorem dp_eq0 : kernelRun0_A.sl.r_2 (F := Ideal) c arg3 harg3 arg4 harg4 arg5 harg5 x2 x3 x4 = dpV x2 x3 x4 0 :=
  (congrArg₂ (fun a b => k0_pay17 a b (constant S128x256 .f32 0x00000000#32)) (congrArg₂ k0_pay5 (rd3 arg3 harg3 x2) (rd3 arg4 harg4 x3)) (congrArg k0_pay16 (rd5 arg5 harg5 x4)) :)
theorem ds_eq0 : kernelRun0_A.sl.v104 (F := Ideal) c i arg1 harg1 arg2 harg2 arg3 harg3 arg4 harg4 arg5 harg5 x0 x1 x2 x3 x4 = dsV (Scalar.subi 31#32 (BitVec.ofNat 32 (i 0).val)) x0 x1 x2 x3 x4 0 := by
  have e : kernelRun0_A.sl.v104 (F := Ideal) c i arg1 harg1 arg2 harg2 arg3 harg3 arg4 harg4 arg5 harg5 x0 x1 x2 x3 x4 = dsH (kernelRun0_A.sl.r_2 c arg3 harg3 arg4 harg4 arg5 harg5 x2 x3 x4) (kernelRun0_A.sl.r_1 c arg1 harg1 x0) (scV (kernelRun0_A.sl.v0 i) (slopeW 0) (kernelRun0_A.sl.v22 c arg2 harg2 arg3 harg3 arg4 harg4 x1 x2 x3)) := rfl
  rw [e, dp_eq0, s_eq0, qk_eq0]; rfl
theorem pr_eq0 : kernelRun0_A.sl.v105 (F := Ideal) c i arg1 harg1 arg2 harg2 arg3 harg3 arg4 harg4 x0 x1 x2 x3 = prV (Scalar.subi 31#32 (BitVec.ofNat 32 (i 0).val)) x0 x1 x2 x3 0 := by
  have e : kernelRun0_A.sl.v105 (F := Ideal) c i arg1 harg1 arg2 harg2 arg3 harg3 arg4 harg4 x0 x1 x2 x3 = prH (kernelRun0_A.sl.r_1 c arg1 harg1 x0) (scV (kernelRun0_A.sl.v0 i) (slopeW 0) (kernelRun0_A.sl.v22 c arg2 harg2 arg3 harg3 arg4 harg4 x1 x2 x3)) := rfl
  rw [e, s_eq0, qk_eq0]; rfl
theorem sk_eq0 : kernelRun0_A.sl.v112 (F := Ideal) c i arg1 harg1 arg2 harg2 arg3 harg3 arg4 harg4 arg5 harg5 x0 x1 x2 x3 x4 = skV (Scalar.subi 31#32 (BitVec.ofNat 32 (i 0).val)) x0 x1 x2 x3 x4 0 := by
  have e : kernelRun0_A.sl.v112 (F := Ideal) c i arg1 harg1 arg2 harg2 arg3 harg3 arg4 harg4 arg5 harg5 x0 x1 x2 x3 x4 = skH (kernelRun0_A.sl.r_2 c arg3 harg3 arg4 harg4 arg5 harg5 x2 x3 x4) (kernelRun0_A.sl.r_1 c arg1 harg1 x0) (scV (kernelRun0_A.sl.v0 i) (slopeW 0) (kernelRun0_A.sl.v22 c arg2 harg2 arg3 harg3 arg4 harg4 x1 x2 x3)) := rfl
  rw [e, dp_eq0, s_eq0, qk_eq0]; rfl
theorem s_eq1 : kernelRun0_A.sl.r_13 (F := Ideal) c arg1 harg1 x0 = sinkV x0 1 := by
  show View.readAt (Elt Ideal) arg1.view (Rect.unit (s := S8) ![1] S1.size inb_S8_S1_1).toLoadRect (harg1.unread x0) (Shape.Idx.first (by decide)) = _
  rw [View.readAt_eq_ld, harg1.read_unread]; exact congrArg x0 (funext fun a => by fin_cases a; rfl)
theorem qk_eq1 : kernelRun0_A.sl.v24 (F := Ideal) c arg2 harg2 arg3 harg3 arg4 harg4 x1 x2 x3 = qkV x1 x2 x3 1 :=
  (congr (congrArg₂ k0_pay9 (rd2 arg2 harg2 x1) (rd3 arg3 harg3 x2)) (rd3 arg4 harg4 x3) :)
theorem dp_eq1 : kernelRun0_A.sl.r_3 (F := Ideal) c arg3 harg3 arg4 harg4 arg5 harg5 x2 x3 x4 = dpV x2 x3 x4 1 :=
  (congrArg₂ k0_pay18 (congrArg k0_pay3 (rd5 arg5 harg5 x4)) (congrArg₂ k0_pay5 (rd3 arg3 harg3 x2) (rd3 arg4 harg4 x3)) :)
theorem ds_eq1 : kernelRun0_A.sl.r_15 (F := Ideal) c i arg1 harg1 arg2 harg2 arg3 harg3 arg4 harg4 arg5 harg5 x0 x1 x2 x3 x4 = dsV (Scalar.subi 31#32 (BitVec.ofNat 32 (i 0).val)) x0 x1 x2 x3 x4 1 := by
  have e : kernelRun0_A.sl.r_15 (F := Ideal) c i arg1 harg1 arg2 harg2 arg3 harg3 arg4 harg4 arg5 harg5 x0 x1 x2 x3 x4 = dsH (kernelRun0_A.sl.r_3 c arg3 harg3 arg4 harg4 arg5 harg5 x2 x3 x4) (kernelRun0_A.sl.r_13 c arg1 harg1 x0) (scV (kernelRun0_A.sl.v0 i) (slopeW 1) (kernelRun0_A.sl.v24 c arg2 harg2 arg3 harg3 arg4 harg4 x1 x2 x3)) := rfl
  rw [e, dp_eq1, s_eq1, qk_eq1]; rfl
theorem pr_eq1 : kernelRun0_A.sl.r_16 (F := Ideal) c i arg1 harg1 arg2 harg2 arg3 harg3 arg4 harg4 x0 x1 x2 x3 = prV (Scalar.subi 31#32 (BitVec.ofNat 32 (i 0).val)) x0 x1 x2 x3 1 := by
  have e : kernelRun0_A.sl.r_16 (F := Ideal) c i arg1 harg1 arg2 harg2 arg3 harg3 arg4 harg4 x0 x1 x2 x3 = prH (kernelRun0_A.sl.r_13 c arg1 harg1 x0) (scV (kernelRun0_A.sl.v0 i) (slopeW 1) (kernelRun0_A.sl.v24 c arg2 harg2 arg3 harg3 arg4 harg4 x1 x2 x3)) := rfl
  rw [e, s_eq1, qk_eq1]; rfl
theorem sk_eq1 : kernelRun0_A.sl.r_17 (F := Ideal) c i arg1 harg1 arg2 harg2 arg3 harg3 arg4 harg4 arg5 harg5 x0 x1 x2 x3 x4 = skV (Scalar.subi 31#32 (BitVec.ofNat 32 (i 0).val)) x0 x1 x2 x3 x4 1 := by
  have e : kernelRun0_A.sl.r_17 (F := Ideal) c i arg1 harg1 arg2 harg2 arg3 harg3 arg4 harg4 arg5 harg5 x0 x1 x2 x3 x4 = skH (kernelRun0_A.sl.r_3 c arg3 harg3 arg4 harg4 arg5 harg5 x2 x3 x4) (kernelRun0_A.sl.r_13 c arg1 harg1 x0) (scV (kernelRun0_A.sl.v0 i) (slopeW 1) (kernelRun0_A.sl.v24 c arg2 harg2 arg3 harg3 arg4 harg4 x1 x2 x3)) := rfl
  rw [e, dp_eq1, s_eq1, qk_eq1]; rfl
theorem s_eq2 : kernelRun0_A.sl.r_14 (F := Ideal) c arg1 harg1 x0 = sinkV x0 2 := by
  show View.readAt (Elt Ideal) arg1.view (Rect.unit (s := S8) ![2] S1.size inb_S8_S1_2).toLoadRect (harg1.unread x0) (Shape.Idx.first (by decide)) = _
  rw [View.readAt_eq_ld, harg1.read_unread]; exact congrArg x0 (funext fun a => by fin_cases a; rfl)
theorem qk_eq2 : kernelRun0_A.sl.v26 (F := Ideal) c arg2 harg2 arg3 harg3 arg4 harg4 x1 x2 x3 = qkV x1 x2 x3 2 :=
  (congr (congrArg₂ k0_pay10 (rd2 arg2 harg2 x1) (rd3 arg3 harg3 x2)) (rd3 arg4 harg4 x3) :)
theorem dp_eq2 : kernelRun0_A.sl.r_4 (F := Ideal) c arg3 harg3 arg4 harg4 arg5 harg5 x2 x3 x4 = dpV x2 x3 x4 2 :=
  (congrArg₂ k0_pay19 (congrArg k0_pay3 (rd5 arg5 harg5 x4)) (congrArg₂ k0_pay5 (rd3 arg3 harg3 x2) (rd3 arg4 harg4 x3)) :)
theorem ds_eq2 : kernelRun0_A.sl.r_21 (F := Ideal) c i arg1 harg1 arg2 harg2 arg3 harg3 arg4 harg4 arg5 harg5 x0 x1 x2 x3 x4 = dsV (Scalar.subi 31#32 (BitVec.ofNat 32 (i 0).val)) x0 x1 x2 x3 x4 2 := by
  have e : kernelRun0_A.sl.r_21 (F := Ideal) c i arg1 harg1 arg2 harg2 arg3 harg3 arg4 harg4 arg5 harg5 x0 x1 x2 x3 x4 = dsH (kernelRun0_A.sl.r_4 c arg3 harg3 arg4 harg4 arg5 harg5 x2 x3 x4) (kernelRun0_A.sl.r_14 c arg1 harg1 x0) (scV (kernelRun0_A.sl.v0 i) (slopeW 2) (kernelRun0_A.sl.v26 c arg2 harg2 arg3 harg3 arg4 harg4 x1 x2 x3)) := rfl
  rw [e, dp_eq2, s_eq2, qk_eq2]; rfl
theorem pr_eq2 : kernelRun0_A.sl.r_23 (F := Ideal) c i arg1 harg1 arg2 harg2 arg3 harg3 arg4 harg4 x0 x1 x2 x3 = prV (Scalar.subi 31#32 (BitVec.ofNat 32 (i 0).val)) x0 x1 x2 x3 2 := by
  have e : kernelRun0_A.sl.r_23 (F := Ideal) c i arg1 harg1 arg2 harg2 arg3 harg3 arg4 harg4 x0 x1 x2 x3 = prH (kernelRun0_A.sl.r_14 c arg1 harg1 x0) (scV (kernelRun0_A.sl.v0 i) (slopeW 2) (kernelRun0_A.sl.v26 c arg2 harg2 arg3 harg3 arg4 harg4 x1 x2 x3)) := rfl
  rw [e, s_eq2, qk_eq2]; rfl
theorem sk_eq2 : kernelRun0_A.sl.r_24 (F := Ideal) c i arg1 harg1 arg2 harg2 arg3 harg3 arg4 harg4 arg5 harg5 x0 x1 x2 x3 x4 = skV (Scalar.subi 31#32 (BitVec.ofNat 32 (i 0).val)) x0 x1 x2 x3 x4 2 := by
  have e : kernelRun0_A.sl.r_24 (F := Ideal) c i arg1 harg1 arg2 harg2 arg3 harg3 arg4 harg4 arg5 harg5 x0 x1 x2 x3 x4 = skH (kernelRun0_A.sl.r_4 c arg3 harg3 arg4 harg4 arg5 harg5 x2 x3 x4) (kernelRun0_A.sl.r_14 c arg1 harg1 x0) (scV (kernelRun0_A.sl.v0 i) (slopeW 2) (kernelRun0_A.sl.v26 c arg2 harg2 arg3 harg3 arg4 harg4 x1 x2 x3)) := rfl
  rw [e, dp_eq2, s_eq2, qk_eq2]; rfl
theorem s_eq3 : kernelRun0_A.sl.r_22 (F := Ideal) c arg1 harg1 x0 = sinkV x0 3 := by
  show View.readAt (Elt Ideal) arg1.view (Rect.unit (s := S8) ![3] S1.size inb_S8_S1_3).toLoadRect (harg1.unread x0) (Shape.Idx.first (by decide)) = _
  rw [View.readAt_eq_ld, harg1.read_unread]; exact congrArg x0 (funext fun a => by fin_cases a; rfl)
theorem qk_eq3 : kernelRun0_A.sl.v28 (F := Ideal) c arg2 harg2 arg3 harg3 arg4 harg4 x1 x2 x3 = qkV x1 x2 x3 3 :=
  (congr (congrArg₂ k0_pay11 (rd2 arg2 harg2 x1) (rd3 arg3 harg3 x2)) (rd3 arg4 harg4 x3) :)
theorem dp_eq3 : kernelRun0_A.sl.r_5 (F := Ideal) c arg3 harg3 arg4 harg4 arg5 harg5 x2 x3 x4 = dpV x2 x3 x4 3 :=
  (congrArg₂ k0_pay20 (congrArg k0_pay3 (rd5 arg5 harg5 x4)) (congrArg₂ k0_pay5 (rd3 arg3 harg3 x2) (rd3 arg4 harg4 x3)) :)
theorem ds_eq3 : kernelRun0_A.sl.r_29 (F := Ideal) c i arg1 harg1 arg2 harg2 arg3 harg3 arg4 harg4 arg5 harg5 x0 x1 x2 x3 x4 = dsV (Scalar.subi 31#32 (BitVec.ofNat 32 (i 0).val)) x0 x1 x2 x3 x4 3 := by
  have e : kernelRun0_A.sl.r_29 (F := Ideal) c i arg1 harg1 arg2 harg2 arg3 harg3 arg4 harg4 arg5 harg5 x0 x1 x2 x3 x4 = dsH (kernelRun0_A.sl.r_5 c arg3 harg3 arg4 harg4 arg5 harg5 x2 x3 x4) (kernelRun0_A.sl.r_22 c arg1 harg1 x0) (scV (kernelRun0_A.sl.v0 i) (slopeW 3) (kernelRun0_A.sl.v28 c arg2 harg2 arg3 harg3 arg4 harg4 x1 x2 x3)) := rfl
  rw [e, dp_eq3, s_eq3, qk_eq3]; rfl
theorem pr_eq3 : kernelRun0_A.sl.r_30 (F := Ideal) c i arg1 harg1 arg2 harg2 arg3 harg3 arg4 harg4 x0 x1 x2 x3 = prV (Scalar.subi 31#32 (BitVec.ofNat 32 (i 0).val)) x0 x1 x2 x3 3 := by
  have e : kernelRun0_A.sl.r_30 (F := Ideal) c i arg1 harg1 arg2 harg2 arg3 harg3 arg4 harg4 x0 x1 x2 x3 = prH (kernelRun0_A.sl.r_22 c arg1 harg1 x0) (scV (kernelRun0_A.sl.v0 i) (slopeW 3) (kernelRun0_A.sl.v28 c arg2 harg2 arg3 harg3 arg4 harg4 x1 x2 x3)) := rfl
  rw [e, s_eq3, qk_eq3]; rfl
theorem sk_eq3 : kernelRun0_A.sl.r_31 (F := Ideal) c i arg1 harg1 arg2 harg2 arg3 harg3 arg4 harg4 arg5 harg5 x0 x1 x2 x3 x4 = skV (Scalar.subi 31#32 (BitVec.ofNat 32 (i 0).val)) x0 x1 x2 x3 x4 3 := by
  have e : kernelRun0_A.sl.r_31 (F := Ideal) c i arg1 harg1 arg2 harg2 arg3 harg3 arg4 harg4 arg5 harg5 x0 x1 x2 x3 x4 = skH (kernelRun0_A.sl.r_5 c arg3 harg3 arg4 harg4 arg5 harg5 x2 x3 x4) (kernelRun0_A.sl.r_22 c arg1 harg1 x0) (scV (kernelRun0_A.sl.v0 i) (slopeW 3) (kernelRun0_A.sl.v28 c arg2 harg2 arg3 harg3 arg4 harg4 x1 x2 x3)) := rfl
  rw [e, dp_eq3, s_eq3, qk_eq3]; rfl
theorem s_eq4 : kernelRun0_A.sl.r_28 (F := Ideal) c arg1 harg1 x0 = sinkV x0 4 := by
  show View.readAt (Elt Ideal) arg1.view (Rect.unit (s := S8) ![4] S1.size inb_S8_S1_4).toLoadRect (harg1.unread x0) (Shape.Idx.first (by decide)) = _
  rw [View.readAt_eq_ld, harg1.read_unread]; exact congrArg x0 (funext fun a => by fin_cases a; rfl)
theorem qk_eq4 : kernelRun0_A.sl.v30 (F := Ideal) c arg2 harg2 arg3 harg3 arg4 harg4 x1 x2 x3 = qkV x1 x2 x3 4 :=
  (congr (congrArg₂ k0_pay12 (rd2 arg2 harg2 x1) (rd3 arg3 harg3 x2)) (rd3 arg4 harg4 x3) :)
theorem dp_eq4 : kernelRun0_A.sl.r_6 (F := Ideal) c arg3 harg3 arg4 harg4 arg5 harg5 x2 x3 x4 = dpV x2 x3 x4 4 :=
  (congrArg₂ k0_pay21 (congrArg k0_pay3 (rd5 arg5 harg5 x4)) (congrArg₂ k0_pay7 (rd3 arg3 harg3 x2) (rd3 arg4 harg4 x3)) :)
theorem ds_eq4 : kernelRun0_A.sl.v344 (F := Ideal) c i arg1 harg1 arg2 harg2 arg3 harg3 arg4 harg4 arg5 harg5 x0 x1 x2 x3 x4 = dsV (Scalar.subi 31#32 (BitVec.ofNat 32 (i 0).val)) x0 x1 x2 x3 x4 4 := by
  have e : kernelRun0_A.sl.v344 (F := Ideal) c i arg1 harg1 arg2 harg2 arg3 harg3 arg4 harg4 arg5 harg5 x0 x1 x2 x3 x4 = dsH (kernelRun0_A.sl.r_6 c arg3 harg3 arg4 harg4 arg5 harg5 x2 x3 x4) (kernelRun0_A.sl.r_28 c arg1 harg1 x0) (scV (kernelRun0_A.sl.v0 i) (slopeW 4) (kernelRun0_A.sl.v30 c arg2 harg2 arg3 harg3 arg4 harg4 x1 x2 x3)) := rfl
  rw [e, dp_eq4, s_eq4, qk_eq4]; rfl
theorem pr_eq4 : kernelRun0_A.sl.v345 (F := Ideal) c i arg1 harg1 arg2 harg2 arg3 harg3 arg4 harg4 x0 x1 x2 x3 = prV (Scalar.subi 31#32 (BitVec.ofNat 32 (i 0).val)) x0 x1 x2 x3 4 := by
  have e : kernelRun0_A.sl.v345 (F := Ideal) c i arg1 harg1 arg2 harg2 arg3 harg3 arg4 harg4 x0 x1 x2 x3 = prH (kernelRun0_A.sl.r_28 c arg1 harg1 x0) (scV (kernelRun0_A.sl.v0 i) (slopeW 4) (kernelRun0_A.sl.v30 c arg2 harg2 arg3 harg3 arg4 harg4 x1 x2 x3)) := rfl
  rw [e, s_eq4, qk_eq4]; rfl
theorem sk_eq4 : kernelRun0_A.sl.v352 (F := Ideal) c i arg1 harg1 arg2 harg2 arg3 harg3 arg4 harg4 arg5 harg5 x0 x1 x2 x3 x4 = skV (Scalar.subi 31#32 (BitVec.ofNat 32 (i 0).val)) x0 x1 x2 x3 x4 4 := by
  have e : kernelRun0_A.sl.v352 (F := Ideal) c i arg1 harg1 arg2 harg2 arg3 harg3 arg4 harg4 arg5 harg5 x0 x1 x2 x3 x4 = skH (kernelRun0_A.sl.r_6 c arg3 harg3 arg4 harg4 arg5 harg5 x2 x3 x4) (kernelRun0_A.sl.r_28 c arg1 harg1 x0) (scV (kernelRun0_A.sl.v0 i) (slopeW 4) (kernelRun0_A.sl.v30 c arg2 harg2 arg3 harg3 arg4 harg4 x1 x2 x3)) := rfl
  rw [e, dp_eq4, s_eq4, qk_eq4]; rfl
theorem s_eq5 : kernelRun0_A.sl.r_33 (F := Ideal) c arg1 harg1 x0 = sinkV x0 5 := by
  show View.readAt (Elt Ideal) arg1.view (Rect.unit (s := S8) ![5] S1.size inb_S8_S1_5).toLoadRect (harg1.unread x0) (Shape.Idx.first (by decide)) = _
  rw [View.readAt_eq_ld, harg1.read_unread]; exact congrArg x0 (funext fun a => by fin_cases a; rfl)
theorem qk_eq5 : kernelRun0_A.sl.v32 (F := Ideal) c arg2 harg2 arg3 harg3 arg4 harg4 x1 x2 x3 = qkV x1 x2 x3 5 :=
  (congr (congrArg₂ k0_pay13 (rd2 arg2 harg2 x1) (rd3 arg3 harg3 x2)) (rd3 arg4 harg4 x3) :)
theorem dp_eq5 : kernelRun0_A.sl.r_7 (F := Ideal) c arg3 harg3 arg4 harg4 arg5 harg5 x2 x3 x4 = dpV x2 x3 x4 5 :=
  (congrArg₂ k0_pay22 (congrArg k0_pay3 (rd5 arg5 harg5 x4)) (congrArg₂ k0_pay7 (rd3 arg3 harg3 x2) (rd3 arg4 harg4 x3)) :)
theorem ds_eq5 : kernelRun0_A.sl.r_35 (F := Ideal) c i arg1 harg1 arg2 harg2 arg3 harg3 arg4 harg4 arg5 harg5 x0 x1 x2 x3 x4 = dsV (Scalar.subi 31#32 (BitVec.ofNat 32 (i 0).val)) x0 x1 x2 x3 x4 5 := by
  have e : kernelRun0_A.sl.r_35 (F := Ideal) c i arg1 harg1 arg2 harg2 arg3 harg3 arg4 harg4 arg5 harg5 x0 x1 x2 x3 x4 = dsH (kernelRun0_A.sl.r_7 c arg3 harg3 arg4 harg4 arg5 harg5 x2 x3 x4) (kernelRun0_A.sl.r_33 c arg1 harg1 x0) (scV (kernelRun0_A.sl.v0 i) (slopeW 5) (kernelRun0_A.sl.v32 c arg2 harg2 arg3 harg3 arg4 harg4 x1 x2 x3)) := rfl
  rw [e, dp_eq5, s_eq5, qk_eq5]; rfl
theorem pr_eq5 : kernelRun0_A.sl.r_36 (F := Ideal) c i arg1 harg1 arg2 harg2 arg3 harg3 arg4 harg4 x0 x1 x2 x3 = prV (Scalar.subi 31#32 (BitVec.ofNat 32 (i 0).val)) x0 x1 x2 x3 5 := by
  have e : kernelRun0_A.sl.r_36 (F := Ideal) c i arg1 harg1 arg2 harg2 arg3 harg3 arg4 harg4 x0 x1 x2 x3 = prH (kernelRun0_A.sl.r_33 c arg1 harg1 x0) (scV (kernelRun0_A.sl.v0 i) (slopeW 5) (kernelRun0_A.sl.v32 c arg2 harg2 arg3 harg3 arg4 harg4 x1 x2 x3)) := rfl
  rw [e, s_eq5, qk_eq5]; rfl
theorem sk_eq5 : kernelRun0_A.sl.r_37 (F := Ideal) c i arg1 harg1 arg2 harg2 arg3 harg3 arg4 harg4 arg5 harg5 x0 x1 x2 x3 x4 = skV (Scalar.subi 31#32 (BitVec.ofNat 32 (i 0).val)) x0 x1 x2 x3 x4 5 := by
  have e : kernelRun0_A.sl.r_37 (F := Ideal) c i arg1 harg1 arg2 harg2 arg3 harg3 arg4 harg4 arg5 harg5 x0 x1 x2 x3 x4 = skH (kernelRun0_A.sl.r_7 c arg3 harg3 arg4 harg4 arg5 harg5 x2 x3 x4) (kernelRun0_A.sl.r_33 c arg1 harg1 x0) (scV (kernelRun0_A.sl.v0 i) (slopeW 5) (kernelRun0_A.sl.v32 c arg2 harg2 arg3 harg3 arg4 harg4 x1 x2 x3)) := rfl
  rw [e, dp_eq5, s_eq5, qk_eq5]; rfl
theorem s_eq6 : kernelRun0_A.sl.r_34 (F := Ideal) c arg1 harg1 x0 = sinkV x0 6 := by
  show View.readAt (Elt Ideal) arg1.view (Rect.unit (s := S8) ![6] S1.size inb_S8_S1_6).toLoadRect (harg1.unread x0) (Shape.Idx.first (by decide)) = _
  rw [View.readAt_eq_ld, harg1.read_unread]; exact congrArg x0 (funext fun a => by fin_cases a; rfl)
theorem qk_eq6 : kernelRun0_A.sl.v34 (F := Ideal) c arg2 harg2 arg3 harg3 arg4 harg4 x1 x2 x3 = qkV x1 x2 x3 6 :=
  (congr (congrArg₂ k0_pay14 (rd2 arg2 harg2 x1) (rd3 arg3 harg3 x2)) (rd3 arg4 harg4 x3) :)
theorem dp_eq6 : kernelRun0_A.sl.r_8 (F := Ideal) c arg3 harg3 arg4 harg4 arg5 harg5 x2 x3 x4 = dpV x2 x3 x4 6 :=
  (congrArg₂ k0_pay23 (congrArg k0_pay3 (rd5 arg5 harg5 x4)) (congrArg₂ k0_pay7 (rd3 arg3 harg3 x2) (rd3 arg4 harg4 x3)) :)
theorem ds_eq6 : kernelRun0_A.sl.r_43 (F := Ideal) c i arg1 harg1 arg2 harg2 arg3 harg3 arg4 harg4 arg5 harg5 x0 x1 x2 x3 x4 = dsV (Scalar.subi 31#32 (BitVec.ofNat 32 (i 0).val)) x0 x1 x2 x3 x4 6 := by
  have e : kernelRun0_A.sl.r_43 (F := Ideal) c i arg1 harg1 arg2 harg2 arg3 harg3 arg4 harg4 arg5 harg5 x0 x1 x2 x3 x4 = dsH (kernelRun0_A.sl.r_8 c arg3 harg3 arg4 harg4 arg5 harg5 x2 x3 x4) (kernelRun0_A.sl.r_34 c arg1 harg1 x0) (scV (kernelRun0_A.sl.v0 i) (slopeW 6) (kernelRun0_A.sl.v34 c arg2 harg2 arg3 harg3 arg4 harg4 x1 x2 x3)) := rfl
  rw [e, dp_eq6, s_eq6, qk_eq6]; rfl
theorem pr_eq6 : kernelRun0_A.sl.r_44 (F := Ideal) c i arg1 harg1 arg2 harg2 arg3 harg3 arg4 harg4 x0 x1 x2 x3 = prV (Scalar.subi 31#32 (BitVec.ofNat 32 (i 0).val)) x0 x1 x2 x3 6 := by
  have e : kernelRun0_A.sl.r_44 (F := Ideal) c i arg1 harg1 arg2 harg2 arg3 harg3 arg4 harg4 x0 x1 x2 x3 = prH (kernelRun0_A.sl.r_34 c arg1 harg1 x0) (scV (kernelRun0_A.sl.v0 i) (slopeW 6) (kernelRun0_A.sl.v34 c arg2 harg2 arg3 harg3 arg4 harg4 x1 x2 x3)) := rfl
  rw [e, s_eq6, qk_eq6]; rfl
theorem sk_eq6 : kernelRun0_A.sl.r_45 (F := Ideal) c i arg1 harg1 arg2 harg2 arg3 harg3 arg4 harg4 arg5 harg5 x0 x1 x2 x3 x4 = skV (Scalar.subi 31#32 (BitVec.ofNat 32 (i 0).val)) x0 x1 x2 x3 x4 6 := by
  have e : kernelRun0_A.sl.r_45 (F := Ideal) c i arg1 harg1 arg2 harg2 arg3 harg3 arg4 harg4 arg5 harg5 x0 x1 x2 x3 x4 = skH (kernelRun0_A.sl.r_8 c arg3 harg3 arg4 harg4 arg5 harg5 x2 x3 x4) (kernelRun0_A.sl.r_34 c arg1 harg1 x0) (scV (kernelRun0_A.sl.v0 i) (slopeW 6) (kernelRun0_A.sl.v34 c arg2 harg2 arg3 harg3 arg4 harg4 x1 x2 x3)) := rfl
  rw [e, dp_eq6, s_eq6, qk_eq6]; rfl
theorem s_eq7 : kernelRun0_A.sl.r_42 (F := Ideal) c arg1 harg1 x0 = sinkV x0 7 := by
  show View.readAt (Elt Ideal) arg1.view (Rect.unit (s := S8) ![7] S1.size inb_S8_S1_7).toLoadRect (harg1.unread x0) (Shape.Idx.first (by decide)) = _
  rw [View.readAt_eq_ld, harg1.read_unread]; exact congrArg x0 (funext fun a => by fin_cases a; rfl)
theorem qk_eq7 : kernelRun0_A.sl.v36 (F := Ideal) c arg2 harg2 arg3 harg3 arg4 harg4 x1 x2 x3 = qkV x1 x2 x3 7 :=
  (congr (congrArg₂ k0_pay15 (rd2 arg2 harg2 x1) (rd3 arg3 harg3 x2)) (rd3 arg4 harg4 x3) :)
theorem dp_eq7 : kernelRun0_A.sl.r_9 (F := Ideal) c arg3 harg3 arg4 harg4 arg5 harg5 x2 x3 x4 = dpV x2 x3 x4 7 :=
  (congrArg₂ k0_pay24 (congrArg k0_pay3 (rd5 arg5 harg5 x4)) (congrArg₂ k0_pay7 (rd3 arg3 harg3 x2) (rd3 arg4 harg4 x3)) :)
theorem ds_eq7 : kernelRun0_A.sl.v524 (F := Ideal) c i arg1 harg1 arg2 harg2 arg3 harg3 arg4 harg4 arg5 harg5 x0 x1 x2 x3 x4 = dsV (Scalar.subi 31#32 (BitVec.ofNat 32 (i 0).val)) x0 x1 x2 x3 x4 7 := by
  have e : kernelRun0_A.sl.v524 (F := Ideal) c i arg1 harg1 arg2 harg2 arg3 harg3 arg4 harg4 arg5 harg5 x0 x1 x2 x3 x4 = dsH (kernelRun0_A.sl.r_9 c arg3 harg3 arg4 harg4 arg5 harg5 x2 x3 x4) (kernelRun0_A.sl.r_42 c arg1 harg1 x0) (scV (kernelRun0_A.sl.v0 i) (slopeW 7) (kernelRun0_A.sl.v36 c arg2 harg2 arg3 harg3 arg4 harg4 x1 x2 x3)) := rfl
  rw [e, dp_eq7, s_eq7, qk_eq7]; rfl
theorem pr_eq7 : kernelRun0_A.sl.v525 (F := Ideal) c i arg1 harg1 arg2 harg2 arg3 harg3 arg4 harg4 x0 x1 x2 x3 = prV (Scalar.subi 31#32 (BitVec.ofNat 32 (i 0).val)) x0 x1 x2 x3 7 := by
  have e : kernelRun0_A.sl.v525 (F := Ideal) c i arg1 harg1 arg2 harg2 arg3 harg3 arg4 harg4 x0 x1 x2 x3 = prH (kernelRun0_A.sl.r_42 c arg1 harg1 x0) (scV (kernelRun0_A.sl.v0 i) (slopeW 7) (kernelRun0_A.sl.v36 c arg2 harg2 arg3 harg3 arg4 harg4 x1 x2 x3)) := rfl
  rw [e, s_eq7, qk_eq7]; rfl
theorem sk_eq7 : kernelRun0_A.sl.v532 (F := Ideal) c i arg1 harg1 arg2 harg2 arg3 harg3 arg4 harg4 arg5 harg5 x0 x1 x2 x3 x4 = skV (Scalar.subi 31#32 (BitVec.ofNat 32 (i 0).val)) x0 x1 x2 x3 x4 7 := by
  have e : kernelRun0_A.sl.v532 (F := Ideal) c i arg1 harg1 arg2 harg2 arg3 harg3 arg4 harg4 arg5 harg5 x0 x1 x2 x3 x4 = skH (kernelRun0_A.sl.r_9 c arg3 harg3 arg4 harg4 arg5 harg5 x2 x3 x4) (kernelRun0_A.sl.r_42 c arg1 harg1 x0) (scV (kernelRun0_A.sl.v0 i) (slopeW 7) (kernelRun0_A.sl.v36 c arg2 harg2 arg3 harg3 arg4 harg4 x1 x2 x3)) := rfl
  rw [e, dp_eq7, s_eq7, qk_eq7]; rfl
theorem dq_eq0 : kernelRun0_A.sl.v533 (F := Ideal) c i arg1 harg1 arg2 harg2 arg3 harg3 arg4 harg4 arg5 harg5 x0 x1 x2 x3 x4 = dqV (Scalar.subi 31#32 (BitVec.ofNat 32 (i 0).val)) x0 x1 x2 x3 x4 0 := by
  have e : kernelRun0_A.sl.v533 (F := Ideal) c i arg1 harg1 arg2 harg2 arg3 harg3 arg4 harg4 arg5 harg5 x0 x1 x2 x3 x4 = k0_pay118 (kernelRun0_A.sl.v11 c arg3 harg3 arg4 harg4 x2 x3) (kernelRun0_A.sl.v104 c i arg1 harg1 arg2 harg2 arg3 harg3 arg4 harg4 arg5 harg5 x0 x1 x2 x3 x4) := rfl
  rw [e, kb_eq0, ds_eq0]; rfl
theorem dq_eq1 : kernelRun0_A.sl.v535 (F := Ideal) c i arg1 harg1 arg2 harg2 arg3 harg3 arg4 harg4 arg5 harg5 x0 x1 x2 x3 x4 = dqV (Scalar.subi 31#32 (BitVec.ofNat 32 (i 0).val)) x0 x1 x2 x3 x4 1 := by
  have e : kernelRun0_A.sl.v535 (F := Ideal) c i arg1 harg1 arg2 harg2 arg3 harg3 arg4 harg4 arg5 harg5 x0 x1 x2 x3 x4 = k0_pay118 (kernelRun0_A.sl.v11 c arg3 harg3 arg4 harg4 x2 x3) (kernelRun0_A.sl.r_15 c i arg1 harg1 arg2 harg2 arg3 harg3 arg4 harg4 arg5 harg5 x0 x1 x2 x3 x4) := rfl
  rw [e, kb_eq0, ds_eq1]; rfl
theorem dq_eq2 : kernelRun0_A.sl.v537 (F := Ideal) c i arg1 harg1 arg2 harg2 arg3 harg3 arg4 harg4 arg5 harg5 x0 x1 x2 x3 x4 = dqV (Scalar.subi 31#32 (BitVec.ofNat 32 (i 0).val)) x0 x1 x2 x3 x4 2 := by
  have e : kernelRun0_A.sl.v537 (F := Ideal) c i arg1 harg1 arg2 harg2 arg3 harg3 arg4 harg4 arg5 harg5 x0 x1 x2 x3 x4 = k0_pay118 (kernelRun0_A.sl.v11 c arg3 harg3 arg4 harg4 x2 x3) (kernelRun0_A.sl.r_21 c i arg1 harg1 arg2 harg2 arg3 harg3 arg4 harg4 arg5 harg5 x0 x1 x2 x3 x4) := rfl
  rw [e, kb_eq0, ds_eq2]; rfl
theorem dq_eq3 : kernelRun0_A.sl.v539 (F := Ideal) c i arg1 harg1 arg2 harg2 arg3 harg3 arg4 harg4 arg5 harg5 x0 x1 x2 x3 x4 = dqV (Scalar.subi 31#32 (BitVec.ofNat 32 (i 0).val)) x0 x1 x2 x3 x4 3 := by
  have e : kernelRun0_A.sl.v539 (F := Ideal) c i arg1 harg1 arg2 harg2 arg3 harg3 arg4 harg4 arg5 harg5 x0 x1 x2 x3 x4 = k0_pay118 (kernelRun0_A.sl.v11 c arg3 harg3 arg4 harg4 x2 x3) (kernelRun0_A.sl.r_29 c i arg1 harg1 arg2 harg2 arg3 harg3 arg4 harg4 arg5 harg5 x0 x1 x2 x3 x4) := rfl
  rw [e, kb_eq0, ds_eq3]; rfl
theorem dq_eq4 : kernelRun0_A.sl.v541 (F := Ideal) c i arg1 harg1 arg2 harg2 arg3 harg3 arg4 harg4 arg5 harg5 x0 x1 x2 x3 x4 = dqV (Scalar.subi 31#32 (BitVec.ofNat 32 (i 0).val)) x0 x1 x2 x3 x4 4 := by
  have e : kernelRun0_A.sl.v541 (F := Ideal) c i arg1 harg1 arg2 harg2 arg3 harg3 arg4 harg4 arg5 harg5 x0 x1 x2 x3 x4 = k0_pay118 (kernelRun0_A.sl.v17 c arg3 harg3 arg4 harg4 x2 x3) (kernelRun0_A.sl.v344 c i arg1 harg1 arg2 harg2 arg3 harg3 arg4 harg4 arg5 harg5 x0 x1 x2 x3 x4) := rfl
  rw [e, kb_eq1, ds_eq4]; rfl
theorem dq_eq5 : kernelRun0_A.sl.v543 (F := Ideal) c i arg1 harg1 arg2 harg2 arg3 harg3 arg4 harg4 arg5 harg5 x0 x1 x2 x3 x4 = dqV (Scalar.subi 31#32 (BitVec.ofNat 32 (i 0).val)) x0 x1 x2 x3 x4 5 := by
  have e : kernelRun0_A.sl.v543 (F := Ideal) c i arg1 harg1 arg2 harg2 arg3 harg3 arg4 harg4 arg5 harg5 x0 x1 x2 x3 x4 = k0_pay118 (kernelRun0_A.sl.v17 c arg3 harg3 arg4 harg4 x2 x3) (kernelRun0_A.sl.r_35 c i arg1 harg1 arg2 harg2 arg3 harg3 arg4 harg4 arg5 harg5 x0 x1 x2 x3 x4) := rfl
  rw [e, kb_eq1, ds_eq5]; rfl
theorem dq_eq6 : kernelRun0_A.sl.v545 (F := Ideal) c i arg1 harg1 arg2 harg2 arg3 harg3 arg4 harg4 arg5 harg5 x0 x1 x2 x3 x4 = dqV (Scalar.subi 31#32 (BitVec.ofNat 32 (i 0).val)) x0 x1 x2 x3 x4 6 := by
  have e : kernelRun0_A.sl.v545 (F := Ideal) c i arg1 harg1 arg2 harg2 arg3 harg3 arg4 harg4 arg5 harg5 x0 x1 x2 x3 x4 = k0_pay118 (kernelRun0_A.sl.v17 c arg3 harg3 arg4 harg4 x2 x3) (kernelRun0_A.sl.r_43 c i arg1 harg1 arg2 harg2 arg3 harg3 arg4 harg4 arg5 harg5 x0 x1 x2 x3 x4) := rfl
  rw [e, kb_eq1, ds_eq6]; rfl
theorem dq_eq7 : kernelRun0_A.sl.v547 (F := Ideal) c i arg1 harg1 arg2 harg2 arg3 harg3 arg4 harg4 arg5 harg5 x0 x1 x2 x3 x4 = dqV (Scalar.subi 31#32 (BitVec.ofNat 32 (i 0).val)) x0 x1 x2 x3 x4 7 := by
  have e : kernelRun0_A.sl.v547 (F := Ideal) c i arg1 harg1 arg2 harg2 arg3 harg3 arg4 harg4 arg5 harg5 x0 x1 x2 x3 x4 = k0_pay118 (kernelRun0_A.sl.v17 c arg3 harg3 arg4 harg4 x2 x3) (kernelRun0_A.sl.v524 c i arg1 harg1 arg2 harg2 arg3 harg3 arg4 harg4 arg5 harg5 x0 x1 x2 x3 x4) := rfl
  rw [e, kb_eq1, ds_eq7]; rfl
theorem prev_eq : kernelRun0_A.sl.v603 (F := Ideal) c arg9 = (k0_pay2 (F := Ideal) : Vec Ideal S128x256 .f32) := by
  exact View.readCov_unit_lit' (Val := Elt Ideal) (S := S128x256) (e := .f32) arg9.view (off := ![0, 0]) inb_S128x256_S128x256_0_0 (k0_pay2 (F := Ideal)) (by decide)
/-- The band's gradient, as the run has it. -/
theorem band_eq : k0_pay129 (kernelRun0_A.sl.r c arg2 harg2 x1) (kernelRun0_A.sl.v8 c arg5 harg5 x4) (kernelRun0_A.sl.v345 c i arg1 harg1 arg2 harg2 arg3 harg3 arg4 harg4 x0 x1 x2 x3) (kernelRun0_A.sl.r_35 c i arg1 harg1 arg2 harg2 arg3 harg3 arg4 harg4 arg5 harg5 x0 x1 x2 x3 x4) (kernelRun0_A.sl.r_36 c i arg1 harg1 arg2 harg2 arg3 harg3 arg4 harg4 x0 x1 x2 x3) (kernelRun0_A.sl.r_43 c i arg1 harg1 arg2 harg2 arg3 harg3 arg4 harg4 arg5 harg5 x0 x1 x2 x3 x4) (kernelRun0_A.sl.r_44 c i arg1 harg1 arg2 harg2 arg3 harg3 arg4 harg4 x0 x1 x2 x3) (kernelRun0_A.sl.v524 c i arg1 harg1 arg2 harg2 arg3 harg3 arg4 harg4 arg5 harg5 x0 x1 x2 x3 x4) (kernelRun0_A.sl.v525 c i arg1 harg1 arg2 harg2 arg3 harg3 arg4 harg4 x0 x1 x2 x3) (k0_pay126 (kernelRun0_A.sl.r c arg2 harg2 x1) (kernelRun0_A.sl.v104 c i arg1 harg1 arg2 harg2 arg3 harg3 arg4 harg4 arg5 harg5 x0 x1 x2 x3 x4) (kernelRun0_A.sl.r_15 c i arg1 harg1 arg2 harg2 arg3 harg3 arg4 harg4 arg5 harg5 x0 x1 x2 x3 x4) (kernelRun0_A.sl.r_21 c i arg1 harg1 arg2 harg2 arg3 harg3 arg4 harg4 arg5 harg5 x0 x1 x2 x3 x4) (kernelRun0_A.sl.r_29 c i arg1 harg1 arg2 harg2 arg3 harg3 arg4 harg4 arg5 harg5 x0 x1 x2 x3 x4)) (k0_pay127 (kernelRun0_A.sl.v8 c arg5 harg5 x4) (kernelRun0_A.sl.v105 c i arg1 harg1 arg2 harg2 arg3 harg3 arg4 harg4 x0 x1 x2 x3) (kernelRun0_A.sl.r_16 c i arg1 harg1 arg2 harg2 arg3 harg3 arg4 harg4 x0 x1 x2 x3) (kernelRun0_A.sl.r_23 c i arg1 harg1 arg2 harg2 arg3 harg3 arg4 harg4 x0 x1 x2 x3) (kernelRun0_A.sl.r_30 c i arg1 harg1 arg2 harg2 arg3 harg3 arg4 harg4 x0 x1 x2 x3)) (k0_pay128 (kernelRun0_A.sl.r c arg2 harg2 x1) (kernelRun0_A.sl.v344 c i arg1 harg1 arg2 harg2 arg3 harg3 arg4 harg4 arg5 harg5 x0 x1 x2 x3 x4)) = bandV (Scalar.subi 31#32 (BitVec.ofNat 32 (i 0).val)) x0 x1 x2 x3 x4 := by
  rw [q_eq, do_eq, ds_eq0, ds_eq1, ds_eq2, ds_eq3, ds_eq4, ds_eq5, ds_eq6, ds_eq7, pr_eq0, pr_eq1, pr_eq2, pr_eq3, pr_eq4, pr_eq5, pr_eq6, pr_eq7]; rfl
variable (hc0 : cond0_0 i)
theorem out5 : out0_A_5 (F := Ideal) c i arg1 harg1 arg2 harg2 arg3 harg3 arg4 harg4 arg5 harg5 arg6 harg6 arg7 harg7 arg8 harg8 arg9 harg9 hc0 x0 x1 x2 x3 x4 = View.canon (dqP (dqV (Scalar.subi 31#32 (BitVec.ofNat 32 (i 0).val)) x0 x1 x2 x3 x4)) := by
  unfold out0_A_5; rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  have e : (kernelRun0_A (F := Ideal) c i arg1 harg1 arg2 harg2 arg3 harg3 arg4 harg4 arg5 harg5 arg6 harg6 arg7 harg7 arg8 harg8 arg9 harg9 hc0 x0 x1 x2 x3 x4).1 = dqP (pick (kernelRun0_A.sl.v533 c i arg1 harg1 arg2 harg2 arg3 harg3 arg4 harg4 arg5 harg5 x0 x1 x2 x3 x4) (kernelRun0_A.sl.v535 c i arg1 harg1 arg2 harg2 arg3 harg3 arg4 harg4 arg5 harg5 x0 x1 x2 x3 x4) (kernelRun0_A.sl.v537 c i arg1 harg1 arg2 harg2 arg3 harg3 arg4 harg4 arg5 harg5 x0 x1 x2 x3 x4) (kernelRun0_A.sl.v539 c i arg1 harg1 arg2 harg2 arg3 harg3 arg4 harg4 arg5 harg5 x0 x1 x2 x3 x4) (kernelRun0_A.sl.v541 c i arg1 harg1 arg2 harg2 arg3 harg3 arg4 harg4 arg5 harg5 x0 x1 x2 x3 x4) (kernelRun0_A.sl.v543 c i arg1 harg1 arg2 harg2 arg3 harg3 arg4 harg4 arg5 harg5 x0 x1 x2 x3 x4) (kernelRun0_A.sl.v545 c i arg1 harg1 arg2 harg2 arg3 harg3 arg4 harg4 arg5 harg5 x0 x1 x2 x3 x4) (kernelRun0_A.sl.v547 c i arg1 harg1 arg2 harg2 arg3 harg3 arg4 harg4 arg5 harg5 x0 x1 x2 x3 x4)) := rfl
  rw [e, dq_eq0, dq_eq1, dq_eq2, dq_eq3, dq_eq4, dq_eq5, dq_eq6, dq_eq7]; rfl
theorem out6 : out0_A_6 (F := Ideal) c i arg1 harg1 arg2 harg2 arg3 harg3 arg4 harg4 arg5 harg5 arg6 harg6 arg7 harg7 arg8 harg8 arg9 harg9 hc0 x0 x1 x2 x3 x4 = dkvV (Scalar.subi 31#32 (BitVec.ofNat 32 (i 0).val)) x0 x1 x2 x3 x4 (k0_pay2 (F := Ideal)) := by
  unfold out0_A_6; rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  have e : (kernelRun0_A (F := Ideal) c i arg1 harg1 arg2 harg2 arg3 harg3 arg4 harg4 arg5 harg5 arg6 harg6 arg7 harg7 arg8 harg8 arg9 harg9 hc0 x0 x1 x2 x3 x4).2.1 =
      [⟨Rect.unit ![0, 0] ![128, 256] inb_S128x256_S128x256_0_0, addf (extractStridedSlice S128x256 ![128, 0] (k0_pay129 (kernelRun0_A.sl.r c arg2 harg2 x1) (kernelRun0_A.sl.v8 c arg5 harg5 x4) (kernelRun0_A.sl.v345 c i arg1 harg1 arg2 harg2 arg3 harg3 arg4 harg4 x0 x1 x2 x3) (kernelRun0_A.sl.r_35 c i arg1 harg1 arg2 harg2 arg3 harg3 arg4 harg4 arg5 harg5 x0 x1 x2 x3 x4) (kernelRun0_A.sl.r_36 c i arg1 harg1 arg2 harg2 arg3 harg3 arg4 harg4 x0 x1 x2 x3) (kernelRun0_A.sl.r_43 c i arg1 harg1 arg2 harg2 arg3 harg3 arg4 harg4 arg5 harg5 x0 x1 x2 x3 x4) (kernelRun0_A.sl.r_44 c i arg1 harg1 arg2 harg2 arg3 harg3 arg4 harg4 x0 x1 x2 x3) (kernelRun0_A.sl.v524 c i arg1 harg1 arg2 harg2 arg3 harg3 arg4 harg4 arg5 harg5 x0 x1 x2 x3 x4) (kernelRun0_A.sl.v525 c i arg1 harg1 arg2 harg2 arg3 harg3 arg4 harg4 x0 x1 x2 x3) (k0_pay126 (kernelRun0_A.sl.r c arg2 harg2 x1) (kernelRun0_A.sl.v104 c i arg1 harg1 arg2 harg2 arg3 harg3 arg4 harg4 arg5 harg5 x0 x1 x2 x3 x4) (kernelRun0_A.sl.r_15 c i arg1 harg1 arg2 harg2 arg3 harg3 arg4 harg4 arg5 harg5 x0 x1 x2 x3 x4) (kernelRun0_A.sl.r_21 c i arg1 harg1 arg2 harg2 arg3 harg3 arg4 harg4 arg5 harg5 x0 x1 x2 x3 x4) (kernelRun0_A.sl.r_29 c i arg1 harg1 arg2 harg2 arg3 harg3 arg4 harg4 arg5 harg5 x0 x1 x2 x3 x4)) (k0_pay127 (kernelRun0_A.sl.v8 c arg5 harg5 x4) (kernelRun0_A.sl.v105 c i arg1 harg1 arg2 harg2 arg3 harg3 arg4 harg4 x0 x1 x2 x3) (kernelRun0_A.sl.r_16 c i arg1 harg1 arg2 harg2 arg3 harg3 arg4 harg4 x0 x1 x2 x3) (kernelRun0_A.sl.r_23 c i arg1 harg1 arg2 harg2 arg3 harg3 arg4 harg4 x0 x1 x2 x3) (kernelRun0_A.sl.r_30 c i arg1 harg1 arg2 harg2 arg3 harg3 arg4 harg4 x0 x1 x2 x3)) (k0_pay128 (kernelRun0_A.sl.r c arg2 harg2 x1) (kernelRun0_A.sl.v344 c i arg1 harg1 arg2 harg2 arg3 harg3 arg4 harg4 arg5 harg5 x0 x1 x2 x3 x4))) slices_S256x256_o128_0_S128x256) (kernelRun0_A.sl.v603 (F := Ideal) c arg9)⟩] := rfl
  rw [e, band_eq, prev_eq]; exact View.canon_unit_zero (by decide) _ _
theorem out7 : out0_A_7 (F := Ideal) c i arg1 harg1 arg2 harg2 arg3 harg3 arg4 harg4 arg5 harg5 arg6 harg6 arg7 harg7 arg8 harg8 arg9 harg9 hc0 x0 x1 x2 x3 x4 = dskV (Scalar.subi 31#32 (BitVec.ofNat 32 (i 0).val)) x0 x1 x2 x3 x4 := by
  unfold out0_A_7; rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  have e : (kernelRun0_A (F := Ideal) c i arg1 harg1 arg2 harg2 arg3 harg3 arg4 harg4 arg5 harg5 arg6 harg6 arg7 harg7 arg8 harg8 arg9 harg9 hc0 x0 x1 x2 x3 x4).2.2.1 =
      [⟨Rect.unit ![0, 0, 0] ![1, 8, 128] inb_S1x8x128_S1x8x128_0_0_0, k0_pay1 (kernelRun0_A.sl.v112 c i arg1 harg1 arg2 harg2 arg3 harg3 arg4 harg4 arg5 harg5 x0 x1 x2 x3 x4) (kernelRun0_A.sl.r_17 c i arg1 harg1 arg2 harg2 arg3 harg3 arg4 harg4 arg5 harg5 x0 x1 x2 x3 x4) (kernelRun0_A.sl.r_24 c i arg1 harg1 arg2 harg2 arg3 harg3 arg4 harg4 arg5 harg5 x0 x1 x2 x3 x4) (kernelRun0_A.sl.r_31 c i arg1 harg1 arg2 harg2 arg3 harg3 arg4 harg4 arg5 harg5 x0 x1 x2 x3 x4) (kernelRun0_A.sl.v352 c i arg1 harg1 arg2 harg2 arg3 harg3 arg4 harg4 arg5 harg5 x0 x1 x2 x3 x4) (kernelRun0_A.sl.r_37 c i arg1 harg1 arg2 harg2 arg3 harg3 arg4 harg4 arg5 harg5 x0 x1 x2 x3 x4) (kernelRun0_A.sl.r_45 c i arg1 harg1 arg2 harg2 arg3 harg3 arg4 harg4 arg5 harg5 x0 x1 x2 x3 x4) (kernelRun0_A.sl.v532 c i arg1 harg1 arg2 harg2 arg3 harg3 arg4 harg4 arg5 harg5 x0 x1 x2 x3 x4)⟩] := rfl
  rw [e, sk_eq0, sk_eq1, sk_eq2, sk_eq3, sk_eq4, sk_eq5, sk_eq6, sk_eq7]; exact View.canon_unit_zero (by decide) _ _
theorem sout : sout0_A_0 (F := Ideal) c i arg1 harg1 arg2 harg2 arg3 harg3 arg4 harg4 arg5 harg5 arg6 harg6 arg7 harg7 arg8 harg8 arg9 harg9 hc0 x0 x1 x2 x3 x4 = carryV (Scalar.subi 31#32 (BitVec.ofNat 32 (i 0).val)) x0 x1 x2 x3 x4 := by
  unfold sout0_A_0; rw [View.read_writes_eq_canon _ _ _ (scover0_A_0 c i arg1 harg1 arg2 harg2 arg3 harg3 arg4 harg4 arg5 harg5 arg6 harg6 arg7 harg7 arg8 harg8 arg9 harg9 hc0 x0 x1 x2 x3 x4)]
  have e : (kernelRun0_A (F := Ideal) c i arg1 harg1 arg2 harg2 arg3 harg3 arg4 harg4 arg5 harg5 arg6 harg6 arg7 harg7 arg8 harg8 arg9 harg9 hc0 x0 x1 x2 x3 x4).2.2.2.1 =
      ⟨Rect.unit ![0, 0] ![128, 256] inb_S128x256_S128x256_0_0, shapeCast S128x256 (extractStridedSlice S128x256 ![0, 0] (k0_pay129 (kernelRun0_A.sl.r c arg2 harg2 x1) (kernelRun0_A.sl.v8 c arg5 harg5 x4) (kernelRun0_A.sl.v345 c i arg1 harg1 arg2 harg2 arg3 harg3 arg4 harg4 x0 x1 x2 x3) (kernelRun0_A.sl.r_35 c i arg1 harg1 arg2 harg2 arg3 harg3 arg4 harg4 arg5 harg5 x0 x1 x2 x3 x4) (kernelRun0_A.sl.r_36 c i arg1 harg1 arg2 harg2 arg3 harg3 arg4 harg4 x0 x1 x2 x3) (kernelRun0_A.sl.r_43 c i arg1 harg1 arg2 harg2 arg3 harg3 arg4 harg4 arg5 harg5 x0 x1 x2 x3 x4) (kernelRun0_A.sl.r_44 c i arg1 harg1 arg2 harg2 arg3 harg3 arg4 harg4 x0 x1 x2 x3) (kernelRun0_A.sl.v524 c i arg1 harg1 arg2 harg2 arg3 harg3 arg4 harg4 arg5 harg5 x0 x1 x2 x3 x4) (kernelRun0_A.sl.v525 c i arg1 harg1 arg2 harg2 arg3 harg3 arg4 harg4 x0 x1 x2 x3) (k0_pay126 (kernelRun0_A.sl.r c arg2 harg2 x1) (kernelRun0_A.sl.v104 c i arg1 harg1 arg2 harg2 arg3 harg3 arg4 harg4 arg5 harg5 x0 x1 x2 x3 x4) (kernelRun0_A.sl.r_15 c i arg1 harg1 arg2 harg2 arg3 harg3 arg4 harg4 arg5 harg5 x0 x1 x2 x3 x4) (kernelRun0_A.sl.r_21 c i arg1 harg1 arg2 harg2 arg3 harg3 arg4 harg4 arg5 harg5 x0 x1 x2 x3 x4) (kernelRun0_A.sl.r_29 c i arg1 harg1 arg2 harg2 arg3 harg3 arg4 harg4 arg5 harg5 x0 x1 x2 x3 x4)) (k0_pay127 (kernelRun0_A.sl.v8 c arg5 harg5 x4) (kernelRun0_A.sl.v105 c i arg1 harg1 arg2 harg2 arg3 harg3 arg4 harg4 x0 x1 x2 x3) (kernelRun0_A.sl.r_16 c i arg1 harg1 arg2 harg2 arg3 harg3 arg4 harg4 x0 x1 x2 x3) (kernelRun0_A.sl.r_23 c i arg1 harg1 arg2 harg2 arg3 harg3 arg4 harg4 x0 x1 x2 x3) (kernelRun0_A.sl.r_30 c i arg1 harg1 arg2 harg2 arg3 harg3 arg4 harg4 x0 x1 x2 x3)) (k0_pay128 (kernelRun0_A.sl.r c arg2 harg2 x1) (kernelRun0_A.sl.v344 c i arg1 harg1 arg2 harg2 arg3 harg3 arg4 harg4 arg5 harg5 x0 x1 x2 x3 x4))) slices_S256x256_o0_0_S128x256) shapeCasts_S128x256_S128x256⟩ :: kernelRun0_A.sl.HS0_1 := rfl
  rw [e, band_eq]; exact View.canon_cons_unit_zero (by decide) _ _ _

end Cert.KernelIdeal.Value.RunA
end
-- ==== Proof.WordsB.lean ====
module

public import proofs.«01_k».proof.Proof.Heads

@[expose] public section

set_option maxRecDepth 16384

noncomputable section

open Idealize.ShloMosaic Idealize.ShloMosaic.TcCoe Idealize.SL.Sem
open Idealize.ShloMosaic.Pipeline (Dat)

namespace Cert.KernelIdeal.Value.RunB
open Cert.KernelIdeal Cert.KernelIdeal.Gen Cert.KernelIdeal.Value

/-! # The words of the body's run in case B, as the heads' functions -/

variable (c : Dev nD) (i : grid0.Coords)
  (arg1 : Memref sig .tc .smem S8 .f32) (harg1 : arg1.IsWhole) (arg2 : Memref sig .tc .vmem S128x512 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x512 .f32) (harg5 : arg5.IsWhole) (arg6 : Memref sig .tc .vmem S128x512 .f32) (harg6 : arg6.IsWhole)
  (arg7 : Memref sig .tc .vmem S128x256 .f32) (harg7 : arg7.IsWhole) (arg8 : Memref sig .tc .vmem S1x8x128 .f32) (harg8 : arg8.IsWhole)
  (arg9 : Memref sig .tc .vmem S128x256 .f32) (harg9 : arg9.IsWhole)
  (x0 : Vec Ideal S8 .f32) (x1 : Vec Ideal S128x512 .bf16) (x2 x3 : Vec Ideal S128x256 .bf16)
  (x4 : Vec Ideal S128x512 .f32) (xs0 : Vec Ideal S128x256 .f32)

/-- Reading a whole block gives the block. -/
theorem rd2 : View.readAt (Elt Ideal) arg2.view (Rect.unit (s := S128x512) ![0, 0] S128x512.size (by decide)).toLoadRect (harg2.unread x1) = x1 := by
  rw [View.readAt_eq_ld, harg2.read_unread]; exact View.ld_unit_lit' _ _ (by decide)
theorem rd3 : View.readAt (Elt Ideal) arg3.view (Rect.unit (s := S128x256) ![0, 0] S128x256.size (by decide)).toLoadRect (harg3.unread x2) = x2 := by
  rw [View.readAt_eq_ld, harg3.read_unread]; exact View.ld_unit_lit' _ _ (by decide)
theorem rd5 : View.readAt (Elt Ideal) arg5.view (Rect.unit (s := S128x512) ![0, 0] S128x512.size (by decide)).toLoadRect (harg5.unread x4) = x4 := by
  rw [View.readAt_eq_ld, harg5.read_unread]; exact View.ld_unit_lit' _ _ (by decide)
theorem q_eq : kernelRun0_B.sl.r (F := Ideal) c arg2 harg2 x1 = x1 := rd2 arg2 harg2 x1
theorem do_eq : kernelRun0_B.sl.v8 (F := Ideal) c arg5 harg5 x4 = k0_pay3 x4 := congrArg k0_pay3 (rd5 arg5 harg5 x4)
theorem w_eq : kernelRun0_B.sl.v0 i = Scalar.subi 31#32 (BitVec.ofNat 32 (i 0).val) := rfl
theorem kb_eq0 : kernelRun0_B.sl.v11 (F := Ideal) c arg3 harg3 arg4 harg4 x2 x3 = k0_pay4 x2 x3 := congrArg₂ k0_pay4 (rd3 arg3 harg3 x2) (rd3 arg4 harg4 x3)
theorem kb_eq1 : kernelRun0_B.sl.v17 (F := Ideal) c arg3 harg3 arg4 harg4 x2 x3 = k0_pay6 x2 x3 := congrArg₂ k0_pay6 (rd3 arg3 harg3 x2) (rd3 arg4 harg4 x3)
theorem s_eq0 : kernelRun0_B.sl.r_1 (F := Ideal) c arg1 harg1 x0 = sinkV x0 0 := by
  show View.readAt (Elt Ideal) arg1.view (Rect.unit (s := S8) ![0] S1.size inb_S8_S1_0).toLoadRect (harg1.unread x0) (Shape.Idx.first (by decide)) = _
  rw [View.readAt_eq_ld, harg1.read_unread]; exact congrArg x0 (funext fun a => by fin_cases a; rfl)
theorem qk_eq0 : kernelRun0_B.sl.v22 (F := Ideal) c arg2 harg2 arg3 harg3 arg4 harg4 x1 x2 x3 = qkV x1 x2 x3 0 :=
  (congr (congrArg₂ k0_pay8 (rd2 arg2 harg2 x1) (rd3 arg3 harg3 x2)) (rd3 arg4 harg4 x3) :)
theorem dp_eq0 : kernelRun0_B.sl.r_2 (F := Ideal) c arg3 harg3 arg4 harg4 arg5 harg5 x2 x3 x4 = dpV x2 x3 x4 0 :=
  (congrArg₂ (fun a b => k0_pay17 a b (constant S128x256 .f32 0x00000000#32)) (congrArg₂ k0_pay5 (rd3 arg3 harg3 x2) (rd3 arg4 harg4 x3)) (congrArg k0_pay16 (rd5 arg5 harg5 x4)) :)
theorem ds_eq0 : kernelRun0_B.sl.v104 (F := Ideal) c i arg1 harg1 arg2 harg2 arg3 harg3 arg4 harg4 arg5 harg5 x0 x1 x2 x3 x4 = dsV (Scalar.subi 31#32 (BitVec.ofNat 32 (i 0).val)) x0 x1 x2 x3 x4 0 := by
  have e : kernelRun0_B.sl.v104 (F := Ideal) c i arg1 harg1 arg2 harg2 arg3 harg3 arg4 harg4 arg5 harg5 x0 x1 x2 x3 x4 = dsH (kernelRun0_B.sl.r_2 c arg3 harg3 arg4 harg4 arg5 harg5 x2 x3 x4) (kernelRun0_B.sl.r_1 c arg1 harg1 x0) (scV (kernelRun0_B.sl.v0 i) (slopeW 0) (kernelRun0_B.sl.v22 c arg2 harg2 arg3 harg3 arg4 harg4 x1 x2 x3)) := rfl
  rw [e, dp_eq0, s_eq0, qk_eq0]; rfl
theorem pr_eq0 : kernelRun0_B.sl.v105 (F := Ideal) c i arg1 harg1 arg2 harg2 arg3 harg3 arg4 harg4 x0 x1 x2 x3 = prV (Scalar.subi 31#32 (BitVec.ofNat 32 (i 0).val)) x0 x1 x2 x3 0 := by
  have e : kernelRun0_B.sl.v105 (F := Ideal) c i arg1 harg1 arg2 harg2 arg3 harg3 arg4 harg4 x0 x1 x2 x3 = prH (kernelRun0_B.sl.r_1 c arg1 harg1 x0) (scV (kernelRun0_B.sl.v0 i) (slopeW 0) (kernelRun0_B.sl.v22 c arg2 harg2 arg3 harg3 arg4 harg4 x1 x2 x3)) := rfl
  rw [e, s_eq0, qk_eq0]; rfl
theorem sk_eq0 : kernelRun0_B.sl.v112 (F := Ideal) c i arg1 harg1 arg2 harg2 arg3 harg3 arg4 harg4 arg5 harg5 x0 x1 x2 x3 x4 = skV (Scalar.subi 31#32 (BitVec.ofNat 32 (i 0).val)) x0 x1 x2 x3 x4 0 := by
  have e : kernelRun0_B.sl.v112 (F := Ideal) c i arg1 harg1 arg2 harg2 arg3 harg3 arg4 harg4 arg5 harg5 x0 x1 x2 x3 x4 = skH (kernelRun0_B.sl.r_2 c arg3 harg3 arg4 harg4 arg5 harg5 x2 x3 x4) (kernelRun0_B.sl.r_1 c arg1 harg1 x0) (scV (kernelRun0_B.sl.v0 i) (slopeW 0) (kernelRun0_B.sl.v22 c arg2 harg2 arg3 harg3 arg4 harg4 x1 x2 x3)) := rfl
  rw [e, dp_eq0, s_eq0, qk_eq0]; rfl
theorem s_eq1 : kernelRun0_B.sl.r_13 (F := Ideal) c arg1 harg1 x0 = sinkV x0 1 := by
  show View.readAt (Elt Ideal) arg1.view (Rect.unit (s := S8) ![1] S1.size inb_S8_S1_1).toLoadRect (harg1.unread x0) (Shape.Idx.first (by decide)) = _
  rw [View.readAt_eq_ld, harg1.read_unread]; exact congrArg x0 (funext fun a => by fin_cases a; rfl)
theorem qk_eq1 : kernelRun0_B.sl.v24 (F := Ideal) c arg2 harg2 arg3 harg3 arg4 harg4 x1 x2 x3 = qkV x1 x2 x3 1 :=
  (congr (congrArg₂ k0_pay9 (rd2 arg2 harg2 x1) (rd3 arg3 harg3 x2)) (rd3 arg4 harg4 x3) :)
theorem dp_eq1 : kernelRun0_B.sl.r_3 (F := Ideal) c arg3 harg3 arg4 harg4 arg5 harg5 x2 x3 x4 = dpV x2 x3 x4 1 :=
  (congrArg₂ k0_pay18 (congrArg k0_pay3 (rd5 arg5 harg5 x4)) (congrArg₂ k0_pay5 (rd3 arg3 harg3 x2) (rd3 arg4 harg4 x3)) :)
theorem ds_eq1 : kernelRun0_B.sl.r_15 (F := Ideal) c i arg1 harg1 arg2 harg2 arg3 harg3 arg4 harg4 arg5 harg5 x0 x1 x2 x3 x4 = dsV (Scalar.subi 31#32 (BitVec.ofNat 32 (i 0).val)) x0 x1 x2 x3 x4 1 := by
  have e : kernelRun0_B.sl.r_15 (F := Ideal) c i arg1 harg1 arg2 harg2 arg3 harg3 arg4 harg4 arg5 harg5 x0 x1 x2 x3 x4 = dsH (kernelRun0_B.sl.r_3 c arg3 harg3 arg4 harg4 arg5 harg5 x2 x3 x4) (kernelRun0_B.sl.r_13 c arg1 harg1 x0) (scV (kernelRun0_B.sl.v0 i) (slopeW 1) (kernelRun0_B.sl.v24 c arg2 harg2 arg3 harg3 arg4 harg4 x1 x2 x3)) := rfl
  rw [e, dp_eq1, s_eq1, qk_eq1]; rfl
theorem pr_eq1 : kernelRun0_B.sl.r_16 (F := Ideal) c i arg1 harg1 arg2 harg2 arg3 harg3 arg4 harg4 x0 x1 x2 x3 = prV (Scalar.subi 31#32 (BitVec.ofNat 32 (i 0).val)) x0 x1 x2 x3 1 := by
  have e : kernelRun0_B.sl.r_16 (F := Ideal) c i arg1 harg1 arg2 harg2 arg3 harg3 arg4 harg4 x0 x1 x2 x3 = prH (kernelRun0_B.sl.r_13 c arg1 harg1 x0) (scV (kernelRun0_B.sl.v0 i) (slopeW 1) (kernelRun0_B.sl.v24 c arg2 harg2 arg3 harg3 arg4 harg4 x1 x2 x3)) := rfl
  rw [e, s_eq1, qk_eq1]; rfl
theorem sk_eq1 : kernelRun0_B.sl.r_17 (F := Ideal) c i arg1 harg1 arg2 harg2 arg3 harg3 arg4 harg4 arg5 harg5 x0 x1 x2 x3 x4 = skV (Scalar.subi 31#32 (BitVec.ofNat 32 (i 0).val)) x0 x1 x2 x3 x4 1 := by
  have e : kernelRun0_B.sl.r_17 (F := Ideal) c i arg1 harg1 arg2 harg2 arg3 harg3 arg4 harg4 arg5 harg5 x0 x1 x2 x3 x4 = skH (kernelRun0_B.sl.r_3 c arg3 harg3 arg4 harg4 arg5 harg5 x2 x3 x4) (kernelRun0_B.sl.r_13 c arg1 harg1 x0) (scV (kernelRun0_B.sl.v0 i) (slopeW 1) (kernelRun0_B.sl.v24 c arg2 harg2 arg3 harg3 arg4 harg4 x1 x2 x3)) := rfl
  rw [e, dp_eq1, s_eq1, qk_eq1]; rfl
theorem s_eq2 : kernelRun0_B.sl.r_14 (F := Ideal) c arg1 harg1 x0 = sinkV x0 2 := by
  show View.readAt (Elt Ideal) arg1.view (Rect.unit (s := S8) ![2] S1.size inb_S8_S1_2).toLoadRect (harg1.unread x0) (Shape.Idx.first (by decide)) = _
  rw [View.readAt_eq_ld, harg1.read_unread]; exact congrArg x0 (funext fun a => by fin_cases a; rfl)
theorem qk_eq2 : kernelRun0_B.sl.v26 (F := Ideal) c arg2 harg2 arg3 harg3 arg4 harg4 x1 x2 x3 = qkV x1 x2 x3 2 :=
  (congr (congrArg₂ k0_pay10 (rd2 arg2 harg2 x1) (rd3 arg3 harg3 x2)) (rd3 arg4 harg4 x3) :)
theorem dp_eq2 : kernelRun0_B.sl.r_4 (F := Ideal) c arg3 harg3 arg4 harg4 arg5 harg5 x2 x3 x4 = dpV x2 x3 x4 2 :=
  (congrArg₂ k0_pay19 (congrArg k0_pay3 (rd5 arg5 harg5 x4)) (congrArg₂ k0_pay5 (rd3 arg3 harg3 x2) (rd3 arg4 harg4 x3)) :)
theorem ds_eq2 : kernelRun0_B.sl.r_21 (F := Ideal) c i arg1 harg1 arg2 harg2 arg3 harg3 arg4 harg4 arg5 harg5 x0 x1 x2 x3 x4 = dsV (Scalar.subi 31#32 (BitVec.ofNat 32 (i 0).val)) x0 x1 x2 x3 x4 2 := by
  have e : kernelRun0_B.sl.r_21 (F := Ideal) c i arg1 harg1 arg2 harg2 arg3 harg3 arg4 harg4 arg5 harg5 x0 x1 x2 x3 x4 = dsH (kernelRun0_B.sl.r_4 c arg3 harg3 arg4 harg4 arg5 harg5 x2 x3 x4) (kernelRun0_B.sl.r_14 c arg1 harg1 x0) (scV (kernelRun0_B.sl.v0 i) (slopeW 2) (kernelRun0_B.sl.v26 c arg2 harg2 arg3 harg3 arg4 harg4 x1 x2 x3)) := rfl
  rw [e, dp_eq2, s_eq2, qk_eq2]; rfl
theorem pr_eq2 : kernelRun0_B.sl.r_23 (F := Ideal) c i arg1 harg1 arg2 harg2 arg3 harg3 arg4 harg4 x0 x1 x2 x3 = prV (Scalar.subi 31#32 (BitVec.ofNat 32 (i 0).val)) x0 x1 x2 x3 2 := by
  have e : kernelRun0_B.sl.r_23 (F := Ideal) c i arg1 harg1 arg2 harg2 arg3 harg3 arg4 harg4 x0 x1 x2 x3 = prH (kernelRun0_B.sl.r_14 c arg1 harg1 x0) (scV (kernelRun0_B.sl.v0 i) (slopeW 2) (kernelRun0_B.sl.v26 c arg2 harg2 arg3 harg3 arg4 harg4 x1 x2 x3)) := rfl
  rw [e, s_eq2, qk_eq2]; rfl
theorem sk_eq2 : kernelRun0_B.sl.r_24 (F := Ideal) c i arg1 harg1 arg2 harg2 arg3 harg3 arg4 harg4 arg5 harg5 x0 x1 x2 x3 x4 = skV (Scalar.subi 31#32 (BitVec.ofNat 32 (i 0).val)) x0 x1 x2 x3 x4 2 := by
  have e : kernelRun0_B.sl.r_24 (F := Ideal) c i arg1 harg1 arg2 harg2 arg3 harg3 arg4 harg4 arg5 harg5 x0 x1 x2 x3 x4 = skH (kernelRun0_B.sl.r_4 c arg3 harg3 arg4 harg4 arg5 harg5 x2 x3 x4) (kernelRun0_B.sl.r_14 c arg1 harg1 x0) (scV (kernelRun0_B.sl.v0 i) (slopeW 2) (kernelRun0_B.sl.v26 c arg2 harg2 arg3 harg3 arg4 harg4 x1 x2 x3)) := rfl
  rw [e, dp_eq2, s_eq2, qk_eq2]; rfl
theorem s_eq3 : kernelRun0_B.sl.r_22 (F := Ideal) c arg1 harg1 x0 = sinkV x0 3 := by
  show View.readAt (Elt Ideal) arg1.view (Rect.unit (s := S8) ![3] S1.size inb_S8_S1_3).toLoadRect (harg1.unread x0) (Shape.Idx.first (by decide)) = _
  rw [View.readAt_eq_ld, harg1.read_unread]; exact congrArg x0 (funext fun a => by fin_cases a; rfl)
theorem qk_eq3 : kernelRun0_B.sl.v28 (F := Ideal) c arg2 harg2 arg3 harg3 arg4 harg4 x1 x2 x3 = qkV x1 x2 x3 3 :=
  (congr (congrArg₂ k0_pay11 (rd2 arg2 harg2 x1) (rd3 arg3 harg3 x2)) (rd3 arg4 harg4 x3) :)
theorem dp_eq3 : kernelRun0_B.sl.r_5 (F := Ideal) c arg3 harg3 arg4 harg4 arg5 harg5 x2 x3 x4 = dpV x2 x3 x4 3 :=
  (congrArg₂ k0_pay20 (congrArg k0_pay3 (rd5 arg5 harg5 x4)) (congrArg₂ k0_pay5 (rd3 arg3 harg3 x2) (rd3 arg4 harg4 x3)) :)
theorem ds_eq3 : kernelRun0_B.sl.r_29 (F := Ideal) c i arg1 harg1 arg2 harg2 arg3 harg3 arg4 harg4 arg5 harg5 x0 x1 x2 x3 x4 = dsV (Scalar.subi 31#32 (BitVec.ofNat 32 (i 0).val)) x0 x1 x2 x3 x4 3 := by
  have e : kernelRun0_B.sl.r_29 (F := Ideal) c i arg1 harg1 arg2 harg2 arg3 harg3 arg4 harg4 arg5 harg5 x0 x1 x2 x3 x4 = dsH (kernelRun0_B.sl.r_5 c arg3 harg3 arg4 harg4 arg5 harg5 x2 x3 x4) (kernelRun0_B.sl.r_22 c arg1 harg1 x0) (scV (kernelRun0_B.sl.v0 i) (slopeW 3) (kernelRun0_B.sl.v28 c arg2 harg2 arg3 harg3 arg4 harg4 x1 x2 x3)) := rfl
  rw [e, dp_eq3, s_eq3, qk_eq3]; rfl
theorem pr_eq3 : kernelRun0_B.sl.r_30 (F := Ideal) c i arg1 harg1 arg2 harg2 arg3 harg3 arg4 harg4 x0 x1 x2 x3 = prV (Scalar.subi 31#32 (BitVec.ofNat 32 (i 0).val)) x0 x1 x2 x3 3 := by
  have e : kernelRun0_B.sl.r_30 (F := Ideal) c i arg1 harg1 arg2 harg2 arg3 harg3 arg4 harg4 x0 x1 x2 x3 = prH (kernelRun0_B.sl.r_22 c arg1 harg1 x0) (scV (kernelRun0_B.sl.v0 i) (slopeW 3) (kernelRun0_B.sl.v28 c arg2 harg2 arg3 harg3 arg4 harg4 x1 x2 x3)) := rfl
  rw [e, s_eq3, qk_eq3]; rfl
theorem sk_eq3 : kernelRun0_B.sl.r_31 (F := Ideal) c i arg1 harg1 arg2 harg2 arg3 harg3 arg4 harg4 arg5 harg5 x0 x1 x2 x3 x4 = skV (Scalar.subi 31#32 (BitVec.ofNat 32 (i 0).val)) x0 x1 x2 x3 x4 3 := by
  have e : kernelRun0_B.sl.r_31 (F := Ideal) c i arg1 harg1 arg2 harg2 arg3 harg3 arg4 harg4 arg5 harg5 x0 x1 x2 x3 x4 = skH (kernelRun0_B.sl.r_5 c arg3 harg3 arg4 harg4 arg5 harg5 x2 x3 x4) (kernelRun0_B.sl.r_22 c arg1 harg1 x0) (scV (kernelRun0_B.sl.v0 i) (slopeW 3) (kernelRun0_B.sl.v28 c arg2 harg2 arg3 harg3 arg4 harg4 x1 x2 x3)) := rfl
  rw [e, dp_eq3, s_eq3, qk_eq3]; rfl
theorem s_eq4 : kernelRun0_B.sl.r_28 (F := Ideal) c arg1 harg1 x0 = sinkV x0 4 := by
  show View.readAt (Elt Ideal) arg1.view (Rect.unit (s := S8) ![4] S1.size inb_S8_S1_4).toLoadRect (harg1.unread x0) (Shape.Idx.first (by decide)) = _
  rw [View.readAt_eq_ld, harg1.read_unread]; exact congrArg x0 (funext fun a => by fin_cases a; rfl)
theorem qk_eq4 : kernelRun0_B.sl.v30 (F := Ideal) c arg2 harg2 arg3 harg3 arg4 harg4 x1 x2 x3 = qkV x1 x2 x3 4 :=
  (congr (congrArg₂ k0_pay12 (rd2 arg2 harg2 x1) (rd3 arg3 harg3 x2)) (rd3 arg4 harg4 x3) :)
theorem dp_eq4 : kernelRun0_B.sl.r_6 (F := Ideal) c arg3 harg3 arg4 harg4 arg5 harg5 x2 x3 x4 = dpV x2 x3 x4 4 :=
  (congrArg₂ k0_pay21 (congrArg k0_pay3 (rd5 arg5 harg5 x4)) (congrArg₂ k0_pay7 (rd3 arg3 harg3 x2) (rd3 arg4 harg4 x3)) :)
theorem ds_eq4 : kernelRun0_B.sl.v344 (F := Ideal) c i arg1 harg1 arg2 harg2 arg3 harg3 arg4 harg4 arg5 harg5 x0 x1 x2 x3 x4 = dsV (Scalar.subi 31#32 (BitVec.ofNat 32 (i 0).val)) x0 x1 x2 x3 x4 4 := by
  have e : kernelRun0_B.sl.v344 (F := Ideal) c i arg1 harg1 arg2 harg2 arg3 harg3 arg4 harg4 arg5 harg5 x0 x1 x2 x3 x4 = dsH (kernelRun0_B.sl.r_6 c arg3 harg3 arg4 harg4 arg5 harg5 x2 x3 x4) (kernelRun0_B.sl.r_28 c arg1 harg1 x0) (scV (kernelRun0_B.sl.v0 i) (slopeW 4) (kernelRun0_B.sl.v30 c arg2 harg2 arg3 harg3 arg4 harg4 x1 x2 x3)) := rfl
  rw [e, dp_eq4, s_eq4, qk_eq4]; rfl
theorem pr_eq4 : kernelRun0_B.sl.v345 (F := Ideal) c i arg1 harg1 arg2 harg2 arg3 harg3 arg4 harg4 x0 x1 x2 x3 = prV (Scalar.subi 31#32 (BitVec.ofNat 32 (i 0).val)) x0 x1 x2 x3 4 := by
  have e : kernelRun0_B.sl.v345 (F := Ideal) c i arg1 harg1 arg2 harg2 arg3 harg3 arg4 harg4 x0 x1 x2 x3 = prH (kernelRun0_B.sl.r_28 c arg1 harg1 x0) (scV (kernelRun0_B.sl.v0 i) (slopeW 4) (kernelRun0_B.sl.v30 c arg2 harg2 arg3 harg3 arg4 harg4 x1 x2 x3)) := rfl
  rw [e, s_eq4, qk_eq4]; rfl
theorem sk_eq4 : kernelRun0_B.sl.v352 (F := Ideal) c i arg1 harg1 arg2 harg2 arg3 harg3 arg4 harg4 arg5 harg5 x0 x1 x2 x3 x4 = skV (Scalar.subi 31#32 (BitVec.ofNat 32 (i 0).val)) x0 x1 x2 x3 x4 4 := by
  have e : kernelRun0_B.sl.v352 (F := Ideal) c i arg1 harg1 arg2 harg2 arg3 harg3 arg4 harg4 arg5 harg5 x0 x1 x2 x3 x4 = skH (kernelRun0_B.sl.r_6 c arg3 harg3 arg4 harg4 arg5 harg5 x2 x3 x4) (kernelRun0_B.sl.r_28 c arg1 harg1 x0) (scV (kernelRun0_B.sl.v0 i) (slopeW 4) (kernelRun0_B.sl.v30 c arg2 harg2 arg3 harg3 arg4 harg4 x1 x2 x3)) := rfl
  rw [e, dp_eq4, s_eq4, qk_eq4]; rfl
theorem s_eq5 : kernelRun0_B.sl.r_33 (F := Ideal) c arg1 harg1 x0 = sinkV x0 5 := by
  show View.readAt (Elt Ideal) arg1.view (Rect.unit (s := S8) ![5] S1.size inb_S8_S1_5).toLoadRect (harg1.unread x0) (Shape.Idx.first (by decide)) = _
  rw [View.readAt_eq_ld, harg1.read_unread]; exact congrArg x0 (funext fun a => by fin_cases a; rfl)
theorem qk_eq5 : kernelRun0_B.sl.v32 (F := Ideal) c arg2 harg2 arg3 harg3 arg4 harg4 x1 x2 x3 = qkV x1 x2 x3 5 :=
  (congr (congrArg₂ k0_pay13 (rd2 arg2 harg2 x1) (rd3 arg3 harg3 x2)) (rd3 arg4 harg4 x3) :)
theorem dp_eq5 : kernelRun0_B.sl.r_7 (F := Ideal) c arg3 harg3 arg4 harg4 arg5 harg5 x2 x3 x4 = dpV x2 x3 x4 5 :=
  (congrArg₂ k0_pay22 (congrArg k0_pay3 (rd5 arg5 harg5 x4)) (congrArg₂ k0_pay7 (rd3 arg3 harg3 x2) (rd3 arg4 harg4 x3)) :)
theorem ds_eq5 : kernelRun0_B.sl.r_35 (F := Ideal) c i arg1 harg1 arg2 harg2 arg3 harg3 arg4 harg4 arg5 harg5 x0 x1 x2 x3 x4 = dsV (Scalar.subi 31#32 (BitVec.ofNat 32 (i 0).val)) x0 x1 x2 x3 x4 5 := by
  have e : kernelRun0_B.sl.r_35 (F := Ideal) c i arg1 harg1 arg2 harg2 arg3 harg3 arg4 harg4 arg5 harg5 x0 x1 x2 x3 x4 = dsH (kernelRun0_B.sl.r_7 c arg3 harg3 arg4 harg4 arg5 harg5 x2 x3 x4) (kernelRun0_B.sl.r_33 c arg1 harg1 x0) (scV (kernelRun0_B.sl.v0 i) (slopeW 5) (kernelRun0_B.sl.v32 c arg2 harg2 arg3 harg3 arg4 harg4 x1 x2 x3)) := rfl
  rw [e, dp_eq5, s_eq5, qk_eq5]; rfl
theorem pr_eq5 : kernelRun0_B.sl.r_36 (F := Ideal) c i arg1 harg1 arg2 harg2 arg3 harg3 arg4 harg4 x0 x1 x2 x3 = prV (Scalar.subi 31#32 (BitVec.ofNat 32 (i 0).val)) x0 x1 x2 x3 5 := by
  have e : kernelRun0_B.sl.r_36 (F := Ideal) c i arg1 harg1 arg2 harg2 arg3 harg3 arg4 harg4 x0 x1 x2 x3 = prH (kernelRun0_B.sl.r_33 c arg1 harg1 x0) (scV (kernelRun0_B.sl.v0 i) (slopeW 5) (kernelRun0_B.sl.v32 c arg2 harg2 arg3 harg3 arg4 harg4 x1 x2 x3)) := rfl
  rw [e, s_eq5, qk_eq5]; rfl
theorem sk_eq5 : kernelRun0_B.sl.r_37 (F := Ideal) c i arg1 harg1 arg2 harg2 arg3 harg3 arg4 harg4 arg5 harg5 x0 x1 x2 x3 x4 = skV (Scalar.subi 31#32 (BitVec.ofNat 32 (i 0).val)) x0 x1 x2 x3 x4 5 := by
  have e : kernelRun0_B.sl.r_37 (F := Ideal) c i arg1 harg1 arg2 harg2 arg3 harg3 arg4 harg4 arg5 harg5 x0 x1 x2 x3 x4 = skH (kernelRun0_B.sl.r_7 c arg3 harg3 arg4 harg4 arg5 harg5 x2 x3 x4) (kernelRun0_B.sl.r_33 c arg1 harg1 x0) (scV (kernelRun0_B.sl.v0 i) (slopeW 5) (kernelRun0_B.sl.v32 c arg2 harg2 arg3 harg3 arg4 harg4 x1 x2 x3)) := rfl
  rw [e, dp_eq5, s_eq5, qk_eq5]; rfl
theorem s_eq6 : kernelRun0_B.sl.r_34 (F := Ideal) c arg1 harg1 x0 = sinkV x0 6 := by
  show View.readAt (Elt Ideal) arg1.view (Rect.unit (s := S8) ![6] S1.size inb_S8_S1_6).toLoadRect (harg1.unread x0) (Shape.Idx.first (by decide)) = _
  rw [View.readAt_eq_ld, harg1.read_unread]; exact congrArg x0 (funext fun a => by fin_cases a; rfl)
theorem qk_eq6 : kernelRun0_B.sl.v34 (F := Ideal) c arg2 harg2 arg3 harg3 arg4 harg4 x1 x2 x3 = qkV x1 x2 x3 6 :=
  (congr (congrArg₂ k0_pay14 (rd2 arg2 harg2 x1) (rd3 arg3 harg3 x2)) (rd3 arg4 harg4 x3) :)
theorem dp_eq6 : kernelRun0_B.sl.r_8 (F := Ideal) c arg3 harg3 arg4 harg4 arg5 harg5 x2 x3 x4 = dpV x2 x3 x4 6 :=
  (congrArg₂ k0_pay23 (congrArg k0_pay3 (rd5 arg5 harg5 x4)) (congrArg₂ k0_pay7 (rd3 arg3 harg3 x2) (rd3 arg4 harg4 x3)) :)
theorem ds_eq6 : kernelRun0_B.sl.r_43 (F := Ideal) c i arg1 harg1 arg2 harg2 arg3 harg3 arg4 harg4 arg5 harg5 x0 x1 x2 x3 x4 = dsV (Scalar.subi 31#32 (BitVec.ofNat 32 (i 0).val)) x0 x1 x2 x3 x4 6 := by
  have e : kernelRun0_B.sl.r_43 (F := Ideal) c i arg1 harg1 arg2 harg2 arg3 harg3 arg4 harg4 arg5 harg5 x0 x1 x2 x3 x4 = dsH (kernelRun0_B.sl.r_8 c arg3 harg3 arg4 harg4 arg5 harg5 x2 x3 x4) (kernelRun0_B.sl.r_34 c arg1 harg1 x0) (scV (kernelRun0_B.sl.v0 i) (slopeW 6) (kernelRun0_B.sl.v34 c arg2 harg2 arg3 harg3 arg4 harg4 x1 x2 x3)) := rfl
  rw [e, dp_eq6, s_eq6, qk_eq6]; rfl
theorem pr_eq6 : kernelRun0_B.sl.r_44 (F := Ideal) c i arg1 harg1 arg2 harg2 arg3 harg3 arg4 harg4 x0 x1 x2 x3 = prV (Scalar.subi 31#32 (BitVec.ofNat 32 (i 0).val)) x0 x1 x2 x3 6 := by
  have e : kernelRun0_B.sl.r_44 (F := Ideal) c i arg1 harg1 arg2 harg2 arg3 harg3 arg4 harg4 x0 x1 x2 x3 = prH (kernelRun0_B.sl.r_34 c arg1 harg1 x0) (scV (kernelRun0_B.sl.v0 i) (slopeW 6) (kernelRun0_B.sl.v34 c arg2 harg2 arg3 harg3 arg4 harg4 x1 x2 x3)) := rfl
  rw [e, s_eq6, qk_eq6]; rfl
theorem sk_eq6 : kernelRun0_B.sl.r_45 (F := Ideal) c i arg1 harg1 arg2 harg2 arg3 harg3 arg4 harg4 arg5 harg5 x0 x1 x2 x3 x4 = skV (Scalar.subi 31#32 (BitVec.ofNat 32 (i 0).val)) x0 x1 x2 x3 x4 6 := by
  have e : kernelRun0_B.sl.r_45 (F := Ideal) c i arg1 harg1 arg2 harg2 arg3 harg3 arg4 harg4 arg5 harg5 x0 x1 x2 x3 x4 = skH (kernelRun0_B.sl.r_8 c arg3 harg3 arg4 harg4 arg5 harg5 x2 x3 x4) (kernelRun0_B.sl.r_34 c arg1 harg1 x0) (scV (kernelRun0_B.sl.v0 i) (slopeW 6) (kernelRun0_B.sl.v34 c arg2 harg2 arg3 harg3 arg4 harg4 x1 x2 x3)) := rfl
  rw [e, dp_eq6, s_eq6, qk_eq6]; rfl
theorem s_eq7 : kernelRun0_B.sl.r_42 (F := Ideal) c arg1 harg1 x0 = sinkV x0 7 := by
  show View.readAt (Elt Ideal) arg1.view (Rect.unit (s := S8) ![7] S1.size inb_S8_S1_7).toLoadRect (harg1.unread x0) (Shape.Idx.first (by decide)) = _
  rw [View.readAt_eq_ld, harg1.read_unread]; exact congrArg x0 (funext fun a => by fin_cases a; rfl)
theorem qk_eq7 : kernelRun0_B.sl.v36 (F := Ideal) c arg2 harg2 arg3 harg3 arg4 harg4 x1 x2 x3 = qkV x1 x2 x3 7 :=
  (congr (congrArg₂ k0_pay15 (rd2 arg2 harg2 x1) (rd3 arg3 harg3 x2)) (rd3 arg4 harg4 x3) :)
theorem dp_eq7 : kernelRun0_B.sl.r_9 (F := Ideal) c arg3 harg3 arg4 harg4 arg5 harg5 x2 x3 x4 = dpV x2 x3 x4 7 :=
  (congrArg₂ k0_pay24 (congrArg k0_pay3 (rd5 arg5 harg5 x4)) (congrArg₂ k0_pay7 (rd3 arg3 harg3 x2) (rd3 arg4 harg4 x3)) :)
theorem ds_eq7 : kernelRun0_B.sl.v524 (F := Ideal) c i arg1 harg1 arg2 harg2 arg3 harg3 arg4 harg4 arg5 harg5 x0 x1 x2 x3 x4 = dsV (Scalar.subi 31#32 (BitVec.ofNat 32 (i 0).val)) x0 x1 x2 x3 x4 7 := by
  have e : kernelRun0_B.sl.v524 (F := Ideal) c i arg1 harg1 arg2 harg2 arg3 harg3 arg4 harg4 arg5 harg5 x0 x1 x2 x3 x4 = dsH (kernelRun0_B.sl.r_9 c arg3 harg3 arg4 harg4 arg5 harg5 x2 x3 x4) (kernelRun0_B.sl.r_42 c arg1 harg1 x0) (scV (kernelRun0_B.sl.v0 i) (slopeW 7) (kernelRun0_B.sl.v36 c arg2 harg2 arg3 harg3 arg4 harg4 x1 x2 x3)) := rfl
  rw [e, dp_eq7, s_eq7, qk_eq7]; rfl
theorem pr_eq7 : kernelRun0_B.sl.v525 (F := Ideal) c i arg1 harg1 arg2 harg2 arg3 harg3 arg4 harg4 x0 x1 x2 x3 = prV (Scalar.subi 31#32 (BitVec.ofNat 32 (i 0).val)) x0 x1 x2 x3 7 := by
  have e : kernelRun0_B.sl.v525 (F := Ideal) c i arg1 harg1 arg2 harg2 arg3 harg3 arg4 harg4 x0 x1 x2 x3 = prH (kernelRun0_B.sl.r_42 c arg1 harg1 x0) (scV (kernelRun0_B.sl.v0 i) (slopeW 7) (kernelRun0_B.sl.v36 c arg2 harg2 arg3 harg3 arg4 harg4 x1 x2 x3)) := rfl
  rw [e, s_eq7, qk_eq7]; rfl
theorem sk_eq7 : kernelRun0_B.sl.v532 (F := Ideal) c i arg1 harg1 arg2 harg2 arg3 harg3 arg4 harg4 arg5 harg5 x0 x1 x2 x3 x4 = skV (Scalar.subi 31#32 (BitVec.ofNat 32 (i 0).val)) x0 x1 x2 x3 x4 7 := by
  have e : kernelRun0_B.sl.v532 (F := Ideal) c i arg1 harg1 arg2 harg2 arg3 harg3 arg4 harg4 arg5 harg5 x0 x1 x2 x3 x4 = skH (kernelRun0_B.sl.r_9 c arg3 harg3 arg4 harg4 arg5 harg5 x2 x3 x4) (kernelRun0_B.sl.r_42 c arg1 harg1 x0) (scV (kernelRun0_B.sl.v0 i) (slopeW 7) (kernelRun0_B.sl.v36 c arg2 harg2 arg3 harg3 arg4 harg4 x1 x2 x3)) := rfl
  rw [e, dp_eq7, s_eq7, qk_eq7]; rfl
theorem dq_eq0 : kernelRun0_B.sl.v533 (F := Ideal) c i arg1 harg1 arg2 harg2 arg3 harg3 arg4 harg4 arg5 harg5 x0 x1 x2 x3 x4 = dqV (Scalar.subi 31#32 (BitVec.ofNat 32 (i 0).val)) x0 x1 x2 x3 x4 0 := by
  have e : kernelRun0_B.sl.v533 (F := Ideal) c i arg1 harg1 arg2 harg2 arg3 harg3 arg4 harg4 arg5 harg5 x0 x1 x2 x3 x4 = k0_pay118 (kernelRun0_B.sl.v11 c arg3 harg3 arg4 harg4 x2 x3) (kernelRun0_B.sl.v104 c i arg1 harg1 arg2 harg2 arg3 harg3 arg4 harg4 arg5 harg5 x0 x1 x2 x3 x4) := rfl
  rw [e, kb_eq0, ds_eq0]; rfl
theorem dq_eq1 : kernelRun0_B.sl.v535 (F := Ideal) c i arg1 harg1 arg2 harg2 arg3 harg3 arg4 harg4 arg5 harg5 x0 x1 x2 x3 x4 = dqV (Scalar.subi 31#32 (BitVec.ofNat 32 (i 0).val)) x0 x1 x2 x3 x4 1 := by
  have e : kernelRun0_B.sl.v535 (F := Ideal) c i arg1 harg1 arg2 harg2 arg3 harg3 arg4 harg4 arg5 harg5 x0 x1 x2 x3 x4 = k0_pay118 (kernelRun0_B.sl.v11 c arg3 harg3 arg4 harg4 x2 x3) (kernelRun0_B.sl.r_15 c i arg1 harg1 arg2 harg2 arg3 harg3 arg4 harg4 arg5 harg5 x0 x1 x2 x3 x4) := rfl
  rw [e, kb_eq0, ds_eq1]; rfl
theorem dq_eq2 : kernelRun0_B.sl.v537 (F := Ideal) c i arg1 harg1 arg2 harg2 arg3 harg3 arg4 harg4 arg5 harg5 x0 x1 x2 x3 x4 = dqV (Scalar.subi 31#32 (BitVec.ofNat 32 (i 0).val)) x0 x1 x2 x3 x4 2 := by
  have e : kernelRun0_B.sl.v537 (F := Ideal) c i arg1 harg1 arg2 harg2 arg3 harg3 arg4 harg4 arg5 harg5 x0 x1 x2 x3 x4 = k0_pay118 (kernelRun0_B.sl.v11 c arg3 harg3 arg4 harg4 x2 x3) (kernelRun0_B.sl.r_21 c i arg1 harg1 arg2 harg2 arg3 harg3 arg4 harg4 arg5 harg5 x0 x1 x2 x3 x4) := rfl
  rw [e, kb_eq0, ds_eq2]; rfl
theorem dq_eq3 : kernelRun0_B.sl.v539 (F := Ideal) c i arg1 harg1 arg2 harg2 arg3 harg3 arg4 harg4 arg5 harg5 x0 x1 x2 x3 x4 = dqV (Scalar.subi 31#32 (BitVec.ofNat 32 (i 0).val)) x0 x1 x2 x3 x4 3 := by
  have e : kernelRun0_B.sl.v539 (F := Ideal) c i arg1 harg1 arg2 harg2 arg3 harg3 arg4 harg4 arg5 harg5 x0 x1 x2 x3 x4 = k0_pay118 (kernelRun0_B.sl.v11 c arg3 harg3 arg4 harg4 x2 x3) (kernelRun0_B.sl.r_29 c i arg1 harg1 arg2 harg2 arg3 harg3 arg4 harg4 arg5 harg5 x0 x1 x2 x3 x4) := rfl
  rw [e, kb_eq0, ds_eq3]; rfl
theorem dq_eq4 : kernelRun0_B.sl.v541 (F := Ideal) c i arg1 harg1 arg2 harg2 arg3 harg3 arg4 harg4 arg5 harg5 x0 x1 x2 x3 x4 = dqV (Scalar.subi 31#32 (BitVec.ofNat 32 (i 0).val)) x0 x1 x2 x3 x4 4 := by
  have e : kernelRun0_B.sl.v541 (F := Ideal) c i arg1 harg1 arg2 harg2 arg3 harg3 arg4 harg4 arg5 harg5 x0 x1 x2 x3 x4 = k0_pay118 (kernelRun0_B.sl.v17 c arg3 harg3 arg4 harg4 x2 x3) (kernelRun0_B.sl.v344 c i arg1 harg1 arg2 harg2 arg3 harg3 arg4 harg4 arg5 harg5 x0 x1 x2 x3 x4) := rfl
  rw [e, kb_eq1, ds_eq4]; rfl
theorem dq_eq5 : kernelRun0_B.sl.v543 (F := Ideal) c i arg1 harg1 arg2 harg2 arg3 harg3 arg4 harg4 arg5 harg5 x0 x1 x2 x3 x4 = dqV (Scalar.subi 31#32 (BitVec.ofNat 32 (i 0).val)) x0 x1 x2 x3 x4 5 := by
  have e : kernelRun0_B.sl.v543 (F := Ideal) c i arg1 harg1 arg2 harg2 arg3 harg3 arg4 harg4 arg5 harg5 x0 x1 x2 x3 x4 = k0_pay118 (kernelRun0_B.sl.v17 c arg3 harg3 arg4 harg4 x2 x3) (kernelRun0_B.sl.r_35 c i arg1 harg1 arg2 harg2 arg3 harg3 arg4 harg4 arg5 harg5 x0 x1 x2 x3 x4) := rfl
  rw [e, kb_eq1, ds_eq5]; rfl
theorem dq_eq6 : kernelRun0_B.sl.v545 (F := Ideal) c i arg1 harg1 arg2 harg2 arg3 harg3 arg4 harg4 arg5 harg5 x0 x1 x2 x3 x4 = dqV (Scalar.subi 31#32 (BitVec.ofNat 32 (i 0).val)) x0 x1 x2 x3 x4 6 := by
  have e : kernelRun0_B.sl.v545 (F := Ideal) c i arg1 harg1 arg2 harg2 arg3 harg3 arg4 harg4 arg5 harg5 x0 x1 x2 x3 x4 = k0_pay118 (kernelRun0_B.sl.v17 c arg3 harg3 arg4 harg4 x2 x3) (kernelRun0_B.sl.r_43 c i arg1 harg1 arg2 harg2 arg3 harg3 arg4 harg4 arg5 harg5 x0 x1 x2 x3 x4) := rfl
  rw [e, kb_eq1, ds_eq6]; rfl
theorem dq_eq7 : kernelRun0_B.sl.v547 (F := Ideal) c i arg1 harg1 arg2 harg2 arg3 harg3 arg4 harg4 arg5 harg5 x0 x1 x2 x3 x4 = dqV (Scalar.subi 31#32 (BitVec.ofNat 32 (i 0).val)) x0 x1 x2 x3 x4 7 := by
  have e : kernelRun0_B.sl.v547 (F := Ideal) c i arg1 harg1 arg2 harg2 arg3 harg3 arg4 harg4 arg5 harg5 x0 x1 x2 x3 x4 = k0_pay118 (kernelRun0_B.sl.v17 c arg3 harg3 arg4 harg4 x2 x3) (kernelRun0_B.sl.v524 c i arg1 harg1 arg2 harg2 arg3 harg3 arg4 harg4 arg5 harg5 x0 x1 x2 x3 x4) := rfl
  rw [e, kb_eq1, ds_eq7]; rfl
theorem prev_eq : View.readAt (Elt Ideal) arg9.view (Rect.unit (s := S128x256) ![0, 0] S128x256.size inb_S128x256_S128x256_0_0).toLoadRect (harg9.unread xs0) = xs0 := by
  rw [View.readAt_eq_ld, harg9.read_unread]; exact View.ld_unit_lit' _ _ (by decide)
/-- The band's gradient, as the run has it. -/
theorem band_eq : k0_pay129 (kernelRun0_B.sl.r c arg2 harg2 x1) (kernelRun0_B.sl.v8 c arg5 harg5 x4) (kernelRun0_B.sl.v345 c i arg1 harg1 arg2 harg2 arg3 harg3 arg4 harg4 x0 x1 x2 x3) (kernelRun0_B.sl.r_35 c i arg1 harg1 arg2 harg2 arg3 harg3 arg4 harg4 arg5 harg5 x0 x1 x2 x3 x4) (kernelRun0_B.sl.r_36 c i arg1 harg1 arg2 harg2 arg3 harg3 arg4 harg4 x0 x1 x2 x3) (kernelRun0_B.sl.r_43 c i arg1 harg1 arg2 harg2 arg3 harg3 arg4 harg4 arg5 harg5 x0 x1 x2 x3 x4) (kernelRun0_B.sl.r_44 c i arg1 harg1 arg2 harg2 arg3 harg3 arg4 harg4 x0 x1 x2 x3) (kernelRun0_B.sl.v524 c i arg1 harg1 arg2 harg2 arg3 harg3 arg4 harg4 arg5 harg5 x0 x1 x2 x3 x4) (kernelRun0_B.sl.v525 c i arg1 harg1 arg2 harg2 arg3 harg3 arg4 harg4 x0 x1 x2 x3) (k0_pay126 (kernelRun0_B.sl.r c arg2 harg2 x1) (kernelRun0_B.sl.v104 c i arg1 harg1 arg2 harg2 arg3 harg3 arg4 harg4 arg5 harg5 x0 x1 x2 x3 x4) (kernelRun0_B.sl.r_15 c i arg1 harg1 arg2 harg2 arg3 harg3 arg4 harg4 arg5 harg5 x0 x1 x2 x3 x4) (kernelRun0_B.sl.r_21 c i arg1 harg1 arg2 harg2 arg3 harg3 arg4 harg4 arg5 harg5 x0 x1 x2 x3 x4) (kernelRun0_B.sl.r_29 c i arg1 harg1 arg2 harg2 arg3 harg3 arg4 harg4 arg5 harg5 x0 x1 x2 x3 x4)) (k0_pay127 (kernelRun0_B.sl.v8 c arg5 harg5 x4) (kernelRun0_B.sl.v105 c i arg1 harg1 arg2 harg2 arg3 harg3 arg4 harg4 x0 x1 x2 x3) (kernelRun0_B.sl.r_16 c i arg1 harg1 arg2 harg2 arg3 harg3 arg4 harg4 x0 x1 x2 x3) (kernelRun0_B.sl.r_23 c i arg1 harg1 arg2 harg2 arg3 harg3 arg4 harg4 x0 x1 x2 x3) (kernelRun0_B.sl.r_30 c i arg1 harg1 arg2 harg2 arg3 harg3 arg4 harg4 x0 x1 x2 x3)) (k0_pay128 (kernelRun0_B.sl.r c arg2 harg2 x1) (kernelRun0_B.sl.v344 c i arg1 harg1 arg2 harg2 arg3 harg3 arg4 harg4 arg5 harg5 x0 x1 x2 x3 x4)) = bandV (Scalar.subi 31#32 (BitVec.ofNat 32 (i 0).val)) x0 x1 x2 x3 x4 := by
  rw [q_eq, do_eq, ds_eq0, ds_eq1, ds_eq2, ds_eq3, ds_eq4, ds_eq5, ds_eq6, ds_eq7, pr_eq0, pr_eq1, pr_eq2, pr_eq3, pr_eq4, pr_eq5, pr_eq6, pr_eq7]; rfl
variable (hc0 : ¬cond0_0 i)
theorem out5 : out0_B_5 (F := Ideal) c i arg1 harg1 arg2 harg2 arg3 harg3 arg4 harg4 arg5 harg5 arg6 harg6 arg7 harg7 arg8 harg8 arg9 harg9 hc0 x0 x1 x2 x3 x4 xs0 = View.canon (dqP (dqV (Scalar.subi 31#32 (BitVec.ofNat 32 (i 0).val)) x0 x1 x2 x3 x4)) := by
  unfold out0_B_5; rw [View.read_writes_eq_canon _ _ _ (cover0_B_5 c i arg1 harg1 arg2 harg2 arg3 harg3 arg4 harg4 arg5 harg5 arg6 harg6 arg7 harg7 arg8 harg8 arg9 harg9 hc0 x0 x1 x2 x3 x4 xs0)]
  have e : (kernelRun0_B (F := Ideal) c i arg1 harg1 arg2 harg2 arg3 harg3 arg4 harg4 arg5 harg5 arg6 harg6 arg7 harg7 arg8 harg8 arg9 harg9 hc0 x0 x1 x2 x3 x4 xs0).1 = dqP (pick (kernelRun0_B.sl.v533 c i arg1 harg1 arg2 harg2 arg3 harg3 arg4 harg4 arg5 harg5 x0 x1 x2 x3 x4) (kernelRun0_B.sl.v535 c i arg1 harg1 arg2 harg2 arg3 harg3 arg4 harg4 arg5 harg5 x0 x1 x2 x3 x4) (kernelRun0_B.sl.v537 c i arg1 harg1 arg2 harg2 arg3 harg3 arg4 harg4 arg5 harg5 x0 x1 x2 x3 x4) (kernelRun0_B.sl.v539 c i arg1 harg1 arg2 harg2 arg3 harg3 arg4 harg4 arg5 harg5 x0 x1 x2 x3 x4) (kernelRun0_B.sl.v541 c i arg1 harg1 arg2 harg2 arg3 harg3 arg4 harg4 arg5 harg5 x0 x1 x2 x3 x4) (kernelRun0_B.sl.v543 c i arg1 harg1 arg2 harg2 arg3 harg3 arg4 harg4 arg5 harg5 x0 x1 x2 x3 x4) (kernelRun0_B.sl.v545 c i arg1 harg1 arg2 harg2 arg3 harg3 arg4 harg4 arg5 harg5 x0 x1 x2 x3 x4) (kernelRun0_B.sl.v547 c i arg1 harg1 arg2 harg2 arg3 harg3 arg4 harg4 arg5 harg5 x0 x1 x2 x3 x4)) := rfl
  rw [e, dq_eq0, dq_eq1, dq_eq2, dq_eq3, dq_eq4, dq_eq5, dq_eq6, dq_eq7]; rfl
theorem out6 : out0_B_6 (F := Ideal) c i arg1 harg1 arg2 harg2 arg3 harg3 arg4 harg4 arg5 harg5 arg6 harg6 arg7 harg7 arg8 harg8 arg9 harg9 hc0 x0 x1 x2 x3 x4 xs0 = dkvV (Scalar.subi 31#32 (BitVec.ofNat 32 (i 0).val)) x0 x1 x2 x3 x4 xs0 := by
  unfold out0_B_6; rw [View.read_writes_eq_canon _ _ _ (cover0_B_6 c i arg1 harg1 arg2 harg2 arg3 harg3 arg4 harg4 arg5 harg5 arg6 harg6 arg7 harg7 arg8 harg8 arg9 harg9 hc0 x0 x1 x2 x3 x4 xs0)]
  have e : (kernelRun0_B (F := Ideal) c i arg1 harg1 arg2 harg2 arg3 harg3 arg4 harg4 arg5 harg5 arg6 harg6 arg7 harg7 arg8 harg8 arg9 harg9 hc0 x0 x1 x2 x3 x4 xs0).2.1 =
      [⟨Rect.unit ![0, 0] ![128, 256] inb_S128x256_S128x256_0_0, addf (extractStridedSlice S128x256 ![128, 0] (k0_pay129 (kernelRun0_B.sl.r c arg2 harg2 x1) (kernelRun0_B.sl.v8 c arg5 harg5 x4) (kernelRun0_B.sl.v345 c i arg1 harg1 arg2 harg2 arg3 harg3 arg4 harg4 x0 x1 x2 x3) (kernelRun0_B.sl.r_35 c i arg1 harg1 arg2 harg2 arg3 harg3 arg4 harg4 arg5 harg5 x0 x1 x2 x3 x4) (kernelRun0_B.sl.r_36 c i arg1 harg1 arg2 harg2 arg3 harg3 arg4 harg4 x0 x1 x2 x3) (kernelRun0_B.sl.r_43 c i arg1 harg1 arg2 harg2 arg3 harg3 arg4 harg4 arg5 harg5 x0 x1 x2 x3 x4) (kernelRun0_B.sl.r_44 c i arg1 harg1 arg2 harg2 arg3 harg3 arg4 harg4 x0 x1 x2 x3) (kernelRun0_B.sl.v524 c i arg1 harg1 arg2 harg2 arg3 harg3 arg4 harg4 arg5 harg5 x0 x1 x2 x3 x4) (kernelRun0_B.sl.v525 c i arg1 harg1 arg2 harg2 arg3 harg3 arg4 harg4 x0 x1 x2 x3) (k0_pay126 (kernelRun0_B.sl.r c arg2 harg2 x1) (kernelRun0_B.sl.v104 c i arg1 harg1 arg2 harg2 arg3 harg3 arg4 harg4 arg5 harg5 x0 x1 x2 x3 x4) (kernelRun0_B.sl.r_15 c i arg1 harg1 arg2 harg2 arg3 harg3 arg4 harg4 arg5 harg5 x0 x1 x2 x3 x4) (kernelRun0_B.sl.r_21 c i arg1 harg1 arg2 harg2 arg3 harg3 arg4 harg4 arg5 harg5 x0 x1 x2 x3 x4) (kernelRun0_B.sl.r_29 c i arg1 harg1 arg2 harg2 arg3 harg3 arg4 harg4 arg5 harg5 x0 x1 x2 x3 x4)) (k0_pay127 (kernelRun0_B.sl.v8 c arg5 harg5 x4) (kernelRun0_B.sl.v105 c i arg1 harg1 arg2 harg2 arg3 harg3 arg4 harg4 x0 x1 x2 x3) (kernelRun0_B.sl.r_16 c i arg1 harg1 arg2 harg2 arg3 harg3 arg4 harg4 x0 x1 x2 x3) (kernelRun0_B.sl.r_23 c i arg1 harg1 arg2 harg2 arg3 harg3 arg4 harg4 x0 x1 x2 x3) (kernelRun0_B.sl.r_30 c i arg1 harg1 arg2 harg2 arg3 harg3 arg4 harg4 x0 x1 x2 x3)) (k0_pay128 (kernelRun0_B.sl.r c arg2 harg2 x1) (kernelRun0_B.sl.v344 c i arg1 harg1 arg2 harg2 arg3 harg3 arg4 harg4 arg5 harg5 x0 x1 x2 x3 x4))) slices_S256x256_o128_0_S128x256) (View.readAt (Elt Ideal) arg9.view (Rect.unit (s := S128x256) ![0, 0] S128x256.size inb_S128x256_S128x256_0_0).toLoadRect (harg9.unread xs0))⟩] := rfl
  rw [e, band_eq, prev_eq]; exact View.canon_unit_zero (by decide) _ _
theorem out7 : out0_B_7 (F := Ideal) c i arg1 harg1 arg2 harg2 arg3 harg3 arg4 harg4 arg5 harg5 arg6 harg6 arg7 harg7 arg8 harg8 arg9 harg9 hc0 x0 x1 x2 x3 x4 xs0 = dskV (Scalar.subi 31#32 (BitVec.ofNat 32 (i 0).val)) x0 x1 x2 x3 x4 := by
  unfold out0_B_7; rw [View.read_writes_eq_canon _ _ _ (cover0_B_7 c i arg1 harg1 arg2 harg2 arg3 harg3 arg4 harg4 arg5 harg5 arg6 harg6 arg7 harg7 arg8 harg8 arg9 harg9 hc0 x0 x1 x2 x3 x4 xs0)]
  have e : (kernelRun0_B (F := Ideal) c i arg1 harg1 arg2 harg2 arg3 harg3 arg4 harg4 arg5 harg5 arg6 harg6 arg7 harg7 arg8 harg8 arg9 harg9 hc0 x0 x1 x2 x3 x4 xs0).2.2.1 =
      [⟨Rect.unit ![0, 0, 0] ![1, 8, 128] inb_S1x8x128_S1x8x128_0_0_0, k0_pay1 (kernelRun0_B.sl.v112 c i arg1 harg1 arg2 harg2 arg3 harg3 arg4 harg4 arg5 harg5 x0 x1 x2 x3 x4) (kernelRun0_B.sl.r_17 c i arg1 harg1 arg2 harg2 arg3 harg3 arg4 harg4 arg5 harg5 x0 x1 x2 x3 x4) (kernelRun0_B.sl.r_24 c i arg1 harg1 arg2 harg2 arg3 harg3 arg4 harg4 arg5 harg5 x0 x1 x2 x3 x4) (kernelRun0_B.sl.r_31 c i arg1 harg1 arg2 harg2 arg3 harg3 arg4 harg4 arg5 harg5 x0 x1 x2 x3 x4) (kernelRun0_B.sl.v352 c i arg1 harg1 arg2 harg2 arg3 harg3 arg4 harg4 arg5 harg5 x0 x1 x2 x3 x4) (kernelRun0_B.sl.r_37 c i arg1 harg1 arg2 harg2 arg3 harg3 arg4 harg4 arg5 harg5 x0 x1 x2 x3 x4) (kernelRun0_B.sl.r_45 c i arg1 harg1 arg2 harg2 arg3 harg3 arg4 harg4 arg5 harg5 x0 x1 x2 x3 x4) (kernelRun0_B.sl.v532 c i arg1 harg1 arg2 harg2 arg3 harg3 arg4 harg4 arg5 harg5 x0 x1 x2 x3 x4)⟩] := rfl
  rw [e, sk_eq0, sk_eq1, sk_eq2, sk_eq3, sk_eq4, sk_eq5, sk_eq6, sk_eq7]; exact View.canon_unit_zero (by decide) _ _
theorem sout : sout0_B_0 (F := Ideal) c i arg1 harg1 arg2 harg2 arg3 harg3 arg4 harg4 arg5 harg5 arg6 harg6 arg7 harg7 arg8 harg8 arg9 harg9 hc0 x0 x1 x2 x3 x4 xs0 = carryV (Scalar.subi 31#32 (BitVec.ofNat 32 (i 0).val)) x0 x1 x2 x3 x4 := by
  unfold sout0_B_0; rw [View.read_writes_eq_canon _ _ _ (scover0_B_0 c i arg1 harg1 arg2 harg2 arg3 harg3 arg4 harg4 arg5 harg5 arg6 harg6 arg7 harg7 arg8 harg8 arg9 harg9 hc0 x0 x1 x2 x3 x4 xs0)]
  have e : (kernelRun0_B (F := Ideal) c i arg1 harg1 arg2 harg2 arg3 harg3 arg4 harg4 arg5 harg5 arg6 harg6 arg7 harg7 arg8 harg8 arg9 harg9 hc0 x0 x1 x2 x3 x4 xs0).2.2.2.1 =
      ⟨Rect.unit ![0, 0] ![128, 256] inb_S128x256_S128x256_0_0, shapeCast S128x256 (extractStridedSlice S128x256 ![0, 0] (k0_pay129 (kernelRun0_B.sl.r c arg2 harg2 x1) (kernelRun0_B.sl.v8 c arg5 harg5 x4) (kernelRun0_B.sl.v345 c i arg1 harg1 arg2 harg2 arg3 harg3 arg4 harg4 x0 x1 x2 x3) (kernelRun0_B.sl.r_35 c i arg1 harg1 arg2 harg2 arg3 harg3 arg4 harg4 arg5 harg5 x0 x1 x2 x3 x4) (kernelRun0_B.sl.r_36 c i arg1 harg1 arg2 harg2 arg3 harg3 arg4 harg4 x0 x1 x2 x3) (kernelRun0_B.sl.r_43 c i arg1 harg1 arg2 harg2 arg3 harg3 arg4 harg4 arg5 harg5 x0 x1 x2 x3 x4) (kernelRun0_B.sl.r_44 c i arg1 harg1 arg2 harg2 arg3 harg3 arg4 harg4 x0 x1 x2 x3) (kernelRun0_B.sl.v524 c i arg1 harg1 arg2 harg2 arg3 harg3 arg4 harg4 arg5 harg5 x0 x1 x2 x3 x4) (kernelRun0_B.sl.v525 c i arg1 harg1 arg2 harg2 arg3 harg3 arg4 harg4 x0 x1 x2 x3) (k0_pay126 (kernelRun0_B.sl.r c arg2 harg2 x1) (kernelRun0_B.sl.v104 c i arg1 harg1 arg2 harg2 arg3 harg3 arg4 harg4 arg5 harg5 x0 x1 x2 x3 x4) (kernelRun0_B.sl.r_15 c i arg1 harg1 arg2 harg2 arg3 harg3 arg4 harg4 arg5 harg5 x0 x1 x2 x3 x4) (kernelRun0_B.sl.r_21 c i arg1 harg1 arg2 harg2 arg3 harg3 arg4 harg4 arg5 harg5 x0 x1 x2 x3 x4) (kernelRun0_B.sl.r_29 c i arg1 harg1 arg2 harg2 arg3 harg3 arg4 harg4 arg5 harg5 x0 x1 x2 x3 x4)) (k0_pay127 (kernelRun0_B.sl.v8 c arg5 harg5 x4) (kernelRun0_B.sl.v105 c i arg1 harg1 arg2 harg2 arg3 harg3 arg4 harg4 x0 x1 x2 x3) (kernelRun0_B.sl.r_16 c i arg1 harg1 arg2 harg2 arg3 harg3 arg4 harg4 x0 x1 x2 x3) (kernelRun0_B.sl.r_23 c i arg1 harg1 arg2 harg2 arg3 harg3 arg4 harg4 x0 x1 x2 x3) (kernelRun0_B.sl.r_30 c i arg1 harg1 arg2 harg2 arg3 harg3 arg4 harg4 x0 x1 x2 x3)) (k0_pay128 (kernelRun0_B.sl.r c arg2 harg2 x1) (kernelRun0_B.sl.v344 c i arg1 harg1 arg2 harg2 arg3 harg3 arg4 harg4 arg5 harg5 x0 x1 x2 x3 x4))) slices_S256x256_o0_0_S128x256) shapeCasts_S128x256_S128x256⟩ :: [] := rfl
  rw [e, band_eq]; exact View.canon_cons_unit_zero (by decide) _ _ _

end Cert.KernelIdeal.Value.RunB
end
-- ==== Proof.Points.lean ====
module

public import proofs.«01_k».proof.Proof.WordsA
public import proofs.«01_k».proof.Proof.WordsB

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-! # What each grid point leaves, over the blocks it reads -/

variable (m : (ℓ : Loc nD τ sig) → Buf (Elt Ideal) ℓ) (c : Dev nD) (t : Fin cfg0.N)

/-- The body's block number at point `t`. -/
def wordV : BitVec 32 := Scalar.subi 31#32 (BitVec.ofNat 32 (grid0.coords t 0).val)

/-- What the point before left in the scratch: nothing before the first point. -/
def prevV : FVec Ideal S128x256 .f32 :=
  if t.val % 32 = 0 then (k0_pay2 (F := Ideal) : Vec Ideal S128x256 .f32)
  else (outsAt0 m c (t.val - 1) (Nat.lt_of_le_of_lt (Nat.sub_le _ _) t.isLt)).2.2.2

theorem outs_eq : outsAt0 m c t.val t.isLt =
    (View.canon (dqP (dqV (wordV t) (iblk m c 0 t) (iblk m c 1 t) (iblk m c 2 t) (iblk m c 3 t) (iblk m c 4 t))),
     dkvV (wordV t) (iblk m c 0 t) (iblk m c 1 t) (iblk m c 2 t) (iblk m c 3 t) (iblk m c 4 t) (prevV m c t),
     dskV (wordV t) (iblk m c 0 t) (iblk m c 1 t) (iblk m c 2 t) (iblk m c 3 t) (iblk m c 4 t),
     carryV (wordV t) (iblk m c 0 t) (iblk m c 1 t) (iblk m c 2 t) (iblk m c 3 t) (iblk m c 4 t)) := by
  by_cases h : t.val % 32 = 0
  · rw [outsAt0_A m c t h, RunA.out5, RunA.out6, RunA.out7, RunA.sout, prevV, if_pos h]; rfl
  · rw [outsAt0_B m c t h, RunB.out5, RunB.out6, RunB.out7, RunB.sout, prevV, if_neg h]; rfl

end Cert.KernelIdeal.Value
end
-- ==== Proof.Row.lean ====
module

public import Idealize.ShloMosaic.Lib.Pipeline.ValueKit

@[expose] public section

noncomputable section

open Idealize.ShloMosaic

namespace Cert.Row

/-! # One row of the softmax with a sink, and its gradient

`x` holds the row's 256 scores (`⊥` where masked), `s` the sink's score, `dp` the gradient of the row's
probabilities. The kernel's arithmetic and the derivative's are both written down here and proved equal. -/

variable (x : Fin 256 → EReal) (s : EReal) (dp : Fin 256 → EReal)

/-- The largest score of the row, the sink's among them. -/
def M : EReal := max (Finset.fold max ⊥ x Finset.univ) s
/-- The exponential of a score. -/
def e (j : Fin 256) : EReal := Ideal.exp (x j - M x s)
/-- The exponential of the sink's score. -/
def es : EReal := Ideal.exp (s - M x s)
/-- The normaliser. -/
def S : EReal := ∑ j, e x s j + es x s

/-- A probability, as the kernel has it: times the reciprocal. -/
def pr (j : Fin 256) : EReal := e x s j * Ideal.div 1 (S x s)
/-- The row's inner product of probabilities and their gradients. -/
def dl : EReal := ∑ j, pr x s j * dp j
/-- The gradient of a score, before the scale. -/
def ds (j : Fin 256) : EReal := pr x s j * (dp j - dl x s dp)
/-- The sink's probability times the inner product. -/
def sk : EReal := es x s * Ideal.div 1 (S x s) * dl x s dp

/-- The derivative's sum along the row. -/
def rT : EReal :=
  ∑ j, dp j * Ideal.div 1 (S x s * S x s) * e x s j + 0 * Ideal.div 1 (S x s * S x s) * es x s

theorem exp_sub_le {a b : EReal} (h : a ≤ b) : ∃ r : ℝ, 0 ≤ r ∧ Ideal.exp (a - b) = r := by
  have hb : Ideal.exp ⊥ = ((0 : ℝ) : EReal) := rfl
  induction a using EReal.rec with
  | bot => exact ⟨0, le_rfl, by rw [EReal.bot_sub]; rfl⟩
  | top => rw [top_le_iff] at h; subst h; exact ⟨0, le_rfl, by rw [EReal.sub_top]; rfl⟩
  | coe a =>
    induction b using EReal.rec with
    | bot => exact absurd h (by simp)
    | top => exact ⟨0, le_rfl, by rw [EReal.sub_top]; rfl⟩
    | coe b => exact ⟨Real.exp (a - b), (Real.exp_pos _).le, by rw [← EReal.coe_sub]; rfl⟩

theorem le_M (j : Fin 256) : x j ≤ M x s := by
  refine le_trans ?_ (le_max_left _ _)
  exact (Finset.le_fold_max (x j)).mpr (.inr ⟨j, Finset.mem_univ _, le_rfl⟩)

theorem e_real (j : Fin 256) : ∃ r : ℝ, 0 ≤ r ∧ e x s j = r := exp_sub_le (le_M x s j)
theorem es_real : ∃ r : ℝ, 0 ≤ r ∧ es x s = r := exp_sub_le (le_max_right _ _)

/-- A masked score has exponential zero. -/
theorem e_bot {j : Fin 256} (h : x j = ⊥) : e x s j = 0 := by
  unfold e; rw [h, EReal.bot_sub]; rfl

theorem pr_bot {j : Fin 256} (h : x j = ⊥) : pr x s j = 0 := by rw [pr, e_bot x s h, zero_mul]
theorem ds_bot {j : Fin 256} (h : x j = ⊥) : ds x s dp j = 0 := by rw [ds, pr_bot x s h, zero_mul]

/-- The gradients of the masked scores' probabilities play no part. -/
theorem dl_congr {dp' : Fin 256 → EReal} (h : ∀ j, x j = ⊥ ∨ dp j = dp' j) : dl x s dp = dl x s dp' := by
  unfold dl; refine Finset.sum_congr rfl fun j _ => ?_
  rcases h j with h | h
  · rw [pr_bot x s h, zero_mul, zero_mul]
  · rw [h]

theorem ds_congr {dp' : Fin 256 → EReal} (h : ∀ j, x j = ⊥ ∨ dp j = dp' j) (j : Fin 256) : ds x s dp j = ds x s dp' j := by
  unfold ds; rw [dl_congr x s dp h]
  rcases h j with h | h
  · rw [pr_bot x s h, zero_mul, zero_mul]
  · rw [h]

theorem sk_congr {dp' : Fin 256 → EReal} (h : ∀ j, x j = ⊥ ∨ dp j = dp' j) : sk x s dp = sk x s dp' := by
  unfold sk; rw [dl_congr x s dp h]

theorem sum_coe {n : ℕ} (f : Fin n → ℝ) : (∑ j, (f j : EReal)) = ((∑ j, f j : ℝ) : EReal) :=
  (map_sum (⟨⟨fun r : ℝ => (r : EReal), EReal.coe_zero⟩, EReal.coe_add⟩ : ℝ →+ EReal) f Finset.univ).symm

theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- The row over the reals: the exponentials, the sink's, and what the normaliser is then. -/
theorem real_row (hdp : ∀ j, ∃ r : ℝ, dp j = r) :
    ∃ (a : Fin 256 → ℝ) (b : ℝ) (d : Fin 256 → ℝ), (∀ j, 0 ≤ a j) ∧ 0 ≤ b ∧ (∀ j, e x s j = a j) ∧ es x s = b ∧
      (∀ j, dp j = d j) ∧ S x s = ((∑ j, a j + b : ℝ) : EReal) := by
  choose a ha ea using e_real x s
  obtain ⟨b, hb, eb⟩ := es_real x s
  choose d hd using hdp
  refine ⟨a, b, d, ha, hb, ea, eb, hd, ?_⟩
  unfold S; simp only [ea, eb]; rw [sum_coe, ← EReal.coe_add]

theorem zero_row {a : Fin 256 → ℝ} {b : ℝ} (ha : ∀ j, 0 ≤ a j) (hb : 0 ≤ b) (h : ∑ j, a j + b = 0) :
    (∀ j, a j = 0) ∧ b = 0 := by
  have h0 : 0 ≤ ∑ j, a j := Finset.sum_nonneg fun j _ => ha j
  have hs : ∑ j, a j = 0 := by linarith
  exact ⟨fun j => (Finset.sum_eq_zero_iff_of_nonneg fun j _ => ha j).mp hs j (Finset.mem_univ _), by linarith⟩

/-- The probability, as the derivative's forward lines have it. -/
theorem pr_eq (j : Fin 256) : Ideal.div (e x s j) (S x s) = pr x s j ∨ S x s = 0 := by
  by_cases h : S x s = 0
  · exact .inr h
  · exact .inl (by unfold pr Ideal.div; rw [if_neg h, if_neg h, one_mul])

theorem dl_real (hdp : ∀ j, ∃ r : ℝ, dp j = r) : ∃ r : ℝ, sk x s dp = r := by
  obtain ⟨a, b, d, ha, hb, ea, eb, hd, hS⟩ := real_row x s dp hdp
  by_cases h : ∑ j, a j + b = 0
  · exact ⟨0, by rw [sk, eb, (zero_row ha hb h).2, EReal.coe_zero, zero_mul, zero_mul]⟩
  · refine ⟨b * (1 / (∑ j, a j + b)) * ∑ j, a j * (1 / (∑ j, a j + b)) * d j, ?_⟩
    unfold sk dl pr; simp only [hS, ea, eb, hd]
    rw [← EReal.coe_one, div_coe _ h]; simp only [← EReal.coe_mul, sum_coe]

/-- The derivative's gradient of a score is the kernel's. -/
theorem ref_ds (hdp : ∀ j, ∃ r : ℝ, dp j = r) (j : Fin 256) :
    (Ideal.div (dp j) (S x s) + -rT x s dp) * e x s j = ds x s dp j := by
  obtain ⟨a, b, d, ha, hb, ea, eb, hd, hS⟩ := real_row x s dp hdp
  by_cases h : ∑ j, a j + b = 0
  · have h0 := (zero_row ha hb h).1
    unfold ds pr; rw [ea, h0 j, EReal.coe_zero, mul_zero, zero_mul, zero_mul]
  · unfold ds rT dl pr; simp only [hS, ea, eb, hd]
    have h2 : (∑ j, a j + b) * (∑ j, a j + b) ≠ 0 := mul_ne_zero h h
    rw [div_coe _ h, ← EReal.coe_one, ← EReal.coe_mul, div_coe _ h2, div_coe _ h, ← EReal.coe_zero]
    simp only [← EReal.coe_mul, sum_coe, ← EReal.coe_add, ← EReal.coe_neg, ← EReal.coe_sub]
    congr 1
    have e1 : ∑ k, d k * (1 / ((∑ j, a j + b) * (∑ j, a j + b))) * a k
        = (∑ k, a k * (1 / (∑ j, a j + b)) * d k) * (1 / (∑ j, a j + b)) := by
      rw [Finset.sum_mul]; refine Finset.sum_congr rfl fun k _ => ?_
      field_simp
    rw [e1]; ring

/-- The derivative's gradient of the sink's score is the kernel's. -/
theorem ref_sk (hdp : ∀ j, ∃ r : ℝ, dp j = r) :
    (Ideal.div 0 (S x s) + -rT x s dp) * es x s = -sk x s dp := by
  obtain ⟨a, b, d, ha, hb, ea, eb, hd, hS⟩ := real_row x s dp hdp
  by_cases h : ∑ j, a j + b = 0
  · have h0 := (zero_row ha hb h).2
    unfold sk; rw [eb, h0, EReal.coe_zero, mul_zero, zero_mul, zero_mul, neg_zero]
  · unfold sk rT dl pr; simp only [hS, ea, eb, hd]
    have h2 : (∑ j, a j + b) * (∑ j, a j + b) ≠ 0 := mul_ne_zero h h
    rw [← EReal.coe_zero, div_coe _ h, ← EReal.coe_one, ← EReal.coe_mul, div_coe _ h2, div_coe _ h]
    simp only [← EReal.coe_mul, sum_coe, ← EReal.coe_add, ← EReal.coe_neg, ← EReal.coe_sub]
    congr 1
    have e1 : ∑ k, d k * (1 / ((∑ j, a j + b) * (∑ j, a j + b))) * a k
        = (∑ k, a k * (1 / (∑ j, a j + b)) * d k) * (1 / (∑ j, a j + b)) := by
      rw [Finset.sum_mul]; refine Finset.sum_congr rfl fun k _ => ?_
      field_simp
    rw [e1]; ring

end Cert.Row
end
-- ==== Proof.Spec.lean ====
module

public import proofs.«01_k».proof.Proof.Row

@[expose] public section

noncomputable section

open Idealize.ShloMosaic

namespace Cert.Spec

/-! # The gradient of the sliding-window attention, written down once

Both programs are shown to compute these functions of the arrays: the queries `Q`, the keys and values `KV`
side by side, the sinks `SK`, and the output's gradient `DO`. Query block `n` attends to the 256 positions from
`128 (n - 1)` on; positions before the sequence are masked. -/

variable (Q : Fin 4096 → Fin 512 → EReal) (KV : Fin 4096 → Fin 256 → EReal) (SK : Fin 8 → EReal)
  (DO : Fin 4096 → Fin 512 → EReal)

/-- Row `r` of block `n`. -/
def row (n : Fin 32) (r : Fin 128) : Fin 4096 := ⟨128 * n.val + r.val, by omega⟩
/-- Column `d` of query head `h`. -/
def qcol (h : Fin 8) (d : Fin 64) : Fin 512 := ⟨64 * h.val + d.val, by omega⟩
/-- Column `d` of the keys that head `h` reads. -/
def kcol (h : Fin 8) (d : Fin 64) : Fin 256 := ⟨64 * (h.val / 4) + d.val, by omega⟩
/-- Column `d` of the values that head `h` reads. -/
def vcol (h : Fin 8) (d : Fin 64) : Fin 256 := ⟨128 + 64 * (h.val / 4) + d.val, by omega⟩

/-- Position `j` of block `n`'s band: nothing before the sequence. -/
def band (n : Fin 32) (j : Fin 256) (c : Fin 256) : EReal :=
  if h : 128 ≤ 128 * n.val + j.val then KV ⟨128 * n.val + j.val - 128, by omega⟩ c else 0

/-- Row `r` of block `n` attends to position `j` of its band. -/
def ok (n : Fin 32) (r : Fin 128) (j : Fin 256) : Prop :=
  j.val ≤ 128 + r.val ∧ r.val < j.val ∧ 128 ≤ 128 * n.val + j.val

instance (n : Fin 32) (r : Fin 128) (j : Fin 256) : Decidable (ok n r j) := by unfold ok; infer_instance

/-- The head's slope. -/
def slope (h : Fin 8) : EReal :=
  Ideal.ofBits .f32 (![0x3F000000#32, 0x3E800000#32, 0x3E000000#32, 0x3D800000#32, 0x3D000000#32, 0x3C800000#32,
    0x3C000000#32, 0x3B800000#32] h)

/-- One eighth, the scores' scale. -/
def eighth : EReal := Ideal.ofBits .f32 0x3E000000#32

/-- How far position `j` lies behind row `r`. -/
def dist (r : Fin 128) (j : Fin 256) : EReal := (((128 + r.val : ℤ) - j.val : ℤ) : ℝ)

/-- The scores: masked ones are `⊥`. -/
def sc (n : Fin 32) (h : Fin 8) (r : Fin 128) (j : Fin 256) : EReal :=
  if ok n r j then
    (∑ d, Q (row n r) (qcol h d) * band KV n j (kcol h d)) * eighth - slope h * dist r j
  else ⊥

/-- The gradient of the probabilities. -/
def dp (n : Fin 32) (h : Fin 8) (r : Fin 128) (j : Fin 256) : EReal :=
  ∑ d, DO (row n r) (qcol h d) * band KV n j (vcol h d)

/-- The probabilities. -/
def pr (n : Fin 32) (h : Fin 8) (r : Fin 128) (j : Fin 256) : EReal := Row.pr (sc Q KV n h r) (SK h) j

/-- The gradient of the scaled products. -/
def ds (n : Fin 32) (h : Fin 8) (r : Fin 128) (j : Fin 256) : EReal :=
  Row.ds (sc Q KV n h r) (SK h) (dp KV DO n h r) j * eighth

/-- The row's part of the sink's gradient, up to its sign. -/
def sk (n : Fin 32) (h : Fin 8) (r : Fin 128) : EReal := Row.sk (sc Q KV n h r) (SK h) (dp KV DO n h r)

/-- The queries' gradient, by block, head, row and column. -/
def dq (n : Fin 32) (h : Fin 8) (r : Fin 128) (d : Fin 64) : EReal :=
  ∑ j, ds Q KV SK DO n h r j * band KV n j (kcol h d)

/-- Query head `g` of key head `k`. -/
def hd (k : Fin 2) (g : Fin 4) : Fin 8 := ⟨4 * k.val + g.val, by omega⟩

/-- The band's keys' gradient from block `n`. -/
def dk (n : Fin 32) (j : Fin 256) (k : Fin 2) (d : Fin 64) : EReal :=
  ∑ g : Fin 4, ∑ r : Fin 128, ds Q KV SK DO n (hd k g) r j * Q (row n r) (qcol (hd k g) d)

/-- The band's values' gradient from block `n`. -/
def dv (n : Fin 32) (j : Fin 256) (k : Fin 2) (d : Fin 64) : EReal :=
  ∑ g : Fin 4, ∑ r : Fin 128, pr Q KV SK n (hd k g) r j * DO (row n r) (qcol (hd k g) d)

/-- Both, side by side as the keys and values are. -/
def dband (n : Fin 32) (j : Fin 256) (c : Fin 256) : EReal :=
  if h : c.val < 128 then dk Q KV SK DO n j ⟨c.val / 64, by omega⟩ ⟨c.val % 64, by omega⟩
  else dv Q KV SK DO n j ⟨c.val / 64 - 2, by omega⟩ ⟨c.val % 64, by omega⟩

/-- The keys' and values' gradient: position `r` of block `n` lies in its own band and in the next one's. -/
def dkv (n : Fin 32) (r : Fin 128) (c : Fin 256) : EReal :=
  dband Q KV SK DO n ⟨128 + r.val, by omega⟩ c +
    if h : n.val + 1 < 32 then dband Q KV SK DO ⟨n.val + 1, h⟩ ⟨r.val, by omega⟩ c else 0

/-- The sinks' gradient. -/
def dsk (h : Fin 8) : EReal := ∑ n : Fin 32, (0 - ∑ r : Fin 128, sk Q KV SK DO n h r)

end Cert.Spec
end
-- ==== Proof.Mask.lean ====
module

public import proofs.«01_k».proof.Proof.Spec

@[expose] public section

noncomputable section

open Idealize.ShloMosaic Idealize.ShloMosaic.TcCoe

namespace Cert.Mask

/-! # The mask's words, at the numbers they stand for -/

theorem inside_word : ∀ (r : Fin 128) (j : Fin 256),
    IntOp.andi (IntOp.cmpi .sge (IntOp.subi (IntOp.addi (128#32) (BitVec.ofNat 32 r.val)) (BitVec.ofNat 32 j.val)) 0#32)
      (IntOp.cmpi .slt (IntOp.subi (IntOp.addi (128#32) (BitVec.ofNat 32 r.val)) (BitVec.ofNat 32 j.val)) 128#32)
      = if j.val ≤ 128 + r.val ∧ r.val < j.val then 1#1 else 0#1 := by decide +kernel

theorem there_word : ∀ (n : Fin 32) (j : Fin 256),
    IntOp.ori (IntOp.cmpi .sge (BitVec.ofNat 32 j.val) 128#32) (Scalar.cmpi .sgt (BitVec.ofNat 32 n.val) 0#32)
      = if 128 ≤ 128 * n.val + j.val then 1#1 else 0#1 := by decide +kernel

theorem dist_word : ∀ (r : Fin 128) (j : Fin 256),
    (IntOp.subi (IntOp.addi (128#32) (BitVec.ofNat 32 r.val)) (BitVec.ofNat 32 j.val)).toInt = (128 + r.val : ℤ) - j.val := by
  decide +kernel

/-- The reference's third condition: the position's number is not negative. -/
theorem pos_word : ∀ (n : Fin 32) (j : Fin 256),
    IntOp.cmpi .sge (IntOp.addi (IntOp.muli (IntOp.subi (BitVec.ofNat 32 n.val) 1#32) 128#32) (BitVec.ofNat 32 j.val)) 0#32
      = if 128 ≤ 128 * n.val + j.val then 1#1 else 0#1 := by decide +kernel

end Cert.Mask
end
-- ==== Proof.Body.lean ====
module

public import proofs.«01_k».proof.Proof.Heads
public import proofs.«01_k».proof.Proof.Mask

@[expose] public section

set_option maxRecDepth 16384

noncomputable section

open Idealize.ShloMosaic Idealize.ShloMosaic.TcCoe Idealize.SL.Sem

namespace Cert.KernelIdeal.Value
open Cert.KernelIdeal Cert.KernelIdeal.Gen

/-! # The heads' functions, entry by entry -/

variable (dp sc : FVec Ideal S128x256 .f32) (s : Elt Ideal .f32) (r : Fin 128) (j : Fin 256) (l : Fin 128)
  (w : BitVec 32) (x0 : Vec Ideal S8 .f32) (x1 : Vec Ideal S128x512 .bf16) (x2 x3 : Vec Ideal S128x256 .bf16)
  (x4 : Vec Ideal S128x512 .f32)

theorem ds_at : dsH dp s sc (ix2 r j) = Row.ds (fun j => sc (ix2 r j)) s (fun j => dp (ix2 r j)) j * Spec.eighth := by
  pointwise [dsH, mxV, k0_pay27, k0_pay28, k0_pay29, k0_pay30, k0_pay31, k0_pay32, k0_pay33, k0_pay34]
  rfl

theorem pr_at : prH s sc (ix2 r j) = Row.pr (fun j => sc (ix2 r j)) s j := by
  pointwise [prH, mxV, k0_pay27, k0_pay28, k0_pay29, k0_pay30, k0_pay31, k0_pay32, k0_pay33, k0_pay34, k0_pay35]
  rfl

theorem sk_at : skH dp s sc (ix2 0 l) = 0 - ∑ r, Row.sk (fun j => sc (ix2 r j)) s (fun j => dp (ix2 r j)) := by
  pointwise [skH, mxV, k0_pay27, k0_pay28, k0_pay29, k0_pay30, k0_pay31, k0_pay32, k0_pay33, k0_pay34, k0_pay36]
  rfl

/-- A position of the band the body builds from two blocks. -/
def bandB (j : Fin 256) (c : Fin 256) : EReal :=
  if h : j.val < 128 then x2 (ix2 ⟨j.val, h⟩ c) else x3 (ix2 ⟨j.val - 128, by omega⟩ c)

theorem qk_at0 : k0_pay8 x1 x2 x3 (ix2 r j) = ∑ d, x1 (ix2 r (Spec.qcol 0 d)) * bandB x2 x3 j (Spec.kcol 0 d) := by
  pointwise [k0_pay8, k0_pay4, k0_pay6, bandB, Spec.qcol, Spec.kcol]
theorem dp_at0 : k0_pay17 (k0_pay5 x2 x3) (k0_pay16 x4) (constant S128x256 .f32 0x00000000#32) (ix2 r j) = ∑ d, x4 (ix2 r (Spec.qcol 0 d)) * bandB x2 x3 j (Spec.vcol 0 d) := by
  pointwise [k0_pay17, k0_pay5, k0_pay7, k0_pay16, k0_pay3, bandB, Spec.qcol, Spec.vcol]
theorem qk_at1 : k0_pay9 x1 x2 x3 (ix2 r j) = ∑ d, x1 (ix2 r (Spec.qcol 1 d)) * bandB x2 x3 j (Spec.kcol 1 d) := by
  pointwise [k0_pay9, k0_pay4, k0_pay6, bandB, Spec.qcol, Spec.kcol]
theorem dp_at1 : k0_pay18 (k0_pay3 x4) (k0_pay5 x2 x3) (ix2 r j) = ∑ d, x4 (ix2 r (Spec.qcol 1 d)) * bandB x2 x3 j (Spec.vcol 1 d) := by
  pointwise [k0_pay18, k0_pay5, k0_pay7, k0_pay16, k0_pay3, bandB, Spec.qcol, Spec.vcol]
theorem qk_at2 : k0_pay10 x1 x2 x3 (ix2 r j) = ∑ d, x1 (ix2 r (Spec.qcol 2 d)) * bandB x2 x3 j (Spec.kcol 2 d) := by
  pointwise [k0_pay10, k0_pay4, k0_pay6, bandB, Spec.qcol, Spec.kcol]
theorem dp_at2 : k0_pay19 (k0_pay3 x4) (k0_pay5 x2 x3) (ix2 r j) = ∑ d, x4 (ix2 r (Spec.qcol 2 d)) * bandB x2 x3 j (Spec.vcol 2 d) := by
  pointwise [k0_pay19, k0_pay5, k0_pay7, k0_pay16, k0_pay3, bandB, Spec.qcol, Spec.vcol]
theorem qk_at3 : k0_pay11 x1 x2 x3 (ix2 r j) = ∑ d, x1 (ix2 r (Spec.qcol 3 d)) * bandB x2 x3 j (Spec.kcol 3 d) := by
  pointwise [k0_pay11, k0_pay4, k0_pay6, bandB, Spec.qcol, Spec.kcol]
theorem dp_at3 : k0_pay20 (k0_pay3 x4) (k0_pay5 x2 x3) (ix2 r j) = ∑ d, x4 (ix2 r (Spec.qcol 3 d)) * bandB x2 x3 j (Spec.vcol 3 d) := by
  pointwise [k0_pay20, k0_pay5, k0_pay7, k0_pay16, k0_pay3, bandB, Spec.qcol, Spec.vcol]
theorem qk_at4 : k0_pay12 x1 x2 x3 (ix2 r j) = ∑ d, x1 (ix2 r (Spec.qcol 4 d)) * bandB x2 x3 j (Spec.kcol 4 d) := by
  pointwise [k0_pay12, k0_pay4, k0_pay6, bandB, Spec.qcol, Spec.kcol]
theorem dp_at4 : k0_pay21 (k0_pay3 x4) (k0_pay7 x2 x3) (ix2 r j) = ∑ d, x4 (ix2 r (Spec.qcol 4 d)) * bandB x2 x3 j (Spec.vcol 4 d) := by
  pointwise [k0_pay21, k0_pay5, k0_pay7, k0_pay16, k0_pay3, bandB, Spec.qcol, Spec.vcol]
theorem qk_at5 : k0_pay13 x1 x2 x3 (ix2 r j) = ∑ d, x1 (ix2 r (Spec.qcol 5 d)) * bandB x2 x3 j (Spec.kcol 5 d) := by
  pointwise [k0_pay13, k0_pay4, k0_pay6, bandB, Spec.qcol, Spec.kcol]
theorem dp_at5 : k0_pay22 (k0_pay3 x4) (k0_pay7 x2 x3) (ix2 r j) = ∑ d, x4 (ix2 r (Spec.qcol 5 d)) * bandB x2 x3 j (Spec.vcol 5 d) := by
  pointwise [k0_pay22, k0_pay5, k0_pay7, k0_pay16, k0_pay3, bandB, Spec.qcol, Spec.vcol]
theorem qk_at6 : k0_pay14 x1 x2 x3 (ix2 r j) = ∑ d, x1 (ix2 r (Spec.qcol 6 d)) * bandB x2 x3 j (Spec.kcol 6 d) := by
  pointwise [k0_pay14, k0_pay4, k0_pay6, bandB, Spec.qcol, Spec.kcol]
theorem dp_at6 : k0_pay23 (k0_pay3 x4) (k0_pay7 x2 x3) (ix2 r j) = ∑ d, x4 (ix2 r (Spec.qcol 6 d)) * bandB x2 x3 j (Spec.vcol 6 d) := by
  pointwise [k0_pay23, k0_pay5, k0_pay7, k0_pay16, k0_pay3, bandB, Spec.qcol, Spec.vcol]
theorem qk_at7 : k0_pay15 x1 x2 x3 (ix2 r j) = ∑ d, x1 (ix2 r (Spec.qcol 7 d)) * bandB x2 x3 j (Spec.kcol 7 d) := by
  pointwise [k0_pay15, k0_pay4, k0_pay6, bandB, Spec.qcol, Spec.kcol]
theorem dp_at7 : k0_pay24 (k0_pay3 x4) (k0_pay7 x2 x3) (ix2 r j) = ∑ d, x4 (ix2 r (Spec.qcol 7 d)) * bandB x2 x3 j (Spec.vcol 7 d) := by
  pointwise [k0_pay24, k0_pay5, k0_pay7, k0_pay16, k0_pay3, bandB, Spec.qcol, Spec.vcol]

theorem kb_at0 (h : Fin 8) (h4 : h.val / 4 = 0) (d : Fin 64) : k0_pay4 x2 x3 (ix2 j d) = bandB x2 x3 j (Spec.kcol h d) := by
  pointwise [k0_pay4, bandB, Spec.kcol, h4]
theorem kb_at1 (h : Fin 8) (h4 : h.val / 4 = 1) (d : Fin 64) : k0_pay6 x2 x3 (ix2 j d) = bandB x2 x3 j (Spec.kcol h d) := by
  pointwise [k0_pay6, bandB, Spec.kcol, h4]

theorem mm_at (kb : FVec Ideal S256x64 .bf16) (ds : FVec Ideal S128x256 .bf16) (d : Fin 64) :
    k0_pay118 kb ds (ix2 r d) = ∑ j, ds (ix2 r j) * kb (ix2 j d) := by
  pointwise [k0_pay118]

theorem qkV_at (h : Fin 8) : qkV x1 x2 x3 h (ix2 r j) = ∑ d, x1 (ix2 r (Spec.qcol h d)) * bandB x2 x3 j (Spec.kcol h d) := by
  match h with
  | 0 => exact qk_at0 r j x1 x2 x3
  | 1 => exact qk_at1 r j x1 x2 x3
  | 2 => exact qk_at2 r j x1 x2 x3
  | 3 => exact qk_at3 r j x1 x2 x3
  | 4 => exact qk_at4 r j x1 x2 x3
  | 5 => exact qk_at5 r j x1 x2 x3
  | 6 => exact qk_at6 r j x1 x2 x3
  | 7 => exact qk_at7 r j x1 x2 x3

theorem dpV_at (h : Fin 8) : dpV x2 x3 x4 h (ix2 r j) = ∑ d, x4 (ix2 r (Spec.qcol h d)) * bandB x2 x3 j (Spec.vcol h d) := by
  match h with
  | 0 => exact dp_at0 r j x2 x3 x4
  | 1 => exact dp_at1 r j x2 x3 x4
  | 2 => exact dp_at2 r j x2 x3 x4
  | 3 => exact dp_at3 r j x2 x3 x4
  | 4 => exact dp_at4 r j x2 x3 x4
  | 5 => exact dp_at5 r j x2 x3 x4
  | 6 => exact dp_at6 r j x2 x3 x4
  | 7 => exact dp_at7 r j x2 x3 x4

theorem kbV_at (h : Fin 8) (d : Fin 64) : kbV x2 x3 h (ix2 j d) = bandB x2 x3 j (Spec.kcol h d) := by
  match h with
  | 0 => exact kb_at0 j x2 x3 0 rfl d
  | 1 => exact kb_at0 j x2 x3 1 rfl d
  | 2 => exact kb_at0 j x2 x3 2 rfl d
  | 3 => exact kb_at0 j x2 x3 3 rfl d
  | 4 => exact kb_at1 j x2 x3 4 rfl d
  | 5 => exact kb_at1 j x2 x3 5 rfl d
  | 6 => exact kb_at1 j x2 x3 6 rfl d
  | 7 => exact kb_at1 j x2 x3 7 rfl d

theorem dqV_at (h : Fin 8) (d : Fin 64) : dqV w x0 x1 x2 x3 x4 h (ix2 r d) =
    ∑ j, dsV w x0 x1 x2 x3 x4 h (ix2 r j) * bandB x2 x3 j (Spec.kcol h d) := by
  unfold dqV; rw [mm_at]; exact Finset.sum_congr rfl fun j _ => by rw [kbV_at]

/-! ## The mask -/

theorem mask_bot : (Named.named (F := Ideal) κ "mask" (φ := .f32) 0xF149F2CA#32) = (⊥ : EReal) := by rfl

theorem scV_at (sl : BitVec 32) (n : Fin 32) :
    scV (BitVec.ofNat 32 n.val) sl dp (ix2 r j) =
      if Spec.ok n r j then dp (ix2 r j) * Spec.eighth - Ideal.ofBits .f32 sl * Spec.dist r j else ⊥ := by
  pointwise [scV]
  rw [Mask.inside_word, Mask.there_word, mask_bot]
  have e : (FloatOps.sitofp .f32 (IntOp.subi (IntOp.addi (128#32) (BitVec.ofNat 32 r.val)) (BitVec.ofNat 32 j.val)) : Ideal .f32)
      = Spec.dist r j := by
    show (((_ : ℤ) : ℝ) : EReal) = _
    rw [Mask.dist_word]; rfl
  rw [e]
  by_cases h1 : j.val ≤ 128 + r.val ∧ r.val < j.val <;> by_cases h2 : 128 ≤ 128 * n.val + j.val
  · rw [if_pos h1, if_pos h2, if_pos (show Spec.ok n r j from ⟨h1.1, h1.2, h2⟩)]; rfl
  · rw [if_pos h1, if_neg h2, if_neg (fun h : Spec.ok n r j => h2 h.2.2)]; rfl
  · rw [if_neg h1, if_pos h2, if_neg (fun h : Spec.ok n r j => h1 ⟨h.1, h.2.1⟩)]; rfl
  · rw [if_neg h1, if_neg h2, if_neg (fun h : Spec.ok n r j => h2 h.2.2)]; rfl

end Cert.KernelIdeal.Value
end
-- ==== Proof.Point.lean ====
module

public import proofs.«01_k».proof.Proof.Body

@[expose] public section

set_option maxRecDepth 16384

noncomputable section

open Idealize.ShloMosaic Idealize.ShloMosaic.TcCoe Idealize.SL.Sem

namespace Cert.KernelIdeal.Value
open Cert.KernelIdeal Cert.KernelIdeal.Gen

/-! # One grid point, over the arrays its blocks come from -/

variable {Q : Fin 4096 → Fin 512 → EReal} {KV : Fin 4096 → Fin 256 → EReal} {SK : Fin 8 → EReal}
  {DO : Fin 4096 → Fin 512 → EReal}
variable {x0 : Vec Ideal S8 .f32} {x1 : Vec Ideal S128x512 .bf16} {x2 x3 : Vec Ideal S128x256 .bf16}
  {x4 : Vec Ideal S128x512 .f32} {n : Fin 32}

/-- The blocks are block `n` of the arrays; of the keys and values also the block before, where there is one. -/
structure Blocks (Q : Fin 4096 → Fin 512 → EReal) (KV : Fin 4096 → Fin 256 → EReal) (SK : Fin 8 → EReal)
    (DO : Fin 4096 → Fin 512 → EReal) (n : Fin 32) (x0 : Vec Ideal S8 .f32) (x1 : Vec Ideal S128x512 .bf16)
    (x2 x3 : Vec Ideal S128x256 .bf16) (x4 : Vec Ideal S128x512 .f32) : Prop where
  sinks : ∀ h, x0 (ix1 h) = SK h
  queries : ∀ r c, x1 (ix2 r c) = Q (Spec.row n r) c
  before : ∀ (hn : 0 < n.val) (r : Fin 128) c, x2 (ix2 r c) = KV ⟨128 * (n.val - 1) + r.val, by omega⟩ c
  here : ∀ r c, x3 (ix2 r c) = KV (Spec.row n r) c
  grads : ∀ r c, x4 (ix2 r c) = DO (Spec.row n r) c

variable (B : Blocks Q KV SK DO n x0 x1 x2 x3 x4)
include B

theorem bandB_eq {j : Fin 256} (hj : 128 ≤ 128 * n.val + j.val) (c : Fin 256) : bandB x2 x3 j c = Spec.band KV n j c := by
  unfold bandB Spec.band
  rw [dif_pos hj]
  by_cases h : j.val < 128
  · rw [dif_pos h, B.before (by omega)]
    congr 1
    ext
    show 128 * (n.val - 1) + j.val = 128 * n.val + j.val - 128
    omega
  · rw [dif_neg h, B.here]
    congr 1
    ext
    show 128 * n.val + (j.val - 128) = 128 * n.val + j.val - 128
    omega

omit B in
theorem slope_eq (h : Fin 8) : Ideal.ofBits .f32 (slopeW h) = Spec.slope h := by
  match h with
  | 0 => rfl
  | 1 => rfl
  | 2 => rfl
  | 3 => rfl
  | 4 => rfl
  | 5 => rfl
  | 6 => rfl
  | 7 => rfl

theorem sV_eq (h : Fin 8) (r : Fin 128) (j : Fin 256) :
    sV (BitVec.ofNat 32 n.val) x1 x2 x3 h (ix2 r j) = Spec.sc Q KV n h r j := by
  unfold sV Spec.sc
  rw [scV_at]
  by_cases ho : Spec.ok n r j
  · rw [if_pos ho, if_pos ho, qkV_at, slope_eq]
    congr 2
    exact Finset.sum_congr rfl fun d _ => by rw [B.queries, bandB_eq B ho.2.2]
  · rw [if_neg ho, if_neg ho]

theorem dpV_eq (h : Fin 8) (r : Fin 128) (j : Fin 256) :
    Spec.sc Q KV n h r j = ⊥ ∨ dpV x2 x3 x4 h (ix2 r j) = Spec.dp KV DO n h r j := by
  by_cases hj : 128 ≤ 128 * n.val + j.val
  · right
    rw [dpV_at]
    exact Finset.sum_congr rfl fun d _ => by rw [B.grads, bandB_eq B hj]
  · left
    exact if_neg fun ho : Spec.ok n r j => hj ho.2.2

theorem dsV_eq (h : Fin 8) (r : Fin 128) (j : Fin 256) :
    dsV (BitVec.ofNat 32 n.val) x0 x1 x2 x3 x4 h (ix2 r j) = Spec.ds Q KV SK DO n h r j := by
  unfold dsV Spec.ds
  rw [ds_at, show (fun j => sV (BitVec.ofNat 32 n.val) x1 x2 x3 h (ix2 r j)) = Spec.sc Q KV n h r from
    funext fun j => sV_eq B h r j]
  rw [show sinkV x0 h = SK h from B.sinks h, Row.ds_congr _ _ _ (dpV_eq B h r) j]

theorem prV_eq (h : Fin 8) (r : Fin 128) (j : Fin 256) :
    prV (BitVec.ofNat 32 n.val) x0 x1 x2 x3 h (ix2 r j) = Spec.pr Q KV SK n h r j := by
  unfold prV Spec.pr
  rw [pr_at, show (fun j => sV (BitVec.ofNat 32 n.val) x1 x2 x3 h (ix2 r j)) = Spec.sc Q KV n h r from
    funext fun j => sV_eq B h r j]
  rw [show sinkV x0 h = SK h from B.sinks h]

theorem skV_eq (h : Fin 8) (l : Fin 128) :
    skV (BitVec.ofNat 32 n.val) x0 x1 x2 x3 x4 h (ix2 0 l) = 0 - ∑ r, Spec.sk Q KV SK DO n h r := by
  unfold skV Spec.sk
  rw [sk_at]
  congr 1
  refine Finset.sum_congr rfl fun r _ => ?_
  rw [show (fun j => sV (BitVec.ofNat 32 n.val) x1 x2 x3 h (ix2 r j)) = Spec.sc Q KV n h r from
    funext fun j => sV_eq B h r j]
  rw [show sinkV x0 h = SK h from B.sinks h, Row.sk_congr _ _ _ (dpV_eq B h r)]

theorem dqV_eq (h : Fin 8) (r : Fin 128) (d : Fin 64) :
    dqV (BitVec.ofNat 32 n.val) x0 x1 x2 x3 x4 h (ix2 r d) = Spec.dq Q KV SK DO n h r d := by
  rw [dqV_at]
  unfold Spec.dq
  refine Finset.sum_congr rfl fun j _ => ?_
  rw [dsV_eq B]
  by_cases hj : 128 ≤ 128 * n.val + j.val
  · rw [bandB_eq B hj]
  · have hs : Spec.sc Q KV n h r j = ⊥ := if_neg fun ho : Spec.ok n r j => hj ho.2.2
    unfold Spec.ds
    rw [Row.ds_bot _ _ _ hs, zero_mul, zero_mul, zero_mul]

omit B in
/-- The band's gradients over the heads' own. -/
def bandH (x1 : Vec Ideal S128x512 .bf16) (x4 : Vec Ideal S128x512 .f32)
    (ds pr : Fin 8 → FVec Ideal S128x256 .bf16) : FVec Ideal S256x256 .f32 :=
  k0_pay129 x1 (k0_pay3 x4) (pr 4) (ds 5) (pr 5) (ds 6) (pr 6) (ds 7) (pr 7)
    (k0_pay126 x1 (ds 0) (ds 1) (ds 2) (ds 3)) (k0_pay127 (k0_pay3 x4) (pr 0) (pr 1) (pr 2) (pr 3)) (k0_pay128 x1 (ds 4))

section
omit B
variable (ds pr : Fin 8 → FVec Ideal S128x256 .bf16) (j : Fin 256) (d : Fin 64)

theorem bandH_at0 : bandH x1 x4 ds pr (ix2 j ⟨d.val, by omega⟩) =
    ∑ g : Fin 4, ∑ r, ds (Spec.hd 0 g) (ix2 r j) * x1 (ix2 r (Spec.qcol (Spec.hd 0 g) d)) := by
  rw [Fin.sum_univ_four]
  unfold bandH
  pointwise [k0_pay129, k0_pay126, k0_pay127, k0_pay128, k0_pay3, Spec.qcol, Spec.hd]

theorem bandH_at1 : bandH x1 x4 ds pr (ix2 j ⟨64 + d.val, by omega⟩) =
    ∑ g : Fin 4, ∑ r, ds (Spec.hd 1 g) (ix2 r j) * x1 (ix2 r (Spec.qcol (Spec.hd 1 g) d)) := by
  rw [Fin.sum_univ_four]
  unfold bandH
  pointwise [k0_pay129, k0_pay126, k0_pay127, k0_pay128, k0_pay3, Spec.qcol, Spec.hd]

theorem bandH_at2 : bandH x1 x4 ds pr (ix2 j ⟨128 + d.val, by omega⟩) =
    ∑ g : Fin 4, ∑ r, pr (Spec.hd 0 g) (ix2 r j) * x4 (ix2 r (Spec.qcol (Spec.hd 0 g) d)) := by
  rw [Fin.sum_univ_four]
  unfold bandH
  pointwise [k0_pay129, k0_pay126, k0_pay127, k0_pay128, k0_pay3, Spec.qcol, Spec.hd]
  rw [dif_neg (show ¬128 + d.val < 64 by omega), dif_neg (show ¬128 + d.val - 64 < 64 by omega),
    dif_pos (show 128 + d.val - 64 - 64 < 64 by omega)]
  simp only [show 128 + d.val - 64 - 64 = d.val by omega]

theorem bandH_at3 : bandH x1 x4 ds pr (ix2 j ⟨192 + d.val, by omega⟩) =
    ∑ g : Fin 4, ∑ r, pr (Spec.hd 1 g) (ix2 r j) * x4 (ix2 r (Spec.qcol (Spec.hd 1 g) d)) := by
  rw [Fin.sum_univ_four]
  unfold bandH
  pointwise [k0_pay129, k0_pay126, k0_pay127, k0_pay128, k0_pay3, Spec.qcol, Spec.hd]
  rw [dif_neg (show ¬192 + d.val < 64 by omega), dif_neg (show ¬192 + d.val - 64 < 64 by omega),
    dif_neg (show ¬192 + d.val - 64 - 64 < 64 by omega)]
  simp only [show 192 + d.val - 64 - 64 - 64 = d.val by omega]
end

theorem bandV_eq (j : Fin 256) (c : Fin 256) :
    bandV (BitVec.ofNat 32 n.val) x0 x1 x2 x3 x4 (ix2 j c) = Spec.dband Q KV SK DO n j c := by
  have hb : bandV (BitVec.ofNat 32 n.val) x0 x1 x2 x3 x4 =
    bandH x1 x4 (dsV (BitVec.ofNat 32 n.val) x0 x1 x2 x3 x4) (prV (BitVec.ofNat 32 n.val) x0 x1 x2 x3) := rfl
  rw [hb]
  have hc := Nat.mod_lt c.val (show 0 < 64 by omega)
  unfold Spec.dband
  rcases (show c.val / 64 = 0 ∨ c.val / 64 = 1 ∨ c.val / 64 = 2 ∨ c.val / 64 = 3 by omega) with h | h | h | h
  · rw [dif_pos (show c.val < 128 by omega),
      show ix2 j c = ix2 j ⟨(⟨c.val % 64, hc⟩ : Fin 64).val, by omega⟩ from
        congrArg _ (Fin.ext (by show c.val = c.val % 64; omega)), bandH_at0]
    unfold Spec.dk
    have hk : (⟨c.val / 64, by omega⟩ : Fin 2) = 0 := Fin.ext (by show c.val / 64 = 0; omega)
    rw [hk]
    exact Finset.sum_congr rfl fun g _ => Finset.sum_congr rfl fun r _ => by rw [dsV_eq B, B.queries]
  · rw [dif_pos (show c.val < 128 by omega),
      show ix2 j c = ix2 j ⟨64 + (⟨c.val % 64, hc⟩ : Fin 64).val, by omega⟩ from
        congrArg _ (Fin.ext (by show c.val = 64 + c.val % 64; omega)), bandH_at1]
    unfold Spec.dk
    have hk : (⟨c.val / 64, by omega⟩ : Fin 2) = 1 := Fin.ext (by show c.val / 64 = 1; omega)
    rw [hk]
    exact Finset.sum_congr rfl fun g _ => Finset.sum_congr rfl fun r _ => by rw [dsV_eq B, B.queries]
  · rw [dif_neg (show ¬c.val < 128 by omega),
      show ix2 j c = ix2 j ⟨128 + (⟨c.val % 64, hc⟩ : Fin 64).val, by omega⟩ from
        congrArg _ (Fin.ext (by show c.val = 128 + c.val % 64; omega)), bandH_at2]
    unfold Spec.dv
    have hk : (⟨c.val / 64 - 2, by omega⟩ : Fin 2) = 0 := Fin.ext (by show c.val / 64 - 2 = 0; omega)
    rw [hk]
    exact Finset.sum_congr rfl fun g _ => Finset.sum_congr rfl fun r _ => by rw [prV_eq B, B.grads]
  · rw [dif_neg (show ¬c.val < 128 by omega),
      show ix2 j c = ix2 j ⟨192 + (⟨c.val % 64, hc⟩ : Fin 64).val, by omega⟩ from
        congrArg _ (Fin.ext (by show c.val = 192 + c.val % 64; omega)), bandH_at3]
    unfold Spec.dv
    have hk : (⟨c.val / 64 - 2, by omega⟩ : Fin 2) = 1 := Fin.ext (by show c.val / 64 - 2 = 1; omega)
    rw [hk]
    exact Finset.sum_congr rfl fun g _ => Finset.sum_congr rfl fun r _ => by rw [prV_eq B, B.grads]

/-- The keys' and values' gradient at the point: the band's lower half, with what was carried here. -/
theorem dkvV_eq (prev : FVec Ideal S128x256 .f32) (r : Fin 128) (c : Fin 256) :
    dkvV (BitVec.ofNat 32 n.val) x0 x1 x2 x3 x4 prev (ix2 r c) =
      Spec.dband Q KV SK DO n ⟨128 + r.val, by omega⟩ c + prev (ix2 r c) := by
  rw [← bandV_eq B]
  unfold dkvV
  generalize bandV (BitVec.ofNat 32 n.val) x0 x1 x2 x3 x4 = b
  pointwise []

/-- What the point carries to the next: the band's upper half. -/
theorem carryV_eq (r : Fin 128) (c : Fin 256) :
    carryV (BitVec.ofNat 32 n.val) x0 x1 x2 x3 x4 (ix2 r c) = Spec.dband Q KV SK DO n ⟨r.val, by omega⟩ c := by
  rw [← bandV_eq B]
  unfold carryV
  generalize bandV (BitVec.ofNat 32 n.val) x0 x1 x2 x3 x4 = b
  pointwise []

theorem dskV_eq (h : Fin 8) (l : Fin 128) :
    dskV (BitVec.ofNat 32 n.val) x0 x1 x2 x3 x4 (ix3 0 h l) = 0 - ∑ r, Spec.sk Q KV SK DO n h r := by
  rw [← skV_eq B h l]
  unfold dskV
  generalize skV (BitVec.ofNat 32 n.val) x0 x1 x2 x3 x4 = b
  match h with
  | 0 => pointwise [k0_pay1]
  | 1 => pointwise [k0_pay1]
  | 2 => pointwise [k0_pay1]
  | 3 => pointwise [k0_pay1]
  | 4 => pointwise [k0_pay1]
  | 5 => pointwise [k0_pay1]
  | 6 => pointwise [k0_pay1]
  | 7 => pointwise [k0_pay1]

end Cert.KernelIdeal.Value
end
-- ==== Proof.Arrays.lean ====
module

public import proofs.«01_k».proof.Proof.Points
public import proofs.«01_k».proof.Proof.Point
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-! # The kernel's arrays after the run -/

variable (m : (ℓ : Loc nD τ sig) → Buf (Elt Ideal) ℓ) (c : Dev nD)

/-- The queries, as a function of row and column. -/
def Qa (a : Fin 4096) (b : Fin 512) : EReal := (show FVec Ideal S4096x512 .bf16 from m ((c : Thread nD τ).loc main_arg0)) (ix2 a b)
/-- The keys and values. -/
def KVa (a : Fin 4096) (b : Fin 256) : EReal := (show FVec Ideal S4096x256 .bf16 from m ((c : Thread nD τ).loc main_arg1)) (ix2 a b)
/-- The sinks. -/
def SKa (h : Fin 8) : EReal := (show FVec Ideal S8 .f32 from m ((c : Thread nD τ).loc main_arg2)) (ix1 h)
/-- The output's gradient. -/
def DOa (a : Fin 4096) (b : Fin 512) : EReal := (show FVec Ideal S4096x512 .f32 from m ((c : Thread nD τ).loc main_arg3)) (ix2 a b)

theorem idx : ∀ t : Fin cfg0.N, win0_0.index t = ![0] ∧ win0_1.index t = ![31 - t.val, 0] ∧
    win0_2.index t = ![30 - t.val, 0] ∧ win0_3.index t = ![31 - t.val, 0] ∧ win0_4.index t = ![31 - t.val, 0] ∧
    win0_5.index t = ![31 - t.val, 0] ∧ win0_6.index t = ![31 - t.val, 0] ∧ win0_7.index t = ![31 - t.val, 0, 0] ∧
    t.val < 32 :=
  (by decide +kernel : ∀ t : Fin grid0.N, _)

theorem word_eq : ∀ t : Fin cfg0.N, wordV t = BitVec.ofNat 32 (31 - t.val) :=
  (by decide +kernel : ∀ t : Fin grid0.N, Scalar.subi 31#32 (BitVec.ofNat 32 (grid0.coords t 0).val) = BitVec.ofNat 32 (31 - t.val))

/-- The block that point `t` works on: the last one first. -/
def nb (t : Fin cfg0.N) : Fin 32 := ⟨31 - t.val, by omega⟩

theorem blocks (t : Fin cfg0.N) : Blocks (Qa m c) (KVa m c) (SKa m c) (DOa m c) (nb t)
    (iblk m c 0 t) (iblk m c 1 t) (iblk m c 2 t) (iblk m c 3 t) (iblk m c 4 t) where
  sinks h := by unfold SKa; blk_ext [iblk, V, idx t]
  queries r b := by unfold Qa Spec.row nb; blk_ext [iblk, V, idx t]
  before hn r b := by unfold KVa nb; unfold nb at hn; blk_ext [iblk, V, idx t]
  here r b := by unfold KVa Spec.row nb; blk_ext [iblk, V, idx t]
  grads r b := by unfold DOa Spec.row nb; blk_ext [iblk, V, idx t]

theorem piece_eq (d : Fin 8 → FVec Ideal S128x64 .f32) (r : Fin 128) (b : Fin 512) (k : Fin 8) (x : S128x64.Idx)
    (h0 : r.val = (x 0 : ℕ)) (h1 : b.val = 64 * k.val + (x 1 : ℕ)) (hx : (x 1 : ℕ) < 64) :
    d k x = d ⟨b.val / 64, by omega⟩ (ix2 r ⟨b.val % 64, by omega⟩) := by
  have hk : k = ⟨b.val / 64, by omega⟩ := Fin.ext (by show k.val = b.val / 64; omega)
  rw [← hk]
  refine congrArg (d k) ?_
  refine (eq_ix2 x).trans ?_
  exact congrArg₂ ix2 (Fin.ext h0.symm) (Fin.ext (by show (x 1 : ℕ) = b.val % 64; omega))

theorem canon_at (d : Fin 8 → FVec Ideal S128x64 .f32) (y : S128x512.Idx) (r : Fin 128) (b : Fin 512)
    (hy : y = ix2 r b) :
    (View.canon (dqP d) : FVec Ideal S128x512 .f32) y = d ⟨b.val / 64, by omega⟩ (ix2 r ⟨b.val % 64, by omega⟩) := by
  subst hy
  unfold dqP
  canon_tiles x h
  · exact piece_eq d r b 7 x h0 h1 x1_lt
  · exact piece_eq d r b 6 x h0 h1 x1_lt
  · exact piece_eq d r b 5 x h0 h1 x1_lt
  · exact piece_eq d r b 4 x h0 h1 x1_lt
  · exact piece_eq d r b 3 x h0 h1 x1_lt
  · exact piece_eq d r b 2 x h0 h1 x1_lt
  · exact piece_eq d r b 1 x h0 h1 x1_lt
  · exact piece_eq d r b 0 x h0 (by rw [Fin.val_zero]; exact h1.trans (by omega)) x1_lt

/-- The queries' gradient, by array row and column. -/
def dqA : FVec Ideal S4096x512 .f32 := fun i =>
  Spec.dq (Qa m c) (KVa m c) (SKa m c) (DOa m c) ⟨(i 0 : ℕ) / 128, by have : (i 0 : ℕ) < 4096 := (i 0).isLt; omega⟩
    ⟨(i 1 : ℕ) / 64, by have : (i 1 : ℕ) < 512 := (i 1).isLt; omega⟩ ⟨(i 0 : ℕ) % 128, by omega⟩ ⟨(i 1 : ℕ) % 64, by omega⟩

/-- The keys' and values' gradient, by array row and column. -/
def dkvA : FVec Ideal S4096x256 .f32 := fun i =>
  Spec.dkv (Qa m c) (KVa m c) (SKa m c) (DOa m c) ⟨(i 0 : ℕ) / 128, by have : (i 0 : ℕ) < 4096 := (i 0).isLt; omega⟩
    ⟨(i 0 : ℕ) % 128, by omega⟩ (i 1)

/-- The sinks' gradient by block and head, on every lane. -/
def dskA : FVec Ideal S32x8x128 .f32 := fun i =>
  0 - ∑ r, Spec.sk (Qa m c) (KVa m c) (SKa m c) (DOa m c) (i 0) (i 1) r

theorem dq_point (t : Fin cfg0.N) (y : S128x512.Idx) (i : S4096x512.Idx) (h0 : (i 0 : ℕ) = (31 - t.val) * 128 + (y 0 : ℕ))
    (h1 : (i 1 : ℕ) = (y 1 : ℕ)) : (outsAt0 m c t.val t.isLt).1 y = dqA m c i := by
  have hy0 : (y 0 : ℕ) < 128 := (y 0).isLt
  rw [outs_eq, word_eq]
  show (View.canon (dqP _) : FVec Ideal S128x512 .f32) y = _
  rw [canon_at _ y (y 0) (y 1) (eq_ix2 y)]
  refine (dqV_eq (blocks m c t) _ _ _).trans ?_
  unfold dqA
  congr 1
  · exact Fin.ext (by show 31 - t.val = (i 0 : ℕ) / 128; omega)
  · exact Fin.ext (by show (y 1 : ℕ) / 64 = (i 1 : ℕ) / 64; omega)
  · exact Fin.ext (by show (y 0 : ℕ) = (i 0 : ℕ) % 128; omega)
  · exact Fin.ext (by show (y 1 : ℕ) % 64 = (i 1 : ℕ) % 64; omega)

theorem dq_final : (dats m 0 c).arrAt 5 (cfgs 0).N = dqA m c := by
  refine (dats m 0 c).arrAt_eq_of_covers 5 _ (by decide +kernel) fun t _ y => ?_
  blk_simp
  rw [after0_5]
  refine dq_point m c t y _ ?_ ?_ <;> blk_simp [idx t] <;> try omega

/-- What the point before carried: the next block's band's upper half; nothing after the last block. -/
theorem prevV_eq (t : Fin cfg0.N) (r : Fin 128) (b : Fin 256) :
    prevV m c t (ix2 r b) = if h : (nb t).val + 1 < 32 then
      Spec.dband (Qa m c) (KVa m c) (SKa m c) (DOa m c) ⟨(nb t).val + 1, h⟩ ⟨r.val, by omega⟩ b else 0 := by
  have ht : t.val < 32 := (idx t).2.2.2.2.2.2.2.2
  unfold prevV
  by_cases h0 : t.val % 32 = 0
  · rw [if_pos h0, dif_neg (by show ¬(31 - t.val + 1 < 32); omega)]
    pointwise [k0_pay2]
  · rw [if_neg h0, dif_pos (by show 31 - t.val + 1 < 32; omega)]
    have e := outs_eq m c ⟨t.val - 1, Nat.lt_of_le_of_lt (Nat.sub_le _ _) t.isLt⟩
    rw [word_eq] at e
    rw [e]
    refine (carryV_eq (blocks m c _) r b).trans ?_
    congr 1
    exact Fin.ext (by show 31 - (t.val - 1) = 31 - t.val + 1; omega)

theorem dkv_point (t : Fin cfg0.N) (y : S128x256.Idx) (i : S4096x256.Idx) (h0 : (i 0 : ℕ) = (31 - t.val) * 128 + (y 0 : ℕ))
    (h1 : (i 1 : ℕ) = (y 1 : ℕ)) : (outsAt0 m c t.val t.isLt).2.1 y = dkvA m c i := by
  have hy0 : (y 0 : ℕ) < 128 := (y 0).isLt
  rw [outs_eq, word_eq]
  show dkvV _ _ _ _ _ _ _ y = _
  rw [eq_ix2 y]
  refine (dkvV_eq (blocks m c t) _ (y 0) (y 1)).trans ?_
  refine (congrArg (_ + ·) (prevV_eq m c t (y 0) (y 1))).trans ?_
  unfold dkvA
  have e0 : (⟨(i 0 : ℕ) / 128, by have : (i 0 : ℕ) < 4096 := (i 0).isLt; omega⟩ : Fin 32) = nb t :=
    Fin.ext (by show (i 0 : ℕ) / 128 = 31 - t.val; omega)
  have e1 : (⟨(i 0 : ℕ) % 128, by omega⟩ : Fin 128) = y 0 := Fin.ext (by show (i 0 : ℕ) % 128 = (y 0 : ℕ); omega)
  have e2 : (i 1 : Fin 256) = y 1 := Fin.ext h1
  rw [e0, e1, e2]
  rfl

theorem dkv_final : (dats m 0 c).arrAt 6 (cfgs 0).N = dkvA m c := by
  refine (dats m 0 c).arrAt_eq_of_covers 6 _ (by decide +kernel) fun t _ y => ?_
  blk_simp
  rw [after0_6]
  refine dkv_point m c t y _ ?_ ?_ <;> blk_simp [idx t] <;> try omega

theorem dsk_point (t : Fin cfg0.N) (y : S1x8x128.Idx) (i : S32x8x128.Idx) (h0 : (i 0 : ℕ) = (31 - t.val) + (y 0 : ℕ))
    (h1 : (i 1 : ℕ) = (y 1 : ℕ)) : (outsAt0 m c t.val t.isLt).2.2.1 y = dskA m c i := by
  have hy0 : (y 0 : ℕ) < 1 := (y 0).isLt
  rw [outs_eq, word_eq]
  show dskV _ _ _ _ _ _ y = _
  rw [show y = ix3 (0 : Fin 1) (y 1) (y 2) from (eq_ix3 y).trans (congrArg (fun z => ix3 z (y 1) (y 2)) (Fin.ext (by show (y 0 : ℕ) = 0; omega)))]
  refine (dskV_eq (blocks m c t) (y 1) (y 2)).trans ?_
  unfold dskA
  have e0 : (i 0 : Fin 32) = nb t := Fin.ext (by show (i 0 : ℕ) = 31 - t.val; omega)
  have e1 : (i 1 : Fin 8) = y 1 := Fin.ext h1
  rw [e0, e1]

theorem dsk_final : (dats m 0 c).arrAt 7 (cfgs 0).N = dskA m c := by
  refine (dats m 0 c).arrAt_eq_of_covers 7 _ (by decide +kernel) fun t _ y => ?_
  blk_simp
  rw [after0_7]
  refine dsk_point m c t y _ ?_ ?_ <;> blk_simp [idx t] <;> try omega

end Cert.KernelIdeal.Value
end
-- ==== Proof.KRun.lean ====
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-! # The kernel's run: its three results and its arguments -/

variable (m : (ℓ : Loc nD τ sig) → Buf (Elt Ideal) ℓ) (c : Dev nD)

/-- The sinks' gradient. -/
def sinkA : FVec Ideal S8 .f32 := fun i => Spec.dsk (Qa m c) (KVa m c) (SKa m c) (DOa m c) (i 0)

/-- The lines after the kernel's call: the first lane of every block and head, summed over the blocks. -/
theorem tail_at (x : FVec Ideal S32x8x128 .f32) (h : Fin 8) :
    Host.reduceAdd (shapeCast S32x8 (extractStridedSlice S32x8x1 ![0, 0, 0] x slices_S32x8x128_S32x8x1_0_0_0) shapeCasts_S32x8x1_S32x8)
      (constant (F := Ideal) S_ .f32 0x00000000#32) reducesTo_S32x8_S8_d0 h_S_ (ix1 h) = ∑ n, x (ix3 n h 0) := by
  pointwise []

theorem sinks_final : Pipeline.afterTail₀ cfgs (dats m) 0 (V0 m) [hostOps1] c main_v3 = sinkA m c := by
  have e2 : Pipeline.withArrays (cfgs 0).spec c (V0 m c) (fun w => (dats m 0 c).arrAt w (cfgs 0).N)
      (Proc.devRef .tc main_v0_2) = dskA m c :=
    (Dat.withArrays_arrAt (dats m 0 c) sharedIn0 (V0 m c) (A_eq m c) 7).trans (dsk_final m c)
  unfold Pipeline.afterTail₀
  show StableHlo.after hostOps1 _ _ = _
  after_results
  rw [e2]
  funext i
  rw [← ix1_eta i]
  refine (tail_at (dskA m c) (i 0)).trans ?_
  rfl

theorem rest_sinks : main_v3 ∈ Pipeline.restRefs sig (cfgs 0).spec :=
  Pipeline.mem_restRefs_of _ (by decide) (by decide)

theorem kernel_run (g : Dev nD → PrngReg) : θ_run defs (onTc (τ := τ) (main (F := Ideal))) ⟨m, fun _ => 0, g⟩ (fun r => ∀ c : Dev nD,
      r.2.mem ((c.tc : Thread nD τ).loc main_v0_0) = dqA m c
      ∧ r.2.mem ((c.tc : Thread nD τ).loc main_v0_1) = dkvA m c
      ∧ r.2.mem ((c.tc : Thread nD τ).loc main_v3) = sinkA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨((h.1 c).1 5).trans (dq_final m c), ((h.1 c).1 6).trans (dkv_final m c),
      ((h.1 c).2 main_v3 rest_sinks).trans (sinks_final m c), h.2 c⟩)
    (θ_run_and (run_main m g) (unchanged m g))

end Cert.KernelIdeal.Value
end
-- ==== Proof.RefA.lean ====
module

public import proofs.«01_k».proof.Proof.Gen.ReferenceIdeal.Read
public import proofs.«01_k».proof.Proof.Mask
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-! # The reference's inputs, at coordinates -/

variable (x0 : FVec Ideal S4096x512 .bf16) (x1 : FVec Ideal S4096x256 .bf16) (x2 : FVec Ideal S8 .f32)
  (x3 : FVec Ideal S4096x512 .f32)

theorem q_at (n : Fin 32) (r : Fin 128) (k : Fin 2) (g : Fin 4) (d : Fin 64) :
    val_main_v4 (F := Ideal) x0 (ix5 n r k g d) = x0 (ix2 (Spec.row n r) (Spec.qcol (Spec.hd k g) d)) := by
  pointwise [val_main_v4, val_main_v0, Spec.row, Spec.qcol, Spec.hd]
  blk_ext []

theorem do_at (n : Fin 32) (r : Fin 128) (k : Fin 2) (g : Fin 4) (d : Fin 64) :
    val_main_v113 (F := Ideal) x3 (ix5 n k d g r) = x3 (ix2 (Spec.row n r) (Spec.qcol (Spec.hd k g) d)) := by
  pointwise [val_main_v113, val_main_v112, Spec.row, Spec.qcol, Spec.hd]
  blk_ext []

theorem kband_at (n : Fin 32) (j : Fin 256) (k : Fin 2) (g : Fin 4) (d : Fin 64) :
    val_main_v12 (F := Ideal) x1 (ix4 n j k d) = Spec.band (fun a b => x1 (ix2 a b)) n j (Spec.kcol (Spec.hd k g) d) := by
  pointwise [val_main_v12, val_main_v10, val_main_v11, val_main_v9, val_main_v7, val_main_v6, val_main_cst, val_main_v5, val_main_v2, val_main_v1, Spec.band, Spec.kcol, Spec.hd]
  by_cases h : 128 ≤ 128 * n.val + j.val <;> by_cases hj : j.val < 128
  · rw [dif_pos h, dif_pos hj, dif_neg (show ¬n.val * 128 + j.val < 128 by omega)]
    blk_ext []
  · rw [dif_pos h, dif_neg hj, dif_neg (show ¬(1 + n.val) * 128 + (j.val - 128) < 128 by omega)]
    blk_ext []
  · rw [dif_neg h, dif_pos hj, dif_pos (show n.val * 128 + j.val < 128 by omega)]
  · omega

theorem vband_at (n : Fin 32) (j : Fin 256) (k : Fin 2) (g : Fin 4) (d : Fin 64) :
    val_main_v20 (F := Ideal) x1 (ix4 n j k d) = Spec.band (fun a b => x1 (ix2 a b)) n j (Spec.vcol (Spec.hd k g) d) := by
  pointwise [val_main_v20, val_main_v18, val_main_v19, val_main_v17, val_main_v15, val_main_v14, val_main_cst_1, val_main_v13, val_main_v3, val_main_v1, Spec.band, Spec.vcol, Spec.hd]
  by_cases h : 128 ≤ 128 * n.val + j.val <;> by_cases hj : j.val < 128
  · rw [dif_pos h, dif_pos hj, dif_neg (show ¬n.val * 128 + j.val < 128 by omega)]
    blk_ext []
  · rw [dif_pos h, dif_neg hj, dif_neg (show ¬(1 + n.val) * 128 + (j.val - 128) < 128 by omega)]
    blk_ext []
  · rw [dif_neg h, dif_pos hj, dif_pos (show n.val * 128 + j.val < 128 by omega)]
  · omega

end Cert.ReferenceIdeal.Read
end
-- ==== Proof.RefB.lean ====
module

public import proofs.«01_k».proof.Proof.RefA
public import proofs.«01_k».proof.Proof.Mask
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-! # The reference's scores, at coordinates -/

variable (x0 : FVec Ideal S4096x512 .bf16) (x1 : FVec Ideal S4096x256 .bf16) (x2 : FVec Ideal S8 .f32)
  (x3 : FVec Ideal S4096x512 .f32)

theorem slopes_at (h : Fin 8) : val_main_v63 (F := Ideal) (ix1 h) = Spec.slope h := by
  match h with
  | 0 => pointwise [val_main_v63, val_main_v55, val_main_cst_9]; rfl
  | 1 => pointwise [val_main_v63, val_main_v56, val_main_cst_10]; rfl
  | 2 => pointwise [val_main_v63, val_main_v57, val_main_cst_11]; rfl
  | 3 => pointwise [val_main_v63, val_main_v58, val_main_cst_12]; rfl
  | 4 => pointwise [val_main_v63, val_main_v59, val_main_cst_13]; rfl
  | 5 => pointwise [val_main_v63, val_main_v60, val_main_cst_14]; rfl
  | 6 => pointwise [val_main_v63, val_main_v61, val_main_cst_15]; rfl
  | 7 => pointwise [val_main_v63, val_main_v62, val_main_cst_16]; rfl

theorem hd_eq (k : Fin 2) (g : Fin 4) (h : k.val * 4 + g.val < 8) : (⟨k.val * 4 + g.val, h⟩ : Fin 8) = Spec.hd k g :=
  Fin.ext (by show k.val * 4 + g.val = 4 * k.val + g.val; omega)

theorem bias_at (n : Fin 32) (r : Fin 128) (k : Fin 2) (g : Fin 4) (j : Fin 256) :
    val_main_v74 (F := Ideal) (ix5 n k g r j) = -(Spec.slope (Spec.hd k g) * Spec.dist r j) := by
  pointwise [val_main_v74, val_main_v73, val_main_v71, val_main_v70, val_main_v69, val_main_v68, val_main_v67, val_main_v66, val_main_v65, val_main_v64, val_main_v33, val_main_v32, val_main_v31, val_main_v30, val_main_v29, val_main_c, val_main_v28, val_main_v27, val_main_v26, val_main_v25]
  have e : (FloatOps.sitofp .f32 (IntOp.subi (IntOp.addi (128#32) (BitVec.ofNat 32 r.val)) (BitVec.ofNat 32 j.val)) : Ideal .f32)
      = Spec.dist r j := by
    show (((_ : ℤ) : ℝ) : EReal) = _
    rw [Mask.dist_word]; rfl
  rw [e, hd_eq, slopes_at]
  exact EReal.neg_mul _ _

theorem prod_at (n : Fin 32) (r : Fin 128) (k : Fin 2) (g : Fin 4) (j : Fin 256) :
    val_main_v24 (F := Ideal) x0 x1 (ix5 n k g r j) = (∑ d, x0 (ix2 (Spec.row n r) (Spec.qcol (Spec.hd k g) d)) *
      Spec.band (fun a b => x1 (ix2 a b)) n j (Spec.kcol (Spec.hd k g) d)) * Spec.eighth := by
  pointwise [val_main_v24, val_main_v23, val_main_cst_3, val_main_v22, val_main_v21, q_at]
  refine congrArg (· * Spec.eighth) (Finset.sum_congr rfl fun d _ => ?_)
  rw [kband_at x1 n j k g d]
  exact mul_comm _ _

theorem mask_at (n : Fin 32) (r : Fin 128) (k : Fin 2) (g : Fin 4) (j : Fin 256) :
    val_main_v76_1 (F := Ideal) (ix5 n k g r j) = if Spec.ok n r j then 1#1 else 0#1 := by
  pointwise [val_main_v76_1, val_main_v72, val_main_v54, val_main_v53, val_main_v52, val_main_v51, val_main_v50, val_main_c_8, val_main_v49, val_main_v48, val_main_v47, val_main_v46, val_main_c_7, val_main_v45, val_main_v44, val_main_c_6, val_main_v43, val_main_v42, val_main_v41, val_main_v40, val_main_v39, val_main_v38, val_main_c_5, val_main_v37, val_main_v36, val_main_c_4, val_main_v35, val_main_v34,
    val_main_v33, val_main_v32, val_main_v31, val_main_v30, val_main_v29, val_main_c, val_main_v28, val_main_v27, val_main_v26, val_main_v25]
  rw [Mask.inside_word, Mask.pos_word]
  by_cases h1 : j.val ≤ 128 + r.val ∧ r.val < j.val <;> by_cases h2 : 128 ≤ 128 * n.val + j.val
  · rw [if_pos h1, if_pos h2, if_pos (show Spec.ok n r j from ⟨h1.1, h1.2, h2⟩)]; rfl
  · rw [if_pos h1, if_neg h2, if_neg (fun h : Spec.ok n r j => h2 h.2.2)]; rfl
  · rw [if_neg h1, if_pos h2, if_neg (fun h : Spec.ok n r j => h1 ⟨h.1, h.2.1⟩)]; rfl
  · rw [if_neg h1, if_neg h2, if_neg (fun h : Spec.ok n r j => h2 h.2.2)]; rfl

theorem sink_at (n : Fin 32) (r : Fin 128) (k : Fin 2) (g : Fin 4) :
    val_main_v78 (F := Ideal) x2 (ix5 n k g r 0) = x2 (ix1 (Spec.hd k g)) := by
  pointwise [val_main_v78, val_main_v77]
  rw [hd_eq]

theorem score_at (n : Fin 32) (r : Fin 128) (k : Fin 2) (g : Fin 4) (j : Fin 256) :
    val_main_v76_0 (F := Ideal) x0 x1 (ix5 n k g r j) =
      Spec.sc (fun a b => x0 (ix2 a b)) (fun a b => x1 (ix2 a b)) n (Spec.hd k g) r j := by
  have e : val_main_v75 (F := Ideal) x0 x1 (ix5 n k g r j) =
      val_main_v24 (F := Ideal) x0 x1 (ix5 n k g r j) + val_main_v74 (F := Ideal) (ix5 n k g r j) := rfl
  have e2 : val_main_call0_v2 (F := Ideal) (ix5 n k g r j) = (⊥ : EReal) := by
    pointwise [val_main_call0_v2, val_main_call0_v0, val_main_cst_17]; rfl
  rw [val_main_v76_0_apply, mask_at, e, e2, prod_at, bias_at]
  unfold Spec.sc
  by_cases h : Spec.ok n r j
  · rw [if_pos h, if_pos h, sub_eq_add_neg]; rfl
  · rw [if_neg h, if_neg h]; rfl

end Cert.ReferenceIdeal.Read
end
-- ==== Proof.RefMax.lean ====
module

public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-- The maximum along the last axis. -/
theorem max_last (X : FVec Ideal S32x2x4x128x257 .f32) (b : FVec Ideal S_ .f32) (n : Fin 32) (k : Fin 2) (g : Fin 4) (r : Fin 128) :
    Host.reduce FloatOps.maximumf X b reducesTo_S32x2x4x128x257_S32x2x4x128_d4 h_S_ (ix4 n k g r) =
      Finset.fold max (b (Shape.Idx.first h_S_)) (fun x => X (ix5 n k g r x)) Finset.univ := by
  pointwise []

end Cert.ReferenceIdeal.Read
end
-- ==== Proof.RefC.lean ====
module

public import proofs.«01_k».proof.Proof.RefB
public import proofs.«01_k».proof.Proof.RefMax
public import proofs.«01_k».proof.Proof.Mask
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-! # The reference's rows: probabilities and their derivative -/

variable (x0 : FVec Ideal S4096x512 .bf16) (x1 : FVec Ideal S4096x256 .bf16) (x2 : FVec Ideal S8 .f32)
  (x3 : FVec Ideal S4096x512 .f32) (n : Fin 32) (r : Fin 128) (k : Fin 2) (g : Fin 4)

/-- The row's scores. -/
abbrev Sc : Fin 256 → EReal := Spec.sc (fun a b => x0 (ix2 a b)) (fun a b => x1 (ix2 a b)) n (Spec.hd k g) r
/-- The head's sink. -/
abbrev Sn : EReal := x2 (ix1 (Spec.hd k g))
/-- The gradient of the row's probabilities. -/
abbrev Dp : Fin 256 → EReal := Spec.dp (fun a b => x1 (ix2 a b)) (fun a b => x3 (ix2 a b)) n (Spec.hd k g) r

/-- One of the band's positions among all of a row's entries. -/
abbrev inl (j : Fin 256) : Fin 257 := ⟨j.val, by omega⟩
/-- The sink's entry. -/
abbrev inr : Fin 257 := ⟨256, by omega⟩

theorem ext_at (j : Fin 256) : val_main_v79 (F := Ideal) x0 x1 x2 (ix5 n k g r (inl j)) = Sc x0 x1 n r k g j := by
  refine Eq.trans ?_ (score_at x0 x1 n r k g j)
  unfold val_main_v79
  generalize val_main_v76_0 (F := Ideal) x0 x1 = A
  generalize val_main_v78 (F := Ideal) x2 = B
  pointwise []

theorem ext_last : val_main_v79 (F := Ideal) x0 x1 x2 (ix5 n k g r inr) = Sn x2 k g := by
  unfold val_main_v79
  unfold Sn
  rw [← sink_at x2 n r k g]
  generalize val_main_v76_0 (F := Ideal) x0 x1 = A
  generalize val_main_v78 (F := Ideal) x2 = B
  pointwise []

theorem sum257 (f : Fin 257 → EReal) : ∑ x, f x = ∑ j : Fin 256, f (inl j) + f inr := Fin.sum_univ_castSucc f

theorem fold257 (b : EReal) (f : Fin 257 → EReal) :
    Finset.fold max b f Finset.univ = max (Finset.fold max b (fun j : Fin 256 => f (inl j)) Finset.univ) (f inr) := by
  apply le_antisymm
  · refine (Finset.fold_max_le _).mpr ⟨?_, fun x _ => ?_⟩
    · exact le_trans ((Finset.le_fold_max b).mpr (.inl le_rfl)) (le_max_left _ _)
    · by_cases h : x.val < 256
      · refine le_trans ?_ (le_max_left _ _)
        exact (Finset.le_fold_max _).mpr (.inr ⟨⟨x.val, h⟩, Finset.mem_univ _, le_rfl⟩)
      · rw [show x = inr from Fin.ext (by show x.val = 256; omega)]
        exact le_max_right _ _
  · refine max_le ((Finset.fold_max_le _).mpr ⟨(Finset.le_fold_max b).mpr (.inl le_rfl), fun j _ => ?_⟩) ?_
    · exact (Finset.le_fold_max _).mpr (.inr ⟨inl j, Finset.mem_univ _, le_rfl⟩)
    · exact (Finset.le_fold_max _).mpr (.inr ⟨inr, Finset.mem_univ _, le_rfl⟩)

theorem max_at : val_main_v87 (F := Ideal) x0 x1 x2 (ix4 n k g r) = Row.M (Sc x0 x1 n r k g) (Sn x2 k g) := by
  have e : val_main_v80 (F := Ideal) x0 x1 x2 (ix4 n k g r) = Row.M (Sc x0 x1 n r k g) (Sn x2 k g) := by
    unfold val_main_v80
    rw [max_last, fold257, ext_last]
    refine congrArg (max · _) ?_
    exact congrArg (fun f => Finset.fold max (⊥ : EReal) f Finset.univ) (funext fun j => ext_at x0 x1 x2 n r k g j)
  have e2 : val_main_v86 (F := Ideal) (ix4 n k g r) = (⊥ : EReal) := by
    pointwise [val_main_v86, val_main_cst_20]; rfl
  rw [val_main_v87_apply, e, e2]
  exact max_eq_right bot_le

theorem exp_at (j : Fin 256) : val_main_v100 (F := Ideal) x0 x1 x2 (ix5 n k g r (inl j)) =
    Row.e (Sc x0 x1 n r k g) (Sn x2 k g) j := by
  pointwise [val_main_v100, val_main_v99, val_main_v98, val_main_v97]
  rw [ext_at, max_at]; rfl

theorem exp_last : val_main_v100 (F := Ideal) x0 x1 x2 (ix5 n k g r inr) = Row.es (Sc x0 x1 n r k g) (Sn x2 k g) := by
  pointwise [val_main_v100, val_main_v99, val_main_v98, val_main_v97]
  rw [ext_last, max_at]; rfl

theorem norm_at : val_main_v102 (F := Ideal) x0 x1 x2 (ix5 n k g r 0) = Row.S (Sc x0 x1 n r k g) (Sn x2 k g) := by
  unfold Row.S
  rw [← exp_last, show (fun j => Row.e (Sc x0 x1 n r k g) (Sn x2 k g) j) =
    fun j => val_main_v100 (F := Ideal) x0 x1 x2 (ix5 n k g r (inl j)) from funext fun j => (exp_at x0 x1 x2 n r k g j).symm, ← sum257 (fun x => val_main_v100 (F := Ideal) x0 x1 x2 (ix5 n k g r x))]
  pointwise [val_main_v102, val_main_v101, val_main_cst_26]

theorem prob_at (j : Fin 256) : val_main_v108 (F := Ideal) x0 x1 x2 (ix5 n k g r j) =
    Ideal.div (Row.e (Sc x0 x1 n r k g) (Sn x2 k g) j) (Row.S (Sc x0 x1 n r k g) (Sn x2 k g)) := by
  rw [← norm_at, ← exp_at]
  pointwise [val_main_v108, val_main_v104, val_main_v103]

theorem recip_at : val_main_v107 (F := Ideal) x0 x1 x2 (ix5 n k g r 0) =
    Ideal.div 1 (Row.S (Sc x0 x1 n r k g) (Sn x2 k g) * Row.S (Sc x0 x1 n r k g) (Sn x2 k g)) := by
  rw [← norm_at]
  pointwise [val_main_v107, val_main_v106, val_main_cst_27, val_main_v105]

theorem dprob_at (j : Fin 256) : val_main_v114 (F := Ideal) x1 x3 (ix5 n k g r j) = Dp x1 x3 n r k g j := by
  pointwise [val_main_v114]
  unfold Dp Spec.dp
  exact Finset.sum_congr rfl fun d _ => by rw [do_at, vband_at x1 n j k g d]

theorem pad_at (j : Fin 256) : val_main_v117 (F := Ideal) x1 x3 (ix5 n k g r (inl j)) = Dp x1 x3 n r k g j := by
  rw [← dprob_at]
  unfold val_main_v117
  generalize val_main_v114 (F := Ideal) x1 x3 = A
  pointwise []

theorem pad_last : val_main_v117 (F := Ideal) x1 x3 (ix5 n k g r inr) = 0 := by
  unfold val_main_v117
  generalize val_main_v114 (F := Ideal) x1 x3 = A
  pointwise [val_main_cst_28]

theorem row_at (x : Fin 257) : val_main_v127 (F := Ideal) x0 x1 x2 x3 (ix5 n k g r x) =
    -Row.rT (Sc x0 x1 n r k g) (Sn x2 k g) (Dp x1 x3 n r k g) := by
  have e : val_main_v121 (F := Ideal) x0 x1 x2 x3 (ix4 n k g r) =
      ∑ x : Fin 257, val_main_v117 (F := Ideal) x1 x3 (ix5 n k g r x) * val_main_v107 (F := Ideal) x0 x1 x2 (ix5 n k g r 0) *
        val_main_v100 (F := Ideal) x0 x1 x2 (ix5 n k g r x) := by
    pointwise [val_main_v121, val_main_cst_29, val_main_v120, val_main_v119, val_main_v118]
  have e2 : val_main_v127 (F := Ideal) x0 x1 x2 x3 (ix5 n k g r x) = -val_main_v121 (F := Ideal) x0 x1 x2 x3 (ix4 n k g r) := by
    pointwise [val_main_v127, val_main_v126, val_main_cst_30, val_main_v123, val_main_v122]
    exact Fin.sum_univ_one _
  rw [e2, e, sum257]
  unfold Row.rT
  rw [pad_last, exp_last, recip_at]
  refine congrArg (fun z => -(z + _)) (Finset.sum_congr rfl fun j _ => ?_)
  rw [pad_at, exp_at]

theorem dscore_at (hdp : ∀ j, ∃ q : ℝ, Dp x1 x3 n r k g j = q) (j : Fin 256) :
    val_main_v129 (F := Ideal) x0 x1 x2 x3 (ix5 n k g r (inl j)) =
      Row.ds (Sc x0 x1 n r k g) (Sn x2 k g) (Dp x1 x3 n r k g) j := by
  pointwise [val_main_v129, val_main_v128, val_main_v125, val_main_v124]
  rw [norm_at, pad_at, exp_at, row_at]
  exact Row.ref_ds _ _ _ hdp j

theorem dsink_at (hdp : ∀ j, ∃ q : ℝ, Dp x1 x3 n r k g j = q) :
    val_main_v131 (F := Ideal) x0 x1 x2 x3 (ix5 n k g r 0) =
      -Row.sk (Sc x0 x1 n r k g) (Sn x2 k g) (Dp x1 x3 n r k g) := by
  have e : val_main_v131 (F := Ideal) x0 x1 x2 x3 (ix5 n k g r 0) = val_main_v129 (F := Ideal) x0 x1 x2 x3 (ix5 n k g r inr) := by
    pointwise [val_main_v131]
    rfl
  rw [e]
  pointwise [val_main_v129, val_main_v128, val_main_v125, val_main_v124]
  rw [norm_at, pad_last, exp_last, row_at]
  exact Row.ref_sk _ _ _ hdp

/-- The gradient of the scaled products. -/
theorem dprod_at (hdp : ∀ j, ∃ q : ℝ, Dp x1 x3 n r k g j = q) (j : Fin 256) :
    val_main_v137 (F := Ideal) x0 x1 x2 x3 (ix5 n k g r j) =
      Spec.ds (fun a b => x0 (ix2 a b)) (fun a b => x1 (ix2 a b)) (fun h => x2 (ix1 h)) (fun a b => x3 (ix2 a b))
        n (Spec.hd k g) r j := by
  have e : val_main_v130 (F := Ideal) x0 x1 x2 x3 (ix5 n k g r j) = val_main_v129 (F := Ideal) x0 x1 x2 x3 (ix5 n k g r (inl j)) := by
    pointwise [val_main_v130]
  have e0 : val_main_call1_v0 (F := Ideal) (ix5 n k g r j) = (0 : EReal) := by
    pointwise [val_main_call1_v0, val_main_call1_cst]
  have e8 : val_main_v136 (F := Ideal) (ix5 n k g r j) = Spec.eighth := by
    pointwise [val_main_v136, val_main_cst_32]; rfl
  rw [val_main_v137_apply, e8, val_main_v135_apply, mask_at, e, e0, dscore_at x0 x1 x2 x3 n r k g hdp]
  unfold Spec.ds
  refine congrArg (· * Spec.eighth) ?_
  by_cases h : Spec.ok n r j
  · rw [if_pos h]; rfl
  · rw [if_neg h]
    have hs : Sc x0 x1 n r k g j = ⊥ := if_neg h
    exact (Row.ds_bot _ _ _ hs).symm

end Cert.ReferenceIdeal.Read
end
-- ==== Proof.RefD.lean ====
module

public import proofs.«01_k».proof.Proof.RefC

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-! # The reference's results, at coordinates

Both hypotheses follow from finite inputs: the gradients of the probabilities are real numbers, and no row's
normaliser is zero. -/

variable (x0 : FVec Ideal S4096x512 .bf16) (x1 : FVec Ideal S4096x256 .bf16) (x2 : FVec Ideal S8 .f32)
  (x3 : FVec Ideal S4096x512 .f32)

/-- What the results need of the rows. -/
structure Regular : Prop where
  dp : ∀ n r k g j, ∃ q : ℝ, Dp x1 x3 n r k g j = q
  norm : ∀ n r k g, Row.S (Sc x0 x1 n r k g) (Sn x2 k g) ≠ 0

/-- The queries as a function of row and column. -/
abbrev fQ : Fin 4096 → Fin 512 → EReal := fun a b => x0 (ix2 a b)
/-- The keys and values as a function of row and column. -/
abbrev fKV : Fin 4096 → Fin 256 → EReal := fun a b => x1 (ix2 a b)
/-- The sinks as a function of the head. -/
abbrev fSK : Fin 8 → EReal := fun h => x2 (ix1 h)
/-- The output's gradient as a function of row and column. -/
abbrev fDO : Fin 4096 → Fin 512 → EReal := fun a b => x3 (ix2 a b)

variable {x0 x1 x2 x3} (H : Regular x0 x1 x2 x3)
include H

theorem dprod_sw (n : Fin 32) (r : Fin 128) (k : Fin 2) (g : Fin 4) (j : Fin 256) :
    val_main_v138 (F := Ideal) x0 x1 x2 x3 (ix5 n k j r g) =
      Spec.ds (fQ x0) (fKV x1) (fSK x2) (fDO x3) n (Spec.hd k g) r j := by
  refine Eq.trans ?_ (dprod_at x0 x1 x2 x3 n r k g (H.dp n r k g) j)
  pointwise [val_main_v138]

theorem dq_at (n : Fin 32) (r : Fin 128) (k : Fin 2) (g : Fin 4) (d : Fin 64) :
    val_main_v140 (F := Ideal) x0 x1 x2 x3 (ix5 n r k g d) =
      Spec.dq (fQ x0) (fKV x1) (fSK x2) (fDO x3) n (Spec.hd k g) r d := by
  have e : val_main_v140 (F := Ideal) x0 x1 x2 x3 (ix5 n r k g d) =
      ∑ j, val_main_v138 (F := Ideal) x0 x1 x2 x3 (ix5 n k j r g) * val_main_v12 (F := Ideal) x1 (ix4 n j k d) := by
    unfold val_main_v140 val_main_v139
    generalize val_main_v138 (F := Ideal) x0 x1 x2 x3 = A
    generalize val_main_v12 (F := Ideal) x1 = B
    pointwise []
  rw [e]
  exact Finset.sum_congr rfl fun j _ => by rw [dprod_sw H, kband_at x1 n j k g d]

theorem dk_at (n : Fin 32) (j : Fin 256) (k : Fin 2) (d : Fin 64) :
    val_main_v142 (F := Ideal) x0 x1 x2 x3 (ix4 n j k d) =
      Spec.dk (fQ x0) (fKV x1) (fSK x2) (fDO x3) n j k d := by
  have e : val_main_v142 (F := Ideal) x0 x1 x2 x3 (ix4 n j k d) =
      ∑ g : Fin 4, ∑ r : Fin 128, val_main_v138 (F := Ideal) x0 x1 x2 x3 (ix5 n k j r g) * val_main_v4 (F := Ideal) x0 (ix5 n r k g d) := by
    unfold val_main_v142 val_main_v141
    generalize val_main_v138 (F := Ideal) x0 x1 x2 x3 = A
    generalize val_main_v4 (F := Ideal) x0 = B
    pointwise []
    exact Finset.sum_comm
  rw [e]
  exact Finset.sum_congr rfl fun g _ => Finset.sum_congr rfl fun r _ => by rw [dprod_sw H, q_at]

theorem dv_at (n : Fin 32) (j : Fin 256) (k : Fin 2) (d : Fin 64) :
    val_main_v116 (F := Ideal) x0 x1 x2 x3 (ix4 n j k d) =
      Spec.dv (fQ x0) (fKV x1) (fSK x2) (fDO x3) n j k d := by
  have e : val_main_v116 (F := Ideal) x0 x1 x2 x3 (ix4 n j k d) =
      ∑ g : Fin 4, ∑ r : Fin 128, val_main_v113 (F := Ideal) x3 (ix5 n k d g r) * val_main_v108 (F := Ideal) x0 x1 x2 (ix5 n k g r j) := by
    unfold val_main_v116 val_main_v115
    generalize val_main_v113 (F := Ideal) x3 = A
    generalize val_main_v108 (F := Ideal) x0 x1 x2 = B
    pointwise []
  rw [e]
  refine Finset.sum_congr rfl fun g _ => Finset.sum_congr rfl fun r _ => ?_
  rw [prob_at, do_at, mul_comm]
  exact congrArg (· * _) ((Row.pr_eq _ _ j).resolve_right (H.norm n r k g))

end Cert.ReferenceIdeal.Read
end
-- ==== Proof.RefE.lean ====
module

public import proofs.«01_k».proof.Proof.RefD

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

/-! # The reference's result arrays -/

variable {x0 : FVec Ideal S4096x512 .bf16} {x1 : FVec Ideal S4096x256 .bf16} {x2 : FVec Ideal S8 .f32}
  {x3 : FVec Ideal S4096x512 .f32}

theorem dq_array (H : Regular x0 x1 x2 x3) (n : Fin 32) (r : Fin 128) (h : Fin 8) (d : Fin 64) :
    val_main_v161 (F := Ideal) x0 x1 x2 x3 (ix2 (Spec.row n r) (Spec.qcol h d)) =
      Spec.dq (fQ x0) (fKV x1) (fSK x2) (fDO x3) n h r d := by
  have hh : Spec.hd ⟨h.val / 4, by omega⟩ ⟨h.val % 4, by omega⟩ = h := Fin.ext (by simp only [Spec.hd]; omega)
  refine Eq.trans ?_ ((dq_at H n r ⟨h.val / 4, by omega⟩ ⟨h.val % 4, by omega⟩ d).trans (by rw [hh]))
  unfold val_main_v161
  generalize val_main_v140 (F := Ideal) x0 x1 x2 x3 = A
  pointwise [Spec.row, Spec.qcol]
  blk_ext []

/-! Both halves of a band, laid over the positions: from the block itself and from the next one. -/

theorem dv_hi (n : Fin 32) (r : Fin 128) (k : Fin 2) (d : Fin 64) :
    val_main_v145 (F := Ideal) x0 x1 x2 x3 (ix4 ⟨n.val + 1, by omega⟩ r k d) =
      val_main_v116 (F := Ideal) x0 x1 x2 x3 (ix4 n ⟨128 + r.val, by omega⟩ k d) := by
  unfold val_main_v145 val_main_v144
  generalize val_main_v116 (F := Ideal) x0 x1 x2 x3 = A
  pointwise [val_main_cst_33]
  rw [dif_pos (show n.val + 1 - 1 < 32 by omega)]
  exact congrArg A (congrArg (fun q => ix4 q (⟨128 + r.val, by omega⟩ : Fin 256) k d) (Fin.ext (Nat.add_sub_cancel n.val 1)))

theorem dv_lo (n : Fin 32) (r : Fin 128) (k : Fin 2) (d : Fin 64) :
    val_main_v146 (F := Ideal) x0 x1 x2 x3 (ix4 ⟨n.val + 1, by omega⟩ r k d) =
      if h : n.val + 1 < 32 then val_main_v116 (F := Ideal) x0 x1 x2 x3 (ix4 ⟨n.val + 1, h⟩ ⟨r.val, by omega⟩ k d) else 0 := by
  unfold val_main_v146 val_main_v143
  generalize val_main_v116 (F := Ideal) x0 x1 x2 x3 = A
  pointwise [val_main_cst_34]

theorem dv_pos (n : Fin 32) (r : Fin 128) (c : Fin 128) :
    val_main_v151 (F := Ideal) x0 x1 x2 x3 (ix2 (Spec.row n r) c) =
      val_main_v147 (F := Ideal) x0 x1 x2 x3 (ix4 ⟨n.val + 1, by omega⟩ r ⟨c.val / 64, by omega⟩ ⟨c.val % 64, by omega⟩) := by
  unfold val_main_v151 val_main_v150 val_main_v148
  generalize val_main_v147 (F := Ideal) x0 x1 x2 x3 = A
  pointwise [Spec.row]
  blk_ext []

theorem dv_flat (n : Fin 32) (r : Fin 128) (c : Fin 128) :
    val_main_v151 (F := Ideal) x0 x1 x2 x3 (ix2 (Spec.row n r) c) =
      val_main_v116 (F := Ideal) x0 x1 x2 x3 (ix4 n ⟨128 + r.val, by omega⟩ ⟨c.val / 64, by omega⟩ ⟨c.val % 64, by omega⟩) +
        if h : n.val + 1 < 32 then
          val_main_v116 (F := Ideal) x0 x1 x2 x3 (ix4 ⟨n.val + 1, h⟩ ⟨r.val, by omega⟩ ⟨c.val / 64, by omega⟩ ⟨c.val % 64, by omega⟩)
        else 0 := by
  rw [dv_pos, val_main_v147_apply, dv_hi, dv_lo]
  rfl

theorem dk_hi (n : Fin 32) (r : Fin 128) (k : Fin 2) (d : Fin 64) :
    val_main_v154 (F := Ideal) x0 x1 x2 x3 (ix4 ⟨n.val + 1, by omega⟩ r k d) =
      val_main_v142 (F := Ideal) x0 x1 x2 x3 (ix4 n ⟨128 + r.val, by omega⟩ k d) := by
  unfold val_main_v154 val_main_v153
  generalize val_main_v142 (F := Ideal) x0 x1 x2 x3 = A
  pointwise [val_main_cst_35]
  rw [dif_pos (show n.val + 1 - 1 < 32 by omega)]
  exact congrArg A (congrArg (fun q => ix4 q (⟨128 + r.val, by omega⟩ : Fin 256) k d) (Fin.ext (Nat.add_sub_cancel n.val 1)))

theorem dk_lo (n : Fin 32) (r : Fin 128) (k : Fin 2) (d : Fin 64) :
    val_main_v155 (F := Ideal) x0 x1 x2 x3 (ix4 ⟨n.val + 1, by omega⟩ r k d) =
      if h : n.val + 1 < 32 then val_main_v142 (F := Ideal) x0 x1 x2 x3 (ix4 ⟨n.val + 1, h⟩ ⟨r.val, by omega⟩ k d) else 0 := by
  unfold val_main_v155 val_main_v152
  generalize val_main_v142 (F := Ideal) x0 x1 x2 x3 = A
  pointwise [val_main_cst_36]

theorem dk_pos (n : Fin 32) (r : Fin 128) (c : Fin 128) :
    val_main_v160 (F := Ideal) x0 x1 x2 x3 (ix2 (Spec.row n r) c) =
      val_main_v156 (F := Ideal) x0 x1 x2 x3 (ix4 ⟨n.val + 1, by omega⟩ r ⟨c.val / 64, by omega⟩ ⟨c.val % 64, by omega⟩) := by
  unfold val_main_v160 val_main_v159 val_main_v157
  generalize val_main_v156 (F := Ideal) x0 x1 x2 x3 = A
  pointwise [Spec.row]
  blk_ext []

theorem dk_flat (n : Fin 32) (r : Fin 128) (c : Fin 128) :
    val_main_v160 (F := Ideal) x0 x1 x2 x3 (ix2 (Spec.row n r) c) =
      val_main_v142 (F := Ideal) x0 x1 x2 x3 (ix4 n ⟨128 + r.val, by omega⟩ ⟨c.val / 64, by omega⟩ ⟨c.val % 64, by omega⟩) +
        if h : n.val + 1 < 32 then
          val_main_v142 (F := Ideal) x0 x1 x2 x3 (ix4 ⟨n.val + 1, h⟩ ⟨r.val, by omega⟩ ⟨c.val / 64, by omega⟩ ⟨c.val % 64, by omega⟩)
        else 0 := by
  rw [dk_pos, val_main_v156_apply, dk_hi, dk_lo]
  rfl

theorem dkv_array (H : Regular x0 x1 x2 x3) (n : Fin 32) (r : Fin 128) (c : Fin 256) :
    val_main_v164 (F := Ideal) x0 x1 x2 x3 (ix2 (Spec.row n r) c) =
      Spec.dkv (fQ x0) (fKV x1) (fSK x2) (fDO x3) n r c := by
  by_cases hc : c.val < 128
  · have e : val_main_v164 (F := Ideal) x0 x1 x2 x3 (ix2 (Spec.row n r) c) =
        val_main_v160 (F := Ideal) x0 x1 x2 x3 (ix2 (Spec.row n r) ⟨c.val, hc⟩) := by
      unfold val_main_v164 val_main_v162 val_main_v163
      generalize val_main_v151 (F := Ideal) x0 x1 x2 x3 = A
      generalize val_main_v160 (F := Ideal) x0 x1 x2 x3 = B
      pointwise [val_main_cst_37, val_main_cst_38]
      rw [dif_neg (by omega), dif_pos hc, zero_add]
    rw [e, dk_flat, dk_at H]
    simp only [Spec.dkv, Spec.dband, dif_pos hc, dk_at H]
  · have e : val_main_v164 (F := Ideal) x0 x1 x2 x3 (ix2 (Spec.row n r) c) =
        val_main_v151 (F := Ideal) x0 x1 x2 x3 (ix2 (Spec.row n r) ⟨c.val - 128, by omega⟩) := by
      unfold val_main_v164 val_main_v162 val_main_v163
      generalize val_main_v151 (F := Ideal) x0 x1 x2 x3 = A
      generalize val_main_v160 (F := Ideal) x0 x1 x2 x3 = B
      pointwise [val_main_cst_37, val_main_cst_38]
      rw [dif_pos (by omega), dif_neg hc, add_zero]
    have e1 : (c.val - 128) / 64 = c.val / 64 - 2 := by omega
    have e2 : (c.val - 128) % 64 = c.val % 64 := by omega
    rw [e, dv_flat, dv_at H]
    simp only [Spec.dkv, Spec.dband, dif_neg hc, dv_at H, e1, e2]

/-- The sum over blocks, rows and the one entry of each, at a key head and a query head. -/
theorem sum_blocks (A : FVec Ideal S32x2x4x128x1 .f32) (k : Fin 2) (g : Fin 4) :
    Ideal.hostReduceAdd reducesTo_S32x2x4x128x1_S2x4_d0_3_4 A 0 (ix2 k g) = ∑ n : Fin 32, ∑ r : Fin 128, A (ix5 n k g r 0) := by
  rw [Ideal.hostReduceAdd, zero_add, ← Finset.sum_product' Finset.univ Finset.univ (fun n r => A (ix5 n k g r 0))]
  refine (Finset.sum_nbij (fun p : Fin 32 × Fin 128 => ix5 p.1 k g p.2 0) ?_ ?_ ?_ fun _ _ => rfl).symm
  · intro p _
    refine Finset.mem_filter.mpr ⟨Finset.mem_univ _, ?_⟩
    funext b; apply Fin.ext
    match b with
    | ⟨0, _⟩ => rfl
    | ⟨1, _⟩ => rfl
  · intro p _ q _ e
    exact Prod.ext (congrFun e 0) (congrFun e 3)
  · intro i hi
    have e := (Finset.mem_filter.mp (Finset.mem_coe.mp hi)).2
    refine ⟨(i 0, i 3), Finset.mem_coe.mpr (Finset.mem_product.mpr ⟨Finset.mem_univ _, Finset.mem_univ _⟩), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (Nat.lt_one_iff.mp (i 4).isLt).symm

theorem sinks_sum (h : Fin 8) :
    val_main_v134 (F := Ideal) x0 x1 x2 x3 (ix1 h) =
      ∑ n : Fin 32, ∑ r : Fin 128, val_main_v131 (F := Ideal) x0 x1 x2 x3
        (ix5 n ⟨h.val / 4, by omega⟩ ⟨h.val % 4, by omega⟩ r 0) := by
  unfold val_main_v134 val_main_v133 val_main_v132
  generalize val_main_v131 (F := Ideal) x0 x1 x2 x3 = A
  pointwise [val_main_cst_31]
  exact sum_blocks A _ _

theorem sinks_array (H : Regular x0 x1 x2 x3) (h : Fin 8) :
    val_main_v134 (F := Ideal) x0 x1 x2 x3 (ix1 h) = Spec.dsk (fQ x0) (fKV x1) (fSK x2) (fDO x3) h := by
  obtain ⟨k, g, rfl⟩ : ∃ k g, h = Spec.hd k g :=
    ⟨⟨h.val / 4, by omega⟩, ⟨h.val % 4, by omega⟩, Fin.ext (by simp only [Spec.hd]; omega)⟩
  have ek : (⟨(Spec.hd k g).val / 4, by omega⟩ : Fin 2) = k := Fin.ext (by simp only [Spec.hd]; omega)
  have eg : (⟨(Spec.hd k g).val % 4, by omega⟩ : Fin 4) = g := Fin.ext (by simp only [Spec.hd]; omega)
  rw [sinks_sum, ek, eg]
  refine Finset.sum_congr rfl fun n _ => ?_
  choose q hq using fun r : Fin 128 => Row.dl_real (Sc x0 x1 n r k g) (Sn x2 k g) (Dp x1 x3 n r k g) (H.dp n r k g)
  have e : ∀ r : Fin 128, val_main_v131 (F := Ideal) x0 x1 x2 x3 (ix5 n k g r 0) = ((-q r : ℝ) : EReal) := fun r => by
    rw [dsink_at x0 x1 x2 x3 n r k g (H.dp n r k g), EReal.coe_neg, ← hq r]
  have e' : ∀ r : Fin 128, Spec.sk (fQ x0) (fKV x1) (fSK x2) (fDO x3) n (Spec.hd k g) r = (q r : EReal) := hq
  rw [Finset.sum_congr rfl fun r _ => e r, Finset.sum_congr rfl fun r _ => e' r, Row.sum_coe, Row.sum_coe, zero_sub, Finset.sum_neg_distrib]
  rfl

end Cert.ReferenceIdeal.Read
end
-- ==== Proof.Finite.lean ====
module

public import proofs.«01_k».proof.Pre_finite
public import proofs.«01_k».proof.Proof.RefD
public import Idealize.ShloMosaic.Lib.ReduceAll

@[expose] public section

set_option maxRecDepth 16384

noncomputable section

open Idealize.ShloMosaic Idealize.ShloMosaic.TcCoe Idealize.SL.Sem

/-! # What finite inputs give -/

namespace Cert.Pre_finite

/-- The shapes of the condition's lines fit. -/
theorem shapes : Facts where
  bitsLt_bf16_f32 := by decide
  bcast_S_S4096x512 := by decide
  reducesTo_S4096x512_S_d0_1 := by decide
  h_S_ := by decide
  bcast_S_S4096x256 := by decide
  reducesTo_S4096x256_S_d0_1 := by decide
  bcast_S_S8 := by decide
  reducesTo_S8_S_d0 := by decide

instance : Subsingleton S_.Idx := ⟨fun a b => funext fun i => i.elim0⟩

/-- A number below infinity in absolute value is a real number. -/
theorem real_of_bit (a : EReal) (h : Ideal.cmp .olt (max a (-a)) (Ideal.ofBits .f32 0x7F800000#32) = 1#1) : ∃ q : ℝ, a = q := by
  have ht : Ideal.ofBits .f32 0x7F800000#32 = ⊤ := rfl
  rw [ht] at h
  have hl : max a (-a) < ⊤ := by
    by_contra hn
    have e : Ideal.cmp .olt (max a (-a)) ⊤ = 0#1 := by
      show BitVec.ofBool (decide _) = _
      rw [decide_eq_false hn]; rfl
    rw [e] at h
    exact absurd h (by decide)
  induction a using EReal.rec with
  | bot => exact absurd hl (by simp)
  | coe q => exact ⟨q, rfl⟩
  | top => exact absurd hl (by simp)

/-- Every element of the inputs is a real number when the condition holds. -/
theorem reals [Facts] (x0 : FVec Ideal S4096x512 .bf16) (x1 : FVec Ideal S4096x256 .bf16) (x2 : FVec Ideal S8 .f32)
    (x3 : FVec Ideal S4096x512 .f32) (h : fn (F := Ideal) x0 x1 x2 x3 = fun _ => 1#1) :
    (∀ i, ∃ q : ℝ, x0 i = (q : EReal)) ∧ (∀ i, ∃ q : ℝ, x1 i = (q : EReal)) ∧ (∀ i, ∃ q : ℝ, x2 i = (q : EReal)) ∧
      ∀ i, ∃ q : ℝ, x3 i = (q : EReal) := by
  have h0 := congrFun h ix0
  dsimp only [fn, fn_part1] at h0
  obtain ⟨h012, h3⟩ := IntOp.andi_eq_one.mp h0
  obtain ⟨h01, h2⟩ := IntOp.andi_eq_one.mp h012
  obtain ⟨hq, h1⟩ := IntOp.andi_eq_one.mp h01
  exact ⟨fun i => real_of_bit _ (Host.reduce_andi_all _ _ _ _ _ hq i), fun i => real_of_bit _ (Host.reduce_andi_all _ _ _ _ _ h1 i),
    fun i => real_of_bit _ (Host.reduce_andi_all _ _ _ _ _ h2 i), fun i => real_of_bit _ (Host.reduce_andi_all _ _ _ _ _ h3 i)⟩

end Cert.Pre_finite

namespace Cert.Row
variable (x : Fin 256 → EReal) (s : EReal)

/-- A row with a real sink and no infinite score has a positive normaliser. -/
theorem norm_ne (hx : ∀ j, x j < ⊤) (hs : ∃ q : ℝ, s = q) : S x s ≠ 0 := by
  obtain ⟨q, rfl⟩ := hs
  have hM : M x q < ⊤ := max_lt ((Finset.fold_max_lt _).mpr ⟨bot_lt_top, fun j _ => hx j⟩) (EReal.coe_lt_top q)
  have hq : (q : EReal) ≤ M x q := le_max_right _ _
  have hes : 0 < es x q := by
    unfold es
    generalize M x q = t at hM hq
    induction t using EReal.rec with
    | bot => exact absurd hq (by simp)
    | coe t => exact EReal.coe_pos.mpr (Real.exp_pos (q - t))
    | top => exact absurd hM (by simp)
  have he : 0 ≤ ∑ j, e x q j := Finset.sum_nonneg fun j _ => by
    obtain ⟨a, ha, ea⟩ := e_real x q j
    rw [ea]; exact EReal.coe_nonneg.mpr ha
  exact (lt_of_lt_of_le hes (le_add_of_nonneg_left he)).ne'

end Cert.Row

namespace Cert.Spec
variable (Q : Fin 4096 → Fin 512 → EReal) (KV : Fin 4096 → Fin 256 → EReal) (DO : Fin 4096 → Fin 512 → EReal)

theorem band_real (hK : ∀ a b, ∃ q : ℝ, KV a b = q) (n : Fin 32) (j c : Fin 256) : ∃ q : ℝ, band KV n j c = q := by
  unfold band
  by_cases h : 128 ≤ 128 * n.val + j.val
  · rw [dif_pos h]; exact hK _ _
  · rw [dif_neg h]; exact ⟨0, rfl⟩

theorem dot_real {k : ℕ} (f g : Fin k → EReal) (hf : ∀ d, ∃ q : ℝ, f d = q) (hg : ∀ d, ∃ q : ℝ, g d = q) :
    ∃ q : ℝ, ∑ d, f d * g d = q := by
  choose a ha using hf
  choose b hb using hg
  refine ⟨∑ d, a d * b d, ?_⟩
  rw [← Row.sum_coe]
  exact Finset.sum_congr rfl fun d _ => by rw [ha, hb, EReal.coe_mul]

theorem dp_real (hK : ∀ a b, ∃ q : ℝ, KV a b = q) (hD : ∀ a b, ∃ q : ℝ, DO a b = q) (n : Fin 32) (h : Fin 8) (r : Fin 128) (j : Fin 256) :
    ∃ q : ℝ, dp KV DO n h r j = q :=
  dot_real _ _ (fun d => hD _ _) (fun d => band_real KV hK _ _ _)

theorem slope_real (h : Fin 8) : ∃ q : ℝ, slope h = q := by
  unfold slope
  fin_cases h <;> exact ⟨_, rfl⟩

theorem sc_lt (hQ : ∀ a b, ∃ q : ℝ, Q a b = q) (hK : ∀ a b, ∃ q : ℝ, KV a b = q) (n : Fin 32) (h : Fin 8) (r : Fin 128) (j : Fin 256) :
    sc Q KV n h r j < ⊤ := by
  unfold sc
  by_cases hk : ok n r j
  · rw [if_pos hk]
    obtain ⟨a, ha⟩ := dot_real (fun d => Q (row n r) (qcol h d)) (fun d => band KV n j (kcol h d)) (fun d => hQ _ _) (fun d => band_real KV hK _ _ _)
    obtain ⟨b, hb⟩ : ∃ q : ℝ, eighth = q := ⟨_, rfl⟩
    obtain ⟨c, hc⟩ := slope_real h
    unfold dist
    rw [ha, hb, hc, ← EReal.coe_mul, ← EReal.coe_mul, ← EReal.coe_sub]
    exact EReal.coe_lt_top _
  · rw [if_neg hk]; exact bot_lt_top

end Cert.Spec

namespace Cert.ReferenceIdeal.Read

/-- Real inputs make every row regular. -/
theorem regular {x0 : FVec Ideal S4096x512 .bf16} {x1 : FVec Ideal S4096x256 .bf16} {x2 : FVec Ideal S8 .f32}
    {x3 : FVec Ideal S4096x512 .f32} (h0 : ∀ i, ∃ q : ℝ, x0 i = (q : EReal)) (h1 : ∀ i, ∃ q : ℝ, x1 i = (q : EReal))
    (h2 : ∀ i, ∃ q : ℝ, x2 i = (q : EReal)) (h3 : ∀ i, ∃ q : ℝ, x3 i = (q : EReal)) : Regular x0 x1 x2 x3 where
  dp n r k g j := Spec.dp_real _ _ (fun _ _ => h1 _) (fun _ _ => h3 _) _ _ _ _
  norm n r k g := Row.norm_ne _ _ (fun j => Spec.sc_lt _ _ (fun _ _ => h0 _) (fun _ _ => h1 _) _ _ _ _) (h2 _)

end Cert.ReferenceIdeal.Read
end
-- ==== Proof.Joined.lean ====
module

public import proofs.«01_k».proof.Defs
public import proofs.«01_k».proof.Proof.KRun
public import proofs.«01_k».proof.Proof.RefE
public import proofs.«01_k».proof.Proof.Finite
public import proofs.«01_k».proof.Proof.Gen.ReferenceIdeal.Run

@[expose] public section

set_option maxRecDepth 16384

noncomputable section

open Idealize.ShloMosaic Idealize.ShloMosaic.TcCoe Idealize.SL.Sem

/-! # Both programs' results, joined -/

namespace Cert.Joined
open Cert.ReferenceIdeal.Read

variable (m : (ℓ : Loc Cert.KernelIdeal.nD Cert.KernelIdeal.τ Cert.KernelIdeal.sig) → Buf (Elt Ideal) ℓ)
  (c : Dev Cert.KernelIdeal.nD)

/-- The kernel's four arguments. -/
abbrev a0 : FVec Ideal Cert.ReferenceIdeal.S4096x512 .bf16 := m ((c.tc : Thread Cert.KernelIdeal.nD Cert.KernelIdeal.τ).loc Cert.KernelIdeal.main_arg0)
abbrev a1 : FVec Ideal Cert.ReferenceIdeal.S4096x256 .bf16 := m ((c.tc : Thread Cert.KernelIdeal.nD Cert.KernelIdeal.τ).loc Cert.KernelIdeal.main_arg1)
abbrev a2 : FVec Ideal Cert.ReferenceIdeal.S8 .f32 := m ((c.tc : Thread Cert.KernelIdeal.nD Cert.KernelIdeal.τ).loc Cert.KernelIdeal.main_arg2)
abbrev a3 : FVec Ideal Cert.ReferenceIdeal.S4096x512 .f32 := m ((c.tc : Thread Cert.KernelIdeal.nD Cert.KernelIdeal.τ).loc Cert.KernelIdeal.main_arg3)

variable (H : Regular (a0 m c) (a1 m c) (a2 m c) (a3 m c))
include H

theorem dq_eq : val_main_v161 (F := Ideal) (a0 m c) (a1 m c) (a2 m c) (a3 m c) = Cert.KernelIdeal.Value.dqA m c := by
  funext i
  have h0 : (i 0 : ℕ) < 4096 := (i 0).isLt
  have h1 : (i 1 : ℕ) < 512 := (i 1).isLt
  have ei : i = ix2 (Spec.row ⟨(i 0 : ℕ) / 128, by omega⟩ ⟨(i 0 : ℕ) % 128, by omega⟩) (Spec.qcol ⟨(i 1 : ℕ) / 64, by omega⟩ ⟨(i 1 : ℕ) % 64, by omega⟩) := by
    refine (eq_ix2 i).trans (congrArg₂ ix2 (Fin.ext ?_) (Fin.ext ?_))
    · exact (Nat.div_add_mod _ 128).symm
    · exact (Nat.div_add_mod _ 64).symm
  refine (congrArg _ ei).trans ?_
  exact dq_array H _ _ _ _

theorem dkv_eq : val_main_v164 (F := Ideal) (a0 m c) (a1 m c) (a2 m c) (a3 m c) = Cert.KernelIdeal.Value.dkvA m c := by
  funext i
  have h0 : (i 0 : ℕ) < 4096 := (i 0).isLt
  have ei : i = ix2 (Spec.row ⟨(i 0 : ℕ) / 128, by omega⟩ ⟨(i 0 : ℕ) % 128, by omega⟩) (i 1) := by
    refine (eq_ix2 i).trans (congrArg (fun a => ix2 a (i 1)) (Fin.ext ?_))
    exact (Nat.div_add_mod _ 128).symm
  refine (congrArg _ ei).trans ?_
  exact dkv_array H _ _ _

theorem sinks_eq : val_main_v134 (F := Ideal) (a0 m c) (a1 m c) (a2 m c) (a3 m c) = Cert.KernelIdeal.Value.sinkA m c := by
  funext i
  refine (congrArg _ (ix1_eta i).symm).trans ?_
  exact sinks_array H _

omit H in
/-- Finite arguments are regular. -/
theorem regular_of_pre (h : @Cert.Pre_KernelIdeal_finite Cert.Pre_finite.shapes m) : Regular (a0 m c) (a1 m c) (a2 m c) (a3 m c) := by
  obtain ⟨h0, h1, h2, h3⟩ := @Cert.Pre_finite.reals Cert.Pre_finite.shapes (a0 m c) (a1 m c) (a2 m c) (a3 m c) (h c)
  exact regular h0 h1 h2 h3

end Cert.Joined

namespace Cert.Joined
open Cert.ReferenceIdeal Cert.ReferenceIdeal.Read
open Idealize.ShloMosaic.StableHlo (launchContents launchContents_devRef)

/-- The reference's run, its results as functions of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v161) = val_main_v161 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v134) = val_main_v134 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c).1.trans ((val_main_v161_eq (launchContents m c)).trans (by rw [launchContents_devRef, launchContents_devRef, launchContents_devRef, launchContents_devRef])), (h c).2.1.trans ((val_main_v164_eq (launchContents m c)).trans (by rw [launchContents_devRef, launchContents_devRef, launchContents_devRef, launchContents_devRef])),
      (h c).2.2.1.trans ((val_main_v134_eq (launchContents m c)).trans (by rw [launchContents_devRef, launchContents_devRef, launchContents_devRef, launchContents_devRef])), (h c).2.2.2⟩)
    (Cert.ReferenceIdeal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, Idealize.ShloMosaic.sem_eq_zero_of_no_sems (by decide) r.2⟩) (ref_run m g)

end Cert.Joined

namespace Cert.Joined

/-- Both programs end with the same gradients. -/
theorem algebraic : @Cert.algebraic_KernelIdeal_ReferenceIdeal_pre_finite Cert.KernelIdeal.Gen.facts Cert.ReferenceIdeal.Gen.facts Cert.Pre_finite.shapes := by
  intro m g m' g' hpre hag
  refine ⟨fun c => Cert.KernelIdeal.Value.dqA m c, fun c => Cert.KernelIdeal.Value.dkvA m c, fun c => Cert.KernelIdeal.Value.sinkA m c,
    Cert.KernelIdeal.Value.kernel_run m g, ?_⟩
  refine (θ_run Cert.ReferenceIdeal.defs _ _).mono (fun r h c => ?_) (ref_run m' g')
  have hc := h c
  have ha := hag c
  have H := regular_of_pre m c hpre
  refine ⟨?_, ?_, ?_, hc.2.2.2⟩
  · rw [hc.1, ha.1, ha.2.1, ha.2.2.1, ha.2.2.2]; exact dq_eq m c H
  · rw [hc.2.1, ha.1, ha.2.1, ha.2.2.1, ha.2.2.2]; exact dkv_eq m c H
  · rw [hc.2.2.1, ha.1, ha.2.1, ha.2.2.1, ha.2.2.2]; exact sinks_eq m c H

end Cert.Joined
end
-- ==== Proof.Halves.lean ====
module

public import Idealize.ShloMosaic.PureOps.Ideal

@[expose] public section

/-! # A sum over 4096 tokens by halves -/

namespace Halves

theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

end Halves
end
-- ==== Proof.OutWeights.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Halves
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! # The gradient of the MLP's second weight: a product over the tokens, in tiles of 512 columns and halves of the tokens -/

namespace Cert.OutWeights
open Cert.Kernel2Ideal Cert.Kernel2Ideal.Gen

section point
variable (c : Dev nD) (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec Ideal S2048x512 .bf16) (x1 : Vec Ideal S2048x1024 .bf16) (xs0 : Vec Ideal S512x1024 .f32)

theorem hz : (![0, 0] : Fin 2 → Nat) = fun _ => 0 := funext fun a => by fin_cases a <;> rfl

/-- The first half's point leaves the product of the halves over zero. -/
theorem first (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S2048x512) hz, View.ld_unit_zero (S := S2048x1024) hz]

/-- The second half's point adds its product to what the first left and writes the sum. -/
theorem second (hc0 : ¬cond0_0 i) (hc1 : cond0_1 i) :
    out0_B_2 (F := Ideal) c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_cons_unit_zero (S := S512x1024) hz, View.readCov_unit_zero (S := S512x1024) _ hz]
  simp only [View.readAt_eq_ld, harg3.read_unread, harg4.read_unread, harg6.read_unread, View.ld_unit_zero (S := S2048x512) hz, View.ld_unit_zero (S := S2048x1024) hz, View.ld_unit_zero (S := S512x1024) hz]

theorem sum_at (a b : FVec Ideal S2048x512 .bf16) (a' b' : FVec Ideal S2048x1024 .bf16) (p : Fin 512) (q : Fin 1024) :
    k0_pay3 (k0_pay2 (k0_pay2 (k0_pay1 (F := Ideal)) a a') b b') (ix2 p q) =
      ∑ k, a (ix2 k p) * a' (ix2 k q) + ∑ k, b (ix2 k p) * b' (ix2 k q) := by
  pointwise [k0_pay3, k0_pay2, k0_pay1]

end point

variable (m : (ℓ : Loc nD τ sig) → Buf (Elt Ideal) ℓ) (c : Dev nD)

/-- The hidden activations and the output's gradients. -/
def A (k : Fin 4096) (p : Fin 4096) : EReal := (show FVec Ideal S4096x4096 .bf16 from m ((c : Thread nD τ).loc main_arg0)) (ix2 k p)
def B (k : Fin 4096) (q : Fin 1024) : EReal := (show FVec Ideal S4096x1024 .bf16 from m ((c : Thread nD τ).loc main_arg1)) (ix2 k q)

/-- The weight's gradient. -/
def gradA : FVec Ideal S4096x1024 .bf16 := fun i => ∑ k, A m c k (i 0) * B m c k (i 1)

theorem idx : ∀ t : Fin cfg0.N, win0_0.index t = ![t.val % 2, t.val / 2] ∧ win0_1.index t = ![t.val % 2, 0] ∧
    win0_2.index t = ![t.val / 2, 0] ∧ t.val < 16 :=
  (by decide +kernel : ∀ t : Fin grid0.N, _)

theorem blk0 (t : Fin cfg0.N) (k : Fin 2048) (p : Fin 512) :
    (iblk m c 0 t : FVec Ideal S2048x512 .bf16) (ix2 k p) =
      A m c ⟨2048 * (t.val % 2) + k.val, by omega⟩ ⟨512 * (t.val / 2) + p.val, by have := (idx t).2.2.2; omega⟩ := by
  unfold A; blk_ext [iblk, V, idx t]

theorem blk1 (t : Fin cfg0.N) (k : Fin 2048) (q : Fin 1024) :
    (iblk m c 1 t : FVec Ideal S2048x1024 .bf16) (ix2 k q) = B m c ⟨2048 * (t.val % 2) + k.val, by omega⟩ q := by
  unfold B; blk_ext [iblk, V, idx t]

theorem point (t : Fin cfg0.N) (ht : t.val % 2 = 1) (y : S512x1024.Idx) (i : S4096x1024.Idx)
    (h0 : (i 0 : ℕ) = (t.val / 2) * 512 + (y 0 : ℕ)) (h1 : (i 1 : ℕ) = (y 1 : ℕ)) :
    (outsAt0 m c t.val t.isLt).1 y = gradA m c i := by
  have hN := (idx t).2.2.2
  have hy : (y 0 : ℕ) < 512 := (y 0).isLt
  have e := outsAt0_A m c ⟨t.val - 1, Nat.lt_of_le_of_lt (Nat.sub_le _ _) t.isLt⟩ (by show (t.val - 1) % 2 = 0; omega) (by show ¬(t.val - 1) % 2 = 1; omega)
  rw [outsAt0_B m c t (by omega) ht, second, e, first]
  show k0_pay3 _ y = _
  rw [eq_ix2 y]
  refine (sum_at _ _ _ _ (y 0) (y 1)).trans ?_
  unfold gradA
  rw [Halves.sum_halves]
  refine congrArg₂ (· + ·) (Finset.sum_congr rfl fun k _ => ?_) (Finset.sum_congr rfl fun k _ => ?_)
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega

theorem final : (dats m 0 c).arrAt 2 cfg0.N = gradA m c := by
  refine (dats m 0 c).arrAt_eq_of_covers 2 _ (by decide +kernel) fun t hf y => ?_
  have ht : t.val % 2 = 1 := (flush0_2 t).mp hf
  blk_simp
  rw [after0_2]
  refine point m c t ht y _ ?_ ?_ <;> blk_simp [idx t] <;> try omega

end Cert.OutWeights

namespace Cert.OutWeights
open Cert.Reference2Ideal Cert.Reference2Ideal.Read
open Idealize.ShloMosaic.StableHlo (launchContents launchContents_devRef)

/-- The reference's product, entry by entry. -/
theorem ref_at (x0 : FVec Ideal S4096x4096 .bf16) (x1 : FVec Ideal S4096x1024 .bf16) (p : Fin 4096) (q : Fin 1024) :
    val_main_v6 (F := Ideal) x0 x1 (ix2 p q) = ∑ k, x0 (ix2 k p) * x1 (ix2 k q) := by
  pointwise [val_main_v6, val_main_v5, val_main_v4, val_main_v3, val_main_v1]
  exact Finset.sum_congr rfl fun k _ => mul_comm _ _

/-- The reference's run, its result as a function of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v6_eq _ _), (h c).2⟩) (Cert.Reference2Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (ref_run m g)

end Cert.OutWeights

namespace Cert.OutWeights

/-- Both programs end with the same gradient. -/
theorem algebraic : @Cert.algebraic_Kernel2Ideal_Reference2Ideal Cert.Kernel2Ideal.Gen.facts Cert.Reference2Ideal.Gen.facts := by
  intro m g m' g' hpre hag
  refine ⟨fun c => gradA m c, (θ_run Cert.Kernel2Ideal.defs _ _).mono (fun r h c => ⟨(h c).1.trans ((Cert.Kernel2Ideal.Value.final2 m c).symm.trans (final m c)), (h c).2⟩) (Cert.Kernel2Ideal.Value.run m g), ?_⟩
  refine (θ_run Cert.Reference2Ideal.defs _ _).mono (fun r h c => ⟨?_, (h c).2⟩) (ref_run m' g')
  rw [(h c).1, (hag c).1, (hag c).2]
  funext i
  exact (congrArg _ (eq_ix2 i)).trans (ref_at _ _ (i 0) (i 1))

end Cert.OutWeights
end
-- ==== Proof.InWeights.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Halves
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! # The gradient of the MLP's first weight: a product over the tokens in four pieces of 1024 columns, each in tiles of 512 rows and halves of the tokens -/

namespace Cert.InWeights
open Cert.Kernel3Ideal Cert.Kernel3Ideal.Gen

section point
variable (c : Dev nD) (i : grid0.Coords) (arg3 : Memref sig .tc .vmem S2048x512 .bf16) (harg3 : arg3.IsWhole) (arg4 : Memref sig .tc .vmem S2048x1024 .bf16) (harg4 : arg4.IsWhole)
  (arg5 : Memref sig .tc .vmem S1x512x1024 .bf16) (harg5 : arg5.IsWhole) (arg6 : Memref sig .tc .vmem S512x1024 .f32) (harg6 : arg6.IsWhole)
  (x0 : Vec Ideal S2048x512 .bf16) (x1 : Vec Ideal S2048x1024 .bf16) (xs0 : Vec Ideal S512x1024 .f32)

theorem hz3 : (![0, 0, 0] : Fin 3 → Nat) = fun _ => 0 := funext fun a => by fin_cases a <;> rfl
theorem hz : (![0, 0] : Fin 2 → Nat) = fun _ => 0 := funext fun a => by fin_cases a <;> rfl

/-- The first half's point leaves the product of the halves over zero. -/
theorem first (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S2048x512) hz, View.ld_unit_zero (S := S2048x1024) hz]

/-- The second half's point adds its product to what the first left and writes the sum. -/
theorem second (hc0 : ¬cond0_0 i) (hc1 : cond0_1 i) :
    out0_B_2 (F := Ideal) c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero hz3, View.readCov_unit_zero (S := S512x1024) _ hz]
  simp only [View.readAt_eq_ld, harg3.read_unread, harg4.read_unread, harg6.read_unread, View.ld_unit_zero (S := S2048x512) hz, View.ld_unit_zero (S := S2048x1024) hz, View.ld_unit_zero (S := S512x1024) hz]

theorem sum_at (a b : FVec Ideal S2048x512 .bf16) (a' b' : FVec Ideal S2048x1024 .bf16) (p : Fin 512) (q : Fin 1024) :
    k0_pay3 (k0_pay2 (k0_pay2 (k0_pay1 (F := Ideal)) a a') b b') (ix3 0 p q) =
      ∑ k, a (ix2 k p) * a' (ix2 k q) + ∑ k, b (ix2 k p) * b' (ix2 k q) := by
  pointwise [k0_pay3, k0_pay2, k0_pay1]

end point

variable (m : (ℓ : Loc nD τ sig) → Buf (Elt Ideal) ℓ) (c : Dev nD)

/-- The modulated rows and the hidden layer's gradients. -/
def A (k : Fin 4096) (p : Fin 1024) : EReal := (show FVec Ideal S4096x1024 .bf16 from m ((c : Thread nD τ).loc main_arg0)) (ix2 k p)
def B (k : Fin 4096) (q : Fin 4096) : EReal := (show FVec Ideal S4096x4096 .bf16 from m ((c : Thread nD τ).loc main_arg1)) (ix2 k q)

/-- A column of the whole weight, from its piece and its place in it. -/
def col (j : Fin 4) (q : Fin 1024) : Fin 4096 := ⟨j.val * 1024 + q.val, by omega⟩

/-- The weight's gradient, in pieces. -/
def gradA : FVec Ideal S4x1024x1024 .bf16 := fun i => ∑ k, A m c k (i 1) * B m c k (col (i 0) (i 2))

theorem idx : ∀ t : Fin cfg0.N, win0_0.index t = ![t.val % 2, t.val / 8] ∧ win0_1.index t = ![t.val % 2, t.val / 2 % 4] ∧
    win0_2.index t = ![t.val / 2 % 4, t.val / 8, 0] ∧ t.val < 16 :=
  (by decide +kernel : ∀ t : Fin grid0.N, _)

theorem blk0 (t : Fin cfg0.N) (k : Fin 2048) (p : Fin 512) :
    (iblk m c 0 t : FVec Ideal S2048x512 .bf16) (ix2 k p) =
      A m c ⟨2048 * (t.val % 2) + k.val, by omega⟩ ⟨512 * (t.val / 8) + p.val, by have := (idx t).2.2.2; omega⟩ := by
  unfold A; blk_ext [iblk, V, idx t]

theorem blk1 (t : Fin cfg0.N) (k : Fin 2048) (q : Fin 1024) :
    (iblk m c 1 t : FVec Ideal S2048x1024 .bf16) (ix2 k q) = B m c ⟨2048 * (t.val % 2) + k.val, by omega⟩ ⟨1024 * (t.val / 2 % 4) + q.val, by omega⟩ := by
  unfold B; blk_ext [iblk, V, idx t]

theorem point (t : Fin cfg0.N) (ht : t.val % 2 = 1) (y : S1x512x1024.Idx) (i : S4x1024x1024.Idx)
    (h0 : (i 0 : ℕ) = t.val / 2 % 4) (h1 : (i 1 : ℕ) = (t.val / 8) * 512 + (y 1 : ℕ)) (h2 : (i 2 : ℕ) = (y 2 : ℕ)) :
    (outsAt0 m c t.val t.isLt).1 y = gradA m c i := by
  have hN := (idx t).2.2.2
  have hy : (y 1 : ℕ) < 512 := (y 1).isLt
  have hy0 : y 0 = (0 : Fin 1) := Subsingleton.elim (α := Fin 1) _ _
  have e := outsAt0_A m c ⟨t.val - 1, Nat.lt_of_le_of_lt (Nat.sub_le _ _) t.isLt⟩ (by show (t.val - 1) % 2 = 0; omega) (by show ¬(t.val - 1) % 2 = 1; omega)
  rw [outsAt0_B m c t (by omega) ht, second, e, first]
  show k0_pay3 _ y = _
  rw [eq_ix3 y, hy0]
  refine (sum_at _ _ _ _ (y 1) (y 2)).trans ?_
  unfold gradA
  rw [Halves.sum_halves]
  refine congrArg₂ (· + ·) (Finset.sum_congr rfl fun k _ => ?_) (Finset.sum_congr rfl fun k _ => ?_)
  · refine (congrArg₂ (HMul.hMul : EReal → EReal → EReal) (blk0 m c _ k (y 1)) (blk1 m c _ k (y 2))).trans ?_
    refine congrArg₂ (HMul.hMul : EReal → EReal → EReal) (congrArg₂ (A m c) (Fin.ext ?_) (Fin.ext ?_)) (congrArg₂ (B m c) (Fin.ext ?_) (Fin.ext ?_)) <;> dsimp only [col] <;> omega
  · refine (congrArg₂ (HMul.hMul : EReal → EReal → EReal) (blk0 m c _ k (y 1)) (blk1 m c _ k (y 2))).trans ?_
    refine congrArg₂ (HMul.hMul : EReal → EReal → EReal) (congrArg₂ (A m c) (Fin.ext ?_) (Fin.ext ?_)) (congrArg₂ (B m c) (Fin.ext ?_) (Fin.ext ?_)) <;> dsimp only [col] <;> omega

theorem final : (dats m 0 c).arrAt 2 cfg0.N = gradA m c := by
  refine (dats m 0 c).arrAt_eq_of_covers 2 _ (by decide +kernel) fun t hf y => ?_
  have ht : t.val % 2 = 1 := (flush0_2 t).mp hf
  blk_simp
  rw [after0_2]
  refine point m c t ht y _ ?_ ?_ ?_ <;> blk_simp [idx t] <;> try omega

end Cert.InWeights

namespace Cert.InWeights
open Cert.Reference3Ideal Cert.Reference3Ideal.Read
open Idealize.ShloMosaic.StableHlo (launchContents launchContents_devRef)

/-- The reference's product, entry by entry. -/
theorem ref_at (x0 : FVec Ideal S4096x1024 .bf16) (x1 : FVec Ideal S4096x4096 .bf16) (j : Fin 4) (p q : Fin 1024) :
    val_main_v8 (F := Ideal) x0 x1 (ix3 j p q) = ∑ k, x0 (ix2 k p) * x1 (ix2 k (col j q)) := by
  pointwise [val_main_v8, val_main_v7, val_main_v6, val_main_v5, val_main_v4, val_main_v3, val_main_v1]
  exact Finset.sum_congr rfl fun k _ => mul_comm _ _

/-- The reference's run, its result as a function of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v8) = val_main_v8 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v8_eq _ _), (h c).2⟩) (Cert.Reference3Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (ref_run m g)

end Cert.InWeights

namespace Cert.InWeights

/-- Both programs end with the same gradient. -/
theorem algebraic : @Cert.algebraic_Kernel3Ideal_Reference3Ideal Cert.Kernel3Ideal.Gen.facts Cert.Reference3Ideal.Gen.facts := by
  intro m g m' g' hpre hag
  refine ⟨fun c => gradA m c, (θ_run Cert.Kernel3Ideal.defs _ _).mono (fun r h c => ⟨(h c).1.trans ((Cert.Kernel3Ideal.Value.final2 m c).symm.trans (final m c)), (h c).2⟩) (Cert.Kernel3Ideal.Value.run m g), ?_⟩
  refine (θ_run Cert.Reference3Ideal.defs _ _).mono (fun r h c => ⟨?_, (h c).2⟩) (ref_run m' g')
  rw [(h c).1, (hag c).1, (hag c).2]
  funext i
  exact (congrArg _ (eq_ix3 i)).trans (ref_at _ _ (i 0) (i 1) (i 2))

end Cert.InWeights
end
-- ==== Proof.MixOutWeights.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Halves
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! # The gradient of the mixer's output weight: a product over the tokens, in tiles of 512 columns and halves of the tokens -/

namespace Cert.MixOutWeights
open Cert.Kernel4Ideal Cert.Kernel4Ideal.Gen

section point
variable (c : Dev nD) (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec Ideal S2048x512 .bf16) (x1 : Vec Ideal S2048x1024 .bf16) (xs0 : Vec Ideal S512x1024 .f32)

theorem hz : (![0, 0] : Fin 2 → Nat) = fun _ => 0 := funext fun a => by fin_cases a <;> rfl

/-- The first half's point leaves the product of the halves over zero. -/
theorem first (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S2048x512) hz, View.ld_unit_zero (S := S2048x1024) hz]

/-- The second half's point adds its product to what the first left and writes the sum. -/
theorem second (hc0 : ¬cond0_0 i) (hc1 : cond0_1 i) :
    out0_B_2 (F := Ideal) c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_cons_unit_zero (S := S512x1024) hz, View.readCov_unit_zero (S := S512x1024) _ hz]
  simp only [View.readAt_eq_ld, harg3.read_unread, harg4.read_unread, harg6.read_unread, View.ld_unit_zero (S := S2048x512) hz, View.ld_unit_zero (S := S2048x1024) hz, View.ld_unit_zero (S := S512x1024) hz]

theorem sum_at (a b : FVec Ideal S2048x512 .bf16) (a' b' : FVec Ideal S2048x1024 .bf16) (p : Fin 512) (q : Fin 1024) :
    k0_pay3 (k0_pay2 (k0_pay2 (k0_pay1 (F := Ideal)) a a') b b') (ix2 p q) =
      ∑ k, a (ix2 k p) * a' (ix2 k q) + ∑ k, b (ix2 k p) * b' (ix2 k q) := by
  pointwise [k0_pay3, k0_pay2, k0_pay1]

end point

variable (m : (ℓ : Loc nD τ sig) → Buf (Elt Ideal) ℓ) (c : Dev nD)

/-- The mixer's heads and the output's gradients. -/
def A (k : Fin 4096) (p : Fin 1024) : EReal := (show FVec Ideal S4096x1024 .bf16 from m ((c : Thread nD τ).loc main_arg0)) (ix2 k p)
def B (k : Fin 4096) (q : Fin 1024) : EReal := (show FVec Ideal S4096x1024 .bf16 from m ((c : Thread nD τ).loc main_arg1)) (ix2 k q)

/-- The weight's gradient. -/
def gradA : FVec Ideal S1024x1024 .bf16 := fun i => ∑ k, A m c k (i 0) * B m c k (i 1)

theorem idx : ∀ t : Fin cfg0.N, win0_0.index t = ![t.val % 2, t.val / 2] ∧ win0_1.index t = ![t.val % 2, 0] ∧
    win0_2.index t = ![t.val / 2, 0] ∧ t.val < 4 :=
  (by decide +kernel : ∀ t : Fin grid0.N, _)

theorem blk0 (t : Fin cfg0.N) (k : Fin 2048) (p : Fin 512) :
    (iblk m c 0 t : FVec Ideal S2048x512 .bf16) (ix2 k p) =
      A m c ⟨2048 * (t.val % 2) + k.val, by omega⟩ ⟨512 * (t.val / 2) + p.val, by have := (idx t).2.2.2; omega⟩ := by
  unfold A; blk_ext [iblk, V, idx t]

theorem blk1 (t : Fin cfg0.N) (k : Fin 2048) (q : Fin 1024) :
    (iblk m c 1 t : FVec Ideal S2048x1024 .bf16) (ix2 k q) = B m c ⟨2048 * (t.val % 2) + k.val, by omega⟩ q := by
  unfold B; blk_ext [iblk, V, idx t]

theorem point (t : Fin cfg0.N) (ht : t.val % 2 = 1) (y : S512x1024.Idx) (i : S1024x1024.Idx)
    (h0 : (i 0 : ℕ) = (t.val / 2) * 512 + (y 0 : ℕ)) (h1 : (i 1 : ℕ) = (y 1 : ℕ)) :
    (outsAt0 m c t.val t.isLt).1 y = gradA m c i := by
  have hN := (idx t).2.2.2
  have hy : (y 0 : ℕ) < 512 := (y 0).isLt
  have e := outsAt0_A m c ⟨t.val - 1, Nat.lt_of_le_of_lt (Nat.sub_le _ _) t.isLt⟩ (by show (t.val - 1) % 2 = 0; omega) (by show ¬(t.val - 1) % 2 = 1; omega)
  rw [outsAt0_B m c t (by omega) ht, second, e, first]
  show k0_pay3 _ y = _
  rw [eq_ix2 y]
  refine (sum_at _ _ _ _ (y 0) (y 1)).trans ?_
  unfold gradA
  rw [Halves.sum_halves]
  refine congrArg₂ (· + ·) (Finset.sum_congr rfl fun k _ => ?_) (Finset.sum_congr rfl fun k _ => ?_)
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega

theorem final : (dats m 0 c).arrAt 2 cfg0.N = gradA m c := by
  refine (dats m 0 c).arrAt_eq_of_covers 2 _ (by decide +kernel) fun t hf y => ?_
  have ht : t.val % 2 = 1 := (flush0_2 t).mp hf
  blk_simp
  rw [after0_2]
  refine point m c t ht y _ ?_ ?_ <;> blk_simp [idx t] <;> try omega

end Cert.MixOutWeights

namespace Cert.MixOutWeights
open Cert.Reference4Ideal Cert.Reference4Ideal.Read
open Idealize.ShloMosaic.StableHlo (launchContents launchContents_devRef)

/-- The reference's product, entry by entry. -/
theorem ref_at (x0 : FVec Ideal S4096x1024 .bf16) (x1 : FVec Ideal S4096x1024 .bf16) (p : Fin 1024) (q : Fin 1024) :
    val_main_v6 (F := Ideal) x0 x1 (ix2 p q) = ∑ k, x0 (ix2 k p) * x1 (ix2 k q) := by
  pointwise [val_main_v6, val_main_v5, val_main_v4, val_main_v3, val_main_v1]
  exact Finset.sum_congr rfl fun k _ => mul_comm _ _

/-- The reference's run, its result as a function of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v6_eq _ _), (h c).2⟩) (Cert.Reference4Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (ref_run m g)

end Cert.MixOutWeights

namespace Cert.MixOutWeights

/-- Both programs end with the same gradient. -/
theorem algebraic : @Cert.algebraic_Kernel4Ideal_Reference4Ideal Cert.Kernel4Ideal.Gen.facts Cert.Reference4Ideal.Gen.facts := by
  intro m g m' g' hpre hag
  refine ⟨fun c => gradA m c, (θ_run Cert.Kernel4Ideal.defs _ _).mono (fun r h c => ⟨(h c).1.trans ((Cert.Kernel4Ideal.Value.final2 m c).symm.trans (final m c)), (h c).2⟩) (Cert.Kernel4Ideal.Value.run m g), ?_⟩
  refine (θ_run Cert.Reference4Ideal.defs _ _).mono (fun r h c => ⟨?_, (h c).2⟩) (ref_run m' g')
  rw [(h c).1, (hag c).1, (hag c).2]
  funext i
  exact (congrArg _ (eq_ix2 i)).trans (ref_at _ _ (i 0) (i 1))

end Cert.MixOutWeights
end
-- ==== Proof.MixInWeights.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Halves
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! # The gradient of the mixer's input weight: a product over the tokens, in tiles of 512 columns and halves of the tokens -/

namespace Cert.MixInWeights
open Cert.Kernel5Ideal Cert.Kernel5Ideal.Gen

section point
variable (c : Dev nD) (i : grid0.Coords) (arg3 : Memref sig .tc .vmem S2048x512 .bf16) (harg3 : arg3.IsWhole) (arg4 : Memref sig .tc .vmem S2048x1280 .bf16) (harg4 : arg4.IsWhole)
  (arg5 : Memref sig .tc .vmem S512x1280 .bf16) (harg5 : arg5.IsWhole) (arg6 : Memref sig .tc .vmem S512x1280 .f32) (harg6 : arg6.IsWhole)
  (x0 : Vec Ideal S2048x512 .bf16) (x1 : Vec Ideal S2048x1280 .bf16) (xs0 : Vec Ideal S512x1280 .f32)

theorem hz : (![0, 0] : Fin 2 → Nat) = fun _ => 0 := funext fun a => by fin_cases a <;> rfl

/-- The first half's point leaves the product of the halves over zero. -/
theorem first (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1280) hz, View.readCov_unit_zero (S := S512x1280) _ hz]
  simp only [View.readAt_eq_ld, harg3.read_unread, harg4.read_unread, View.ld_unit_zero (S := S2048x512) hz, View.ld_unit_zero (S := S2048x1280) hz]

/-- The second half's point adds its product to what the first left and writes the sum. -/
theorem second (hc0 : ¬cond0_0 i) (hc1 : cond0_1 i) :
    out0_B_2 (F := Ideal) c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_cons_unit_zero (S := S512x1280) hz, View.readCov_unit_zero (S := S512x1280) _ hz]
  simp only [View.readAt_eq_ld, harg3.read_unread, harg4.read_unread, harg6.read_unread, View.ld_unit_zero (S := S2048x512) hz, View.ld_unit_zero (S := S2048x1280) hz, View.ld_unit_zero (S := S512x1280) hz]

theorem sum_at (a b : FVec Ideal S2048x512 .bf16) (a' b' : FVec Ideal S2048x1280 .bf16) (p : Fin 512) (q : Fin 1280) :
    k0_pay3 (k0_pay2 (k0_pay2 (k0_pay1 (F := Ideal)) a a') b b') (ix2 p q) =
      ∑ k, a (ix2 k p) * a' (ix2 k q) + ∑ k, b (ix2 k p) * b' (ix2 k q) := by
  pointwise [k0_pay3, k0_pay2, k0_pay1]

end point

variable (m : (ℓ : Loc nD τ sig) → Buf (Elt Ideal) ℓ) (c : Dev nD)

/-- The modulated rows and the projection's gradients. -/
def A (k : Fin 4096) (p : Fin 1024) : EReal := (show FVec Ideal S4096x1024 .bf16 from m ((c : Thread nD τ).loc main_arg0)) (ix2 k p)
def B (k : Fin 4096) (q : Fin 1280) : EReal := (show FVec Ideal S4096x1280 .bf16 from m ((c : Thread nD τ).loc main_arg1)) (ix2 k q)

/-- The weight's gradient. -/
def gradA : FVec Ideal S1024x1280 .bf16 := fun i => ∑ k, A m c k (i 0) * B m c k (i 1)

theorem idx : ∀ t : Fin cfg0.N, win0_0.index t = ![t.val % 2, t.val / 2] ∧ win0_1.index t = ![t.val % 2, 0] ∧
    win0_2.index t = ![t.val / 2, 0] ∧ t.val < 4 :=
  (by decide +kernel : ∀ t : Fin grid0.N, _)

theorem blk0 (t : Fin cfg0.N) (k : Fin 2048) (p : Fin 512) :
    (iblk m c 0 t : FVec Ideal S2048x512 .bf16) (ix2 k p) =
      A m c ⟨2048 * (t.val % 2) + k.val, by omega⟩ ⟨512 * (t.val / 2) + p.val, by have := (idx t).2.2.2; omega⟩ := by
  unfold A; blk_ext [iblk, V, idx t]

theorem blk1 (t : Fin cfg0.N) (k : Fin 2048) (q : Fin 1280) :
    (iblk m c 1 t : FVec Ideal S2048x1280 .bf16) (ix2 k q) = B m c ⟨2048 * (t.val % 2) + k.val, by omega⟩ q := by
  unfold B; blk_ext [iblk, V, idx t]

theorem point (t : Fin cfg0.N) (ht : t.val % 2 = 1) (y : S512x1280.Idx) (i : S1024x1280.Idx)
    (h0 : (i 0 : ℕ) = (t.val / 2) * 512 + (y 0 : ℕ)) (h1 : (i 1 : ℕ) = (y 1 : ℕ)) :
    (outsAt0 m c t.val t.isLt).1 y = gradA m c i := by
  have hN := (idx t).2.2.2
  have hy : (y 0 : ℕ) < 512 := (y 0).isLt
  have e := outsAt0_A m c ⟨t.val - 1, Nat.lt_of_le_of_lt (Nat.sub_le _ _) t.isLt⟩ (by show (t.val - 1) % 2 = 0; omega) (by show ¬(t.val - 1) % 2 = 1; omega)
  rw [outsAt0_B m c t (by omega) ht, second, e, first]
  show k0_pay3 _ y = _
  rw [eq_ix2 y]
  refine (sum_at _ _ _ _ (y 0) (y 1)).trans ?_
  unfold gradA
  rw [Halves.sum_halves]
  refine congrArg₂ (· + ·) (Finset.sum_congr rfl fun k _ => ?_) (Finset.sum_congr rfl fun k _ => ?_)
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega
  · refine (congrArg₂ (HMul.hMul : EReal → EReal → EReal) (blk0 m c _ k (y 0)) (blk1 m c _ k (y 1))).trans ?_
    refine congrArg₂ (HMul.hMul : EReal → EReal → EReal) (congrArg₂ (A m c) (Fin.ext ?_) (Fin.ext ?_)) (congrArg₂ (B m c) (Fin.ext ?_) (Fin.ext ?_)) <;> dsimp only <;> omega

theorem final : (dats m 0 c).arrAt 2 cfg0.N = gradA m c := by
  refine (dats m 0 c).arrAt_eq_of_covers 2 _ (by decide +kernel) fun t hf y => ?_
  have ht : t.val % 2 = 1 := (flush0_2 t).mp hf
  blk_simp
  rw [after0_2]
  refine point m c t ht y _ ?_ ?_ <;> blk_simp [idx t] <;> try omega

end Cert.MixInWeights

namespace Cert.MixInWeights
open Cert.Reference5Ideal Cert.Reference5Ideal.Read
open Idealize.ShloMosaic.StableHlo (launchContents launchContents_devRef)

/-- The reference's product, entry by entry. -/
theorem ref_at (x0 : FVec Ideal S4096x1024 .bf16) (x1 : FVec Ideal S4096x1280 .bf16) (p : Fin 1024) (q : Fin 1280) :
    val_main_v6 (F := Ideal) x0 x1 (ix2 p q) = ∑ k, x0 (ix2 k p) * x1 (ix2 k q) := by
  pointwise [val_main_v6, val_main_v5, val_main_v4, val_main_v3, val_main_v1]
  exact Finset.sum_congr rfl fun k _ => mul_comm _ _

/-- The reference's run, its result as a function of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v6_eq _ _), (h c).2⟩) (Cert.Reference5Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (ref_run m g)

end Cert.MixInWeights

namespace Cert.MixInWeights

/-- Both programs end with the same gradient. -/
theorem algebraic : @Cert.algebraic_Kernel5Ideal_Reference5Ideal Cert.Kernel5Ideal.Gen.facts Cert.Reference5Ideal.Gen.facts := by
  intro m g m' g' hpre hag
  refine ⟨fun c => gradA m c, (θ_run Cert.Kernel5Ideal.defs _ _).mono (fun r h c => ⟨(h c).1.trans ((Cert.Kernel5Ideal.Value.final2 m c).symm.trans (final m c)), (h c).2⟩) (Cert.Kernel5Ideal.Value.run m g), ?_⟩
  refine (θ_run Cert.Reference5Ideal.defs _ _).mono (fun r h c => ⟨?_, (h c).2⟩) (ref_run m' g')
  rw [(h c).1, (hag c).1, (hag c).2]
  funext i
  exact (congrArg _ (eq_ix2 i)).trans (ref_at _ _ (i 0) (i 1))

end Cert.MixInWeights
end
-- ==== Proof.Mlp.lean ====
module

public import Idealize.ShloMosaic.PureOps.Ideal

@[expose] public section

noncomputable section

open Idealize.ShloMosaic

/-! # One token of the MLP sub-layer

`x` is the token's row, `sh`, `sc` and `gate` its modulation, `g` and `post` the gains of the two norms, `wi` and `wo` the
two weights. -/

namespace Cert.Mlp

/-- The width of a row. -/
def width : EReal := Ideal.ofBits .f32 0x44800000#32
/-- What the norms add to the mean square. -/
def eps : EReal := Ideal.ofBits .f32 0x358637BD#32

/-- The reciprocal root mean square of a row. -/
def rs (x : Fin 1024 → EReal) : EReal := Ideal.rsqrt (Ideal.div (∑ k, x k * x k) width + eps)
/-- The normed row, scaled and shifted. -/
def hid (x sh sc g : Fin 1024 → EReal) (j : Fin 1024) : EReal := x j * rs x * g j * (1 + sc j) + sh j
/-- The hidden layer before its activation. -/
def act (h : Fin 1024 → EReal) (wi : Fin 1024 → Fin 4096 → EReal) (i : Fin 4096) : EReal := ∑ k, h k * wi k i
/-- The squared ReLU. -/
def sq (a : Fin 4096 → EReal) (i : Fin 4096) : EReal := max (a i) 0 * max (a i) 0
/-- The second product. -/
def outp (r : Fin 4096 → EReal) (wo : Fin 4096 → Fin 1024 → EReal) (j : Fin 1024) : EReal := ∑ i, r i * wo i j
/-- The residual with the gated, normed output. -/
def gated (x f gate post : Fin 1024 → EReal) (j : Fin 1024) : EReal := x j + gate j * (f j * rs f * post j)

end Cert.Mlp
end
-- ==== Proof.MlpFwdPoint.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Mlp
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's forward call: sixteen tiles of 256 tokens, the weights copied in once -/

namespace Cert.MlpFwd
open Cert.Kernel6Ideal Cert.Kernel6Ideal.Gen

theorem hz : (![0, 0] : Fin 2 → Nat) = fun _ => 0 := funext fun a => by fin_cases a <;> rfl

/-- A copy of the whole weight leaves the weight. -/
theorem canon_whole (w : S4096x1024.Idx → Elt Ideal .bf16) : View.canon [⟨Rect.whole S4096x1024, w⟩] = w := by
  funext y
  have e : (Rect.whole S4096x1024).emb y = y := funext fun a => Fin.ext (by show 0 + 1 * (y a : ℕ) = y a; omega)
  exact (congrArg (View.canon [⟨Rect.whole S4096x1024, w⟩]) e.symm).trans (View.canon_cons_emb (Rect.whole S4096x1024) w [] y)

theorem readCov_whole {sig : RefSig} {κ : Kind} {sp : Space} (v : View sig κ sp S4096x1024 .bf16) (w : S4096x1024.Idx → Elt Ideal .bf16)
    (hb : ∀ a : Fin 2, (![0, 0] : Fin 2 → Nat) a + (![4096, 1024] : Fin 2 → Nat) a ≤ S4096x1024.size a) :
    v.readCov [⟨Rect.whole S4096x1024, w⟩] (Rect.unit (s := S4096x1024) ![0, 0] ![4096, 1024] hb).toLoadRect = w := by
  rw [View.readCov_eq_canon', canon_whole]
  exact View.ld_unit_zero (S := S4096x1024) hz _ _

section point
variable (c : Dev nD) (i : grid0.Coords) (arg1 : Memref sig .tc .vmem S256x1024 .f32) (harg1 : arg1.IsWhole) (arg2 : Memref sig .tc .vmem S1x16x1024 .f32) (harg2 : arg2.IsWhole)
  (arg5 : Memref sig .tc .vmem S256x1024 .f32) (harg5 : arg5.IsWhole) (arg6 : Memref sig .tc .vmem S256x4096 .bf16) (harg6 : arg6.IsWhole) (arg7 : Memref sig .tc .vmem S256x1024 .f32) (harg7 : arg7.IsWhole)
  (arg8 : Memref sig .tc .vmem S4096x1024 .bf16) (harg8 : arg8.IsWhole) (arg9 : Memref sig .tc .vmem S4096x1024 .bf16) (harg9 : arg9.IsWhole)
  (x0 : Vec Ideal S256x1024 .f32) (x1 : Vec Ideal S1x16x1024 .f32) (xs0 xs1 : Vec Ideal S4096x1024 .bf16) (fh0 : HbBuf0 (F := Ideal) c hbM0_0) (fh1 : HbBuf0 (F := Ideal) c hbM0_1)

/-- A row of the packed vectors. -/
abbrev vrow3 : Vec Ideal S1x1x1024 .f32 := View.ld x1 (Rect.unit ![0, 3, 0] ![1, 1, 1024] inb_S1x16x1024_S1x1x1024_0_3_0)
abbrev vrow4 : Vec Ideal S1x1x1024 .f32 := View.ld x1 (Rect.unit ![0, 4, 0] ![1, 1, 1024] inb_S1x16x1024_S1x1x1024_0_4_0)
abbrev vrow5 : Vec Ideal S1x1x1024 .f32 := View.ld x1 (Rect.unit ![0, 5, 0] ![1, 1, 1024] inb_S1x16x1024_S1x1x1024_0_5_0)
abbrev vrow8 : Vec Ideal S1x1x1024 .f32 := View.ld x1 (Rect.unit ![0, 8, 0] ![1, 1, 1024] inb_S1x16x1024_S1x1x1024_0_8_0)
abbrev vrow9 : Vec Ideal S1x1x1024 .f32 := View.ld x1 (Rect.unit ![0, 9, 0] ![1, 1, 1024] inb_S1x16x1024_S1x1x1024_0_9_0)

/-- The tile's activations, output and residual, from its rows, the packed vectors and the two weights. -/
abbrev tileR : FVec Ideal S256x4096 .bf16 := k0_pay3 x0 (vrow8 x1) (vrow4 x1) (vrow3 x1) xs0
abbrev tileF : FVec Ideal S256x1024 .f32 := k0_pay1 (tileR x0 x1 xs0) xs1
abbrev tileX : FVec Ideal S256x1024 .f32 := k0_pay2 x0 (tileR x0 x1 xs0) xs1 (vrow9 x1) (vrow5 x1)

theorem A_2 (hc0 : cond0_0 i) : out0_A_2 (F := Ideal) c i arg1 harg1 arg2 harg2 arg5 harg5 arg6 harg6 arg7 harg7 arg8 harg8 arg9 harg9 hc0 x0 x1 fh0 fh1 = tileX x0 x1 fh0 fh1 := by
  unfold out0_A_2
  rw [View.read_writes_eq_canon _ _ _ (cover0_A_2 c i arg1 harg1 arg2 harg2 arg5 harg5 arg6 harg6 arg7 harg7 arg8 harg8 arg9 harg9 hc0 x0 x1 fh0 fh1)]
  unfold kernelRun0_A
  dsimp only
  sl_unfold_words
  rw [View.canon_unit_zero (S := S256x1024) hz]
  simp only [View.readAt_eq_ld, harg1.read_unread, harg2.read_unread, harg8.read_unread, harg9.read_unread, View.ld_unit_zero (S := S256x1024) hz, View.ld_unit_zero (S := S4096x1024) hz]
  simp only [readCov_whole]
  rfl

theorem A_3 (hc0 : cond0_0 i) : out0_A_3 (F := Ideal) c i arg1 harg1 arg2 harg2 arg5 harg5 arg6 harg6 arg7 harg7 arg8 harg8 arg9 harg9 hc0 x0 x1 fh0 fh1 = tileR x0 x1 fh0 := by
  unfold out0_A_3
  rw [View.read_writes_eq_canon _ _ _ (cover0_A_3 c i arg1 harg1 arg2 harg2 arg5 harg5 arg6 harg6 arg7 harg7 arg8 harg8 arg9 harg9 hc0 x0 x1 fh0 fh1)]
  unfold kernelRun0_A
  dsimp only
  sl_unfold_words
  rw [View.canon_unit_zero (S := S256x4096) hz]
  simp only [View.readAt_eq_ld, harg1.read_unread, harg2.read_unread, harg8.read_unread, harg9.read_unread, View.ld_unit_zero (S := S256x1024) hz, View.ld_unit_zero (S := S4096x1024) hz]
  simp only [readCov_whole]
  rfl

theorem A_4 (hc0 : cond0_0 i) : out0_A_4 (F := Ideal) c i arg1 harg1 arg2 harg2 arg5 harg5 arg6 harg6 arg7 harg7 arg8 harg8 arg9 harg9 hc0 x0 x1 fh0 fh1 = tileF x0 x1 fh0 fh1 := by
  unfold out0_A_4
  rw [View.read_writes_eq_canon _ _ _ (cover0_A_4 c i arg1 harg1 arg2 harg2 arg5 harg5 arg6 harg6 arg7 harg7 arg8 harg8 arg9 harg9 hc0 x0 x1 fh0 fh1)]
  unfold kernelRun0_A
  dsimp only
  sl_unfold_words
  rw [View.canon_unit_zero (S := S256x1024) hz]
  simp only [View.readAt_eq_ld, harg1.read_unread, harg2.read_unread, harg8.read_unread, harg9.read_unread, View.ld_unit_zero (S := S256x1024) hz, View.ld_unit_zero (S := S4096x1024) hz]
  simp only [readCov_whole]
  rfl

theorem B_2 (hc0 : ¬cond0_0 i) : out0_B_2 (F := Ideal) c i arg1 harg1 arg2 harg2 arg5 harg5 arg6 harg6 arg7 harg7 arg8 harg8 arg9 harg9 hc0 x0 x1 xs0 xs1 fh0 fh1 = tileX x0 x1 xs0 xs1 := by
  unfold out0_B_2
  rw [View.read_writes_eq_canon _ _ _ (cover0_B_2 c i arg1 harg1 arg2 harg2 arg5 harg5 arg6 harg6 arg7 harg7 arg8 harg8 arg9 harg9 hc0 x0 x1 xs0 xs1 fh0 fh1)]
  unfold kernelRun0_B
  dsimp only
  sl_unfold_words
  rw [View.canon_unit_zero (S := S256x1024) hz]
  simp only [View.readAt_eq_ld, harg1.read_unread, harg2.read_unread, harg8.read_unread, harg9.read_unread, View.ld_unit_zero (S := S256x1024) hz, View.ld_unit_zero (S := S4096x1024) hz]

theorem B_3 (hc0 : ¬cond0_0 i) : out0_B_3 (F := Ideal) c i arg1 harg1 arg2 harg2 arg5 harg5 arg6 harg6 arg7 harg7 arg8 harg8 arg9 harg9 hc0 x0 x1 xs0 xs1 fh0 fh1 = tileR x0 x1 xs0 := by
  unfold out0_B_3
  rw [View.read_writes_eq_canon _ _ _ (cover0_B_3 c i arg1 harg1 arg2 harg2 arg5 harg5 arg6 harg6 arg7 harg7 arg8 harg8 arg9 harg9 hc0 x0 x1 xs0 xs1 fh0 fh1)]
  unfold kernelRun0_B
  dsimp only
  sl_unfold_words
  rw [View.canon_unit_zero (S := S256x4096) hz]
  simp only [View.readAt_eq_ld, harg1.read_unread, harg2.read_unread, harg8.read_unread, harg9.read_unread, View.ld_unit_zero (S := S256x1024) hz, View.ld_unit_zero (S := S4096x1024) hz]

theorem B_4 (hc0 : ¬cond0_0 i) : out0_B_4 (F := Ideal) c i arg1 harg1 arg2 harg2 arg5 harg5 arg6 harg6 arg7 harg7 arg8 harg8 arg9 harg9 hc0 x0 x1 xs0 xs1 fh0 fh1 = tileF x0 x1 xs0 xs1 := by
  unfold out0_B_4
  rw [View.read_writes_eq_canon _ _ _ (cover0_B_4 c i arg1 harg1 arg2 harg2 arg5 harg5 arg6 harg6 arg7 harg7 arg8 harg8 arg9 harg9 hc0 x0 x1 xs0 xs1 fh0 fh1)]
  unfold kernelRun0_B
  dsimp only
  sl_unfold_words
  rw [View.canon_unit_zero (S := S256x1024) hz]
  simp only [View.readAt_eq_ld, harg1.read_unread, harg2.read_unread, harg8.read_unread, harg9.read_unread, View.ld_unit_zero (S := S256x1024) hz, View.ld_unit_zero (S := S4096x1024) hz]

theorem sA_0 (hc0 : cond0_0 i) : sout0_A_0 (F := Ideal) c i arg1 harg1 arg2 harg2 arg5 harg5 arg6 harg6 arg7 harg7 arg8 harg8 arg9 harg9 hc0 x0 x1 fh0 fh1 = (fh0 : Vec Ideal S4096x1024 .bf16) := by
  unfold sout0_A_0
  rw [View.read_writes_eq_canon _ _ _ (scover0_A_0 c i arg1 harg1 arg2 harg2 arg5 harg5 arg6 harg6 arg7 harg7 arg8 harg8 arg9 harg9 hc0 x0 x1 fh0 fh1)]
  unfold kernelRun0_A
  dsimp only
  sl_unfold_words
  rw [canon_whole]
  rfl

theorem sA_1 (hc0 : cond0_0 i) : sout0_A_1 (F := Ideal) c i arg1 harg1 arg2 harg2 arg5 harg5 arg6 harg6 arg7 harg7 arg8 harg8 arg9 harg9 hc0 x0 x1 fh0 fh1 = (fh1 : Vec Ideal S4096x1024 .bf16) := by
  unfold sout0_A_1
  rw [View.read_writes_eq_canon _ _ _ (scover0_A_1 c i arg1 harg1 arg2 harg2 arg5 harg5 arg6 harg6 arg7 harg7 arg8 harg8 arg9 harg9 hc0 x0 x1 fh0 fh1)]
  unfold kernelRun0_A
  dsimp only
  sl_unfold_words
  rw [canon_whole]
  rfl

end point

/-- The entries of a tile. -/
theorem row_at (x1 : Vec Ideal S1x16x1024 .f32) (j : Fin 1024) :
    vrow3 x1 (ix3 0 0 j) = x1 (ix3 0 3 j) ∧ vrow4 x1 (ix3 0 0 j) = x1 (ix3 0 4 j) ∧ vrow5 x1 (ix3 0 0 j) = x1 (ix3 0 5 j)
      ∧ vrow8 x1 (ix3 0 0 j) = x1 (ix3 0 8 j) ∧ vrow9 x1 (ix3 0 0 j) = x1 (ix3 0 9 j) := by
  refine ⟨?_, ?_, ?_, ?_, ?_⟩ <;>
  · refine congrArg x1 (funext fun a => Fin.ext ?_)
    fin_cases a
    · rfl
    · rfl
    · exact (Nat.zero_add _).trans (Nat.one_mul _)

theorem pay3_at (x0 : Vec Ideal S256x1024 .f32) (v4 v18 v24 : Vec Ideal S1x1x1024 .f32) (w : Vec Ideal S4096x1024 .bf16) (p : Fin 256) (q : Fin 4096) :
    k0_pay3 x0 v4 v18 v24 w (ix2 p q) =
      Mlp.sq (Mlp.act (Mlp.hid (fun k => x0 (ix2 p k)) (fun k => v24 (ix3 0 0 k)) (fun k => v18 (ix3 0 0 k)) (fun k => v4 (ix3 0 0 k))) fun k i => w (ix2 i k)) q := by
  pointwise [k0_pay3]
  rfl

theorem pay1_at (r : FVec Ideal S256x4096 .bf16) (w : Vec Ideal S4096x1024 .bf16) (p : Fin 256) (q : Fin 1024) :
    k0_pay1 r w (ix2 p q) = Mlp.outp (fun k => r (ix2 p k)) (fun k j => w (ix2 k j)) q := by
  pointwise [k0_pay1]
  rfl

theorem pay2_at (x0 : Vec Ideal S256x1024 .f32) (r : FVec Ideal S256x4096 .bf16) (w : Vec Ideal S4096x1024 .bf16) (v39 v53 : Vec Ideal S1x1x1024 .f32) (p : Fin 256) (q : Fin 1024) :
    k0_pay2 x0 r w v39 v53 (ix2 p q) =
      Mlp.gated (fun k => x0 (ix2 p k)) (fun k => k0_pay1 r w (ix2 p k)) (fun k => v53 (ix3 0 0 k)) (fun k => v39 (ix3 0 0 k)) q := by
  unfold k0_pay2
  generalize k0_pay1 r w = f
  pointwise []
  rfl

end Cert.MlpFwd
end
-- ==== Proof.MlpFwd.lean ====
module

public import proofs.«01_k».proof.Proof.MlpFwdPoint

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

namespace Cert.MlpFwd
open Cert.Kernel6Ideal Cert.Kernel6Ideal.Gen

variable (m : (ℓ : Loc nD τ sig) → Buf (Elt Ideal) ℓ) (c : Dev nD)

theorem V8 (i : Fin 4096) (k : Fin 1024) :
    (V m c main_v8 : FVec Ideal S4096x1024 .bf16) (ix2 i k) = (show FVec Ideal S1024x4096 .f32 from m ((c : Thread nD τ).loc main_arg6)) (ix2 k i) := by
  show (StableHlo.after hostOps0 (launchContents m c) main_v8 : FVec Ideal S4096x1024 .bf16) _ = _
  after_results
  rw [launchContents_devRef]
  pointwise []

theorem V9 : (V m c main_v9 : FVec Ideal S4096x1024 .bf16) = m ((c : Thread nD τ).loc main_arg7) := by
  show (StableHlo.after hostOps0 (launchContents m c) main_v9 : FVec Ideal S4096x1024 .bf16) = _
  after_results
  rw [launchContents_devRef]
  rfl

/-- The arguments: the tokens' rows, their modulation, the gains and the weights. -/
def X (p : Fin 4096) (k : Fin 1024) : EReal := (show FVec Ideal S4096x1024 .f32 from m ((c : Thread nD τ).loc main_arg0)) (ix2 p k)
def SH (j : Fin 1024) : EReal := (show FVec Ideal S4x6144 .f32 from m ((c : Thread nD τ).loc main_arg1)) (ix2 0 ⟨3072 + j.val, by omega⟩)
def SC (j : Fin 1024) : EReal := (show FVec Ideal S4x6144 .f32 from m ((c : Thread nD τ).loc main_arg1)) (ix2 0 ⟨4096 + j.val, by omega⟩)
def GT (j : Fin 1024) : EReal := (show FVec Ideal S4x6144 .f32 from m ((c : Thread nD τ).loc main_arg1)) (ix2 0 ⟨5120 + j.val, by omega⟩)
def G (j : Fin 1024) : EReal := (show FVec Ideal S4x1024 .f32 from m ((c : Thread nD τ).loc main_arg4)) (ix2 0 j)
def PO (j : Fin 1024) : EReal := (show FVec Ideal S4x1024 .f32 from m ((c : Thread nD τ).loc main_arg5)) (ix2 0 j)
def WI (k : Fin 1024) (i : Fin 4096) : EReal := (show FVec Ideal S1024x4096 .f32 from m ((c : Thread nD τ).loc main_arg6)) (ix2 k i)
def WO (i : Fin 4096) (j : Fin 1024) : EReal := (show FVec Ideal S4096x1024 .f32 from m ((c : Thread nD τ).loc main_arg7)) (ix2 i j)

/-- The results: the activations, the products and the residuals. -/
def rrow (p : Fin 4096) : Fin 4096 → EReal := Mlp.sq (Mlp.act (Mlp.hid (X m c p) (SH m c) (SC m c) (G m c)) (WI m c))
def frow (p : Fin 4096) : Fin 1024 → EReal := Mlp.outp (rrow m c p) (WO m c)
def rA : FVec Ideal S4096x4096 .bf16 := fun i => rrow m c (i 0) (i 1)
def fA : FVec Ideal S4096x1024 .f32 := fun i => frow m c (i 0) (i 1)
def xA : FVec Ideal S4096x1024 .f32 := fun i => Mlp.gated (X m c (i 0)) (frow m c (i 0)) (GT m c) (PO m c) (i 1)

theorem V6_3 (j : Fin 1024) : (V m c main_v6 : FVec Ideal S4x16x1024 .f32) (ix3 0 3 j) = SH m c j := by
  show (StableHlo.after hostOps0 (launchContents m c) main_v6 : FVec Ideal S4x16x1024 .f32) _ = _
  after_results_simp
  pointwise []
  after_results_simp
  pointwise []
  rfl

theorem V6_4 (j : Fin 1024) : (V m c main_v6 : FVec Ideal S4x16x1024 .f32) (ix3 0 4 j) = SC m c j := by
  show (StableHlo.after hostOps0 (launchContents m c) main_v6 : FVec Ideal S4x16x1024 .f32) _ = _
  after_results_simp
  pointwise []
  after_results_simp
  pointwise []
  rfl

theorem V6_5 (j : Fin 1024) : (V m c main_v6 : FVec Ideal S4x16x1024 .f32) (ix3 0 5 j) = GT m c j := by
  show (StableHlo.after hostOps0 (launchContents m c) main_v6 : FVec Ideal S4x16x1024 .f32) _ = _
  after_results_simp
  pointwise []
  after_results_simp
  pointwise []
  rfl

theorem V6_8 (j : Fin 1024) : (V m c main_v6 : FVec Ideal S4x16x1024 .f32) (ix3 0 8 j) = G m c j := by
  show (StableHlo.after hostOps0 (launchContents m c) main_v6 : FVec Ideal S4x16x1024 .f32) _ = _
  after_results_simp
  pointwise []
  after_results_simp
  pointwise []
  rfl

theorem V6_9 (j : Fin 1024) : (V m c main_v6 : FVec Ideal S4x16x1024 .f32) (ix3 0 9 j) = PO m c j := by
  show (StableHlo.after hostOps0 (launchContents m c) main_v6 : FVec Ideal S4x16x1024 .f32) _ = _
  after_results_simp
  pointwise []
  after_results_simp
  pointwise []
  rfl

/-- A tile of the results, from a tile of the rows. -/
theorem tile_at (x0 : FVec Ideal S256x1024 .f32) (x1 : FVec Ideal S1x16x1024 .f32) (w8 w9 : FVec Ideal S4096x1024 .bf16) (p : Fin 256) (P : Fin 4096)
    (hx : (fun k => x0 (ix2 p k)) = X m c P) (h3 : ∀ j, x1 (ix3 0 3 j) = SH m c j) (h4 : ∀ j, x1 (ix3 0 4 j) = SC m c j) (h5 : ∀ j, x1 (ix3 0 5 j) = GT m c j)
    (h8 : ∀ j, x1 (ix3 0 8 j) = G m c j) (h9 : ∀ j, x1 (ix3 0 9 j) = PO m c j) (hi : (fun k i => w8 (ix2 i k)) = WI m c) (ho : (fun i j => w9 (ix2 i j)) = WO m c) :
    (∀ q, tileR x0 x1 w8 (ix2 p q) = rrow m c P q) ∧ (∀ q, tileF x0 x1 w8 w9 (ix2 p q) = frow m c P q)
      ∧ ∀ q, tileX x0 x1 w8 w9 (ix2 p q) = Mlp.gated (X m c P) (frow m c P) (GT m c) (PO m c) q := by
  have e3 : (fun k => vrow3 x1 (ix3 0 0 k)) = SH m c := funext fun j => (row_at x1 j).1.trans (h3 j)
  have e4 : (fun k => vrow4 x1 (ix3 0 0 k)) = SC m c := funext fun j => (row_at x1 j).2.1.trans (h4 j)
  have e5 : (fun k => vrow5 x1 (ix3 0 0 k)) = GT m c := funext fun j => (row_at x1 j).2.2.1.trans (h5 j)
  have e8 : (fun k => vrow8 x1 (ix3 0 0 k)) = G m c := funext fun j => (row_at x1 j).2.2.2.1.trans (h8 j)
  have e9 : (fun k => vrow9 x1 (ix3 0 0 k)) = PO m c := funext fun j => (row_at x1 j).2.2.2.2.trans (h9 j)
  have r : ∀ q, tileR x0 x1 w8 (ix2 p q) = rrow m c P q := fun q =>
    (pay3_at x0 _ _ _ w8 p q).trans (by rw [hx, e3, e4, e8, hi]; rfl)
  have f : ∀ q, tileF x0 x1 w8 w9 (ix2 p q) = frow m c P q := fun q =>
    (pay1_at _ w9 p q).trans (by rw [show (fun k => tileR x0 x1 w8 (ix2 p k)) = rrow m c P from funext r, ho]; rfl)
  refine ⟨r, f, fun q => (pay2_at x0 _ w9 _ _ p q).trans ?_⟩
  rw [hx, e5, e9, show (fun k => k0_pay1 (tileR x0 x1 w8) w9 (ix2 p k)) = frow m c P from funext f]

/-- After every point the two scratches hold the weights. -/
theorem scratches (n : ℕ) (hn : n < cfg0.N) :
    (outsAt0 m c n hn).2.2.2.1 = (V m c main_v8 : FVec Ideal S4096x1024 .bf16) ∧ (outsAt0 m c n hn).2.2.2.2 = (V m c main_v9 : FVec Ideal S4096x1024 .bf16) := by
  induction n with
  | zero => rw [show outsAt0 m c 0 hn = _ from outsAt0_A m c ⟨0, hn⟩ rfl]; dsimp only; exact ⟨sA_0 .., sA_1 ..⟩
  | succ n ih =>
    by_cases h : (n + 1) % 16 = 0
    · rw [show outsAt0 m c (n + 1) hn = _ from outsAt0_A m c ⟨n + 1, hn⟩ h]; dsimp only; exact ⟨sA_0 .., sA_1 ..⟩
    · rw [show outsAt0 m c (n + 1) hn = _ from outsAt0_B m c ⟨n + 1, hn⟩ h]; dsimp only; exact ih (by omega)

/-- What a point writes. -/
theorem vals (t : Fin cfg0.N) :
    (outsAt0 m c t.val t.isLt).1 = tileX (iblk m c 0 t) (iblk m c 1 t) (V m c main_v8) (V m c main_v9)
    ∧ (outsAt0 m c t.val t.isLt).2.1 = tileR (iblk m c 0 t) (iblk m c 1 t) (V m c main_v8)
    ∧ (outsAt0 m c t.val t.isLt).2.2.1 = tileF (iblk m c 0 t) (iblk m c 1 t) (V m c main_v8) (V m c main_v9) := by
  by_cases h : t.val % 16 = 0
  · rw [outsAt0_A m c t h]; dsimp only; exact ⟨A_2 .., A_3 .., A_4 ..⟩
  · have e := scratches m c (t.val - 1) (Nat.lt_of_le_of_lt (Nat.sub_le _ _) t.isLt)
    rw [outsAt0_B m c t h, e.1, e.2]; dsimp only; exact ⟨B_2 .., B_3 .., B_4 ..⟩

theorem idx : ∀ t : Fin cfg0.N, win0_0.index t = ![t.val, 0] ∧ win0_1.index t = ![0, 0, 0] ∧
    win0_2.index t = ![t.val, 0] ∧ win0_3.index t = ![t.val, 0] ∧ win0_4.index t = ![t.val, 0] ∧ t.val < 16 :=
  (by decide +kernel : ∀ t : Fin grid0.N, _)

theorem blk0 (t : Fin cfg0.N) (p : Fin 256) (k : Fin 1024) :
    (iblk m c 0 t : FVec Ideal S256x1024 .f32) (ix2 p k) = X m c ⟨256 * t.val + p.val, by have := (idx t).2.2.2.2.2; omega⟩ k := by
  unfold X; rw [← V_main_arg0 m c]; blk_ext [iblk, idx t]

theorem blk1 (t : Fin cfg0.N) (r : Fin 16) (k : Fin 1024) :
    (iblk m c 1 t : FVec Ideal S1x16x1024 .f32) (ix3 0 r k) = (V m c main_v6 : FVec Ideal S4x16x1024 .f32) (ix3 0 r k) := by
  blk_ext [iblk, idx t]

theorem point (t : Fin cfg0.N) (p : Fin 256) (P : Fin 4096) (hP : P.val = 256 * t.val + p.val) :
    (∀ q, tileR (iblk m c 0 t) (iblk m c 1 t) (V m c main_v8) (ix2 p q) = rrow m c P q)
    ∧ (∀ q, tileF (iblk m c 0 t) (iblk m c 1 t) (V m c main_v8) (V m c main_v9) (ix2 p q) = frow m c P q)
    ∧ ∀ q, tileX (iblk m c 0 t) (iblk m c 1 t) (V m c main_v8) (V m c main_v9) (ix2 p q) = Mlp.gated (X m c P) (frow m c P) (GT m c) (PO m c) q :=
  tile_at m c (iblk m c 0 t) (iblk m c 1 t) (V m c main_v8) (V m c main_v9) p P
    (funext fun k => (blk0 m c t p k).trans (congrArg (X m c · k) (Fin.ext hP.symm)))
    (fun j => (blk1 m c t 3 j).trans (V6_3 m c j)) (fun j => (blk1 m c t 4 j).trans (V6_4 m c j)) (fun j => (blk1 m c t 5 j).trans (V6_5 m c j))
    (fun j => (blk1 m c t 8 j).trans (V6_8 m c j)) (fun j => (blk1 m c t 9 j).trans (V6_9 m c j))
    (funext fun k => funext fun i => V8 m c i k) (funext fun i => funext fun j => congrFun (V9 m c) (ix2 i j))

theorem point_r (t : Fin cfg0.N) (y : S256x4096.Idx) (i : S4096x4096.Idx) (h0 : (i 0 : ℕ) = t.val * 256 + (y 0 : ℕ)) (h1 : (i 1 : ℕ) = (y 1 : ℕ)) :
    (outsAt0 m c t.val t.isLt).2.1 y = rA m c i := by
  rw [(vals m c t).2.1, eq_ix2 y]
  exact ((point m c t (y 0) (i 0) (by omega)).1 (y 1)).trans (congrArg (rrow m c (i 0)) (Fin.ext h1.symm))

theorem final_r : (dats m 0 c).arrAt 3 cfg0.N = rA m c := by
  refine (dats m 0 c).arrAt_eq_of_covers 3 _ (by decide +kernel) fun t hf y => ?_
  blk_simp
  rw [after0_3]
  refine point_r m c t y _ ?_ ?_ <;> blk_simp [idx t] <;> try omega

theorem point_f (t : Fin cfg0.N) (y : S256x1024.Idx) (i : S4096x1024.Idx) (h0 : (i 0 : ℕ) = t.val * 256 + (y 0 : ℕ)) (h1 : (i 1 : ℕ) = (y 1 : ℕ)) :
    (outsAt0 m c t.val t.isLt).2.2.1 y = fA m c i := by
  rw [(vals m c t).2.2, eq_ix2 y]
  exact ((point m c t (y 0) (i 0) (by omega)).2.1 (y 1)).trans (congrArg (frow m c (i 0)) (Fin.ext h1.symm))

theorem final_f : (dats m 0 c).arrAt 4 cfg0.N = fA m c := by
  refine (dats m 0 c).arrAt_eq_of_covers 4 _ (by decide +kernel) fun t hf y => ?_
  blk_simp
  rw [after0_4]
  refine point_f m c t y _ ?_ ?_ <;> blk_simp [idx t] <;> try omega

theorem point_x (t : Fin cfg0.N) (y : S256x1024.Idx) (i : S4096x1024.Idx) (h0 : (i 0 : ℕ) = t.val * 256 + (y 0 : ℕ)) (h1 : (i 1 : ℕ) = (y 1 : ℕ)) :
    (outsAt0 m c t.val t.isLt).1 y = xA m c i := by
  rw [(vals m c t).1, eq_ix2 y]
  exact ((point m c t (y 0) (i 0) (by omega)).2.2 (y 1)).trans (congrArg (Mlp.gated (X m c (i 0)) (frow m c (i 0)) (GT m c) (PO m c)) (Fin.ext h1.symm))

theorem final_x : (dats m 0 c).arrAt 2 cfg0.N = xA m c := by
  refine (dats m 0 c).arrAt_eq_of_covers 2 _ (by decide +kernel) fun t hf y => ?_
  blk_simp
  rw [after0_2]
  refine point_x m c t y _ ?_ ?_ <;> blk_simp [idx t] <;> try omega

end Cert.MlpFwd

namespace Cert.MlpFwd
open Cert.Reference6Ideal Cert.Reference6Ideal.Read

section reference
variable (x0 : FVec Ideal S4096x1024 .f32) (x1 : FVec Ideal S4x6144 .f32) (x4 x5 : FVec Ideal S4x1024 .f32) (x6 : FVec Ideal S1024x4096 .f32) (x7 : FVec Ideal S4096x1024 .f32)

theorem ref_h (p : Fin 4096) (q : Fin 1024) : val_main_v30 (F := Ideal) x0 x1 x4 (ix2 p q) =
    Mlp.hid (fun k => x0 (ix2 p k)) (fun j => x1 (ix2 0 ⟨3072 + j.val, by omega⟩)) (fun j => x1 (ix2 0 ⟨4096 + j.val, by omega⟩)) (fun j => x4 (ix2 0 j)) q := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, val_main_call0_cst, val_main_call0_v0, val_main_cst_3, val_main_cst_4, val_main_cst_5]
  rfl

theorem ref_r (p : Fin 4096) (q : Fin 4096) : val_main_v33 (F := Ideal) x0 x1 x4 x6 (ix2 p q) =
    Mlp.sq (Mlp.act (fun k => val_main_v30 (F := Ideal) x0 x1 x4 (ix2 p k)) (fun k i => x6 (ix2 k i))) q := by
  unfold val_main_v33 val_main_v32 val_main_v31
  generalize val_main_v30 (F := Ideal) x0 x1 x4 = h
  pointwise [val_main_cst, val_main_cst_0, val_main_cst_1, val_main_cst_2, val_main_call0_cst, val_main_call0_v0, val_main_cst_3, val_main_cst_4, val_main_cst_5]
  rfl

theorem ref_f (p : Fin 4096) (q : Fin 1024) : val_main_v34 (F := Ideal) x0 x1 x4 x6 x7 (ix2 p q) =
    Mlp.outp (fun k => val_main_v33 (F := Ideal) x0 x1 x4 x6 (ix2 p k)) (fun k j => x7 (ix2 k j)) q := by
  unfold val_main_v34
  generalize val_main_v33 (F := Ideal) x0 x1 x4 x6 = r
  pointwise []
  rfl

theorem ref_x (p : Fin 4096) (q : Fin 1024) : val_main_v53 (F := Ideal) x0 x1 x4 x5 x6 x7 (ix2 p q) =
    Mlp.gated (fun k => x0 (ix2 p k)) (fun k => val_main_v34 (F := Ideal) x0 x1 x4 x6 x7 (ix2 p k)) (fun j => x1 (ix2 0 ⟨5120 + j.val, by omega⟩)) (fun j => x5 (ix2 0 j)) q := by
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35
  generalize val_main_v34 (F := Ideal) x0 x1 x4 x6 x7 = f
  pointwise [val_main_v0, val_main_v1, val_main_v7, val_main_cst, val_main_cst_0, val_main_cst_1, val_main_cst_2, val_main_call0_cst, val_main_call0_v0, val_main_cst_3, val_main_cst_4, val_main_cst_5]
  rfl

end reference

/-- The reference's run, its results as functions of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg4)) (m ((c.tc : Thread nD τ).loc main_arg6))
      ∧ r.2.mem ((c.tc : Thread nD τ).loc main_v34) = val_main_v34 (F := Ideal) (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (val_main_v53_eq m c), (h c).2.1.trans (val_main_v54_eq _ _ _ _), (h c).2.2.1.trans (val_main_v34_eq _ _ _ _ _), (h c).2.2.2⟩)
    (Cert.Reference6Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2.2, Idealize.ShloMosaic.sem_eq_zero_of_no_sems (by decide) r.2⟩) (ref_run m g)

section agree
variable (m : (ℓ : Loc Cert.Kernel6Ideal.nD Cert.Kernel6Ideal.τ Cert.Kernel6Ideal.sig) → Buf (Elt Ideal) ℓ) (c : Dev Cert.Kernel6Ideal.nD)

/-- The reference's results at the kernel's arguments are the kernel's. -/
theorem agree_r (p : Fin 4096) : (fun q => val_main_v33 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg6)) (ix2 p q)) = rrow m c p := by
  funext q
  refine (ref_r _ _ _ _ p q).trans ?_
  exact congrFun (congrArg (fun h => Mlp.sq (Mlp.act h (WI m c))) (funext fun k => ref_h _ _ _ p k)) q

theorem agree_f (p : Fin 4096) : (fun q => val_main_v34 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg6)) (m ((c : Thread Cert.Kernel6Ideal.nD Cert.Kernel6Ideal.τ).loc Cert.Kernel6Ideal.main_arg7)) (ix2 p q)) = frow m c p := by
  funext q
  refine (ref_f _ _ _ _ _ p q).trans ?_
  exact congrFun (congrArg (fun r => Mlp.outp r (WO m c)) (agree_r m c p)) q

theorem agree_x (p : Fin 4096) (q : Fin 1024) : val_main_v53 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6)) (m ((c : Thread Cert.Kernel6Ideal.nD Cert.Kernel6Ideal.τ).loc Cert.Kernel6Ideal.main_arg7)) (ix2 p q) =
    Mlp.gated (X m c p) (frow m c p) (GT m c) (PO m c) q := by
  refine (ref_x _ _ _ _ _ _ p q).trans ?_
  exact congrFun (congrArg (fun f => Mlp.gated (X m c p) f (GT m c) (PO m c)) (agree_f m c p)) q

end agree

end Cert.MlpFwd

namespace Cert.MlpFwd

/-- Both programs end with the same residuals, activations and products. -/
theorem algebraic : @Cert.algebraic_Kernel6Ideal_Reference6Ideal Cert.Kernel6Ideal.Gen.facts Cert.Reference6Ideal.Gen.facts := by
  intro m g m' g' hpre hag
  refine ⟨fun c => xA m c, fun c => rA m c, fun c => fA m c,
    (θ_run Cert.Kernel6Ideal.defs _ _).mono (fun r h c => ⟨(h c).1.trans (final_x m c), (h c).2.1.trans (final_r m c), (h c).2.2.1.trans (final_f m c), (h c).2.2.2⟩) (Cert.Kernel6Ideal.Value.run_blocks m g), ?_⟩
  refine (θ_run Cert.Reference6Ideal.defs _ _).mono (fun r h c => ?_) (ref_run m' g')
  obtain ⟨a0, a1, a2, a3, a4, a5, a6, a7⟩ := hag c
  refine ⟨(h c).1.trans ?_, (h c).2.1.trans ?_, (h c).2.2.1.trans ?_, (h c).2.2.2⟩
  · rw [a0, a1, a4, a5, a6, a7]
    funext i
    exact (congrArg _ (eq_ix2 i)).trans (agree_x m c (i 0) (i 1))
  · rw [a0, a1, a4, a6]
    funext i
    exact (congrArg _ (eq_ix2 i)).trans (congrFun (agree_r m c (i 0)) (i 1))
  · rw [a0, a1, a4, a6, a7]
    funext i
    exact (congrArg _ (eq_ix2 i)).trans (congrFun (agree_f m c (i 0)) (i 1))

end Cert.MlpFwd
end
-- ==== Proof.MlpGrad.lean ====
module

public import proofs.«01_k».proof.Proof.Mlp

@[expose] public section

noncomputable section

open Idealize.ShloMosaic

/-! # The norm's derivative on the extended reals

The reference differentiates `x · rsqrt v` by the product rule; the kernel has one regrouped term. They agree at every
input: where `v` is infinite both are zero, and elsewhere the row is real. -/

namespace Cert.Mlp

theorem width_eq : width = ((1024 : ℝ) : EReal) := by
  simp [width, Ideal.ofBits, Ideal.ieee, -EReal.coe_mul]; norm_num

theorem eps_pos : ∃ e : ℝ, 0 < e ∧ eps = (e : EReal) := by
  refine ⟨8796093 / 8796093022208, by norm_num, ?_⟩
  simp [eps, Ideal.ofBits, Ideal.ieee, -EReal.coe_mul]; norm_num

/-- A nonnegative real times a sum. -/
theorem mul_sum {ι : Type} [Fintype ι] (c : ℝ) (hc : 0 ≤ c) (f : ι → EReal) : ∑ k, (c : EReal) * f k = (c : EReal) * ∑ k, f k := by
  classical
  induction (Finset.univ : Finset ι) using Finset.induction_on with
  | empty => simp
  | insert a s ha ih =>
    rw [Finset.sum_insert ha, Finset.sum_insert ha, ih, EReal.left_distrib_of_nonneg_of_ne_top (EReal.coe_nonneg.mpr hc) (EReal.coe_ne_top c)]

theorem coe_sum {ι : Type} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- A square is not negative. -/
theorem sq_nonneg' (x : EReal) : 0 ≤ x * x := by
  induction x with
  | bot => simp
  | top => simp
  | coe x => rw [← EReal.coe_mul]; exact EReal.coe_nonneg.mpr (mul_self_nonneg x)

/-- What the reference's norm passes to the mean square, from the row and its gradient. -/
def back (x t : Fin 1024 → EReal) : EReal :=
  Ideal.div ((∑ k, x k * t k) * (((-1 / 2 : ℝ) : EReal) * Ideal.div (rs x) (Ideal.div (∑ k, x k * x k) width + eps))) width

theorem rms_back (x t : Fin 1024 → EReal) (i : Fin 1024) :
    rs x * (t i - x i * rs x * Ideal.div (∑ k, t k * (x k * rs x)) width) = t i * rs x + (x i * back x t + back x t * x i) := by
  obtain ⟨e, he, hE⟩ := eps_pos
  by_cases hv : (∑ k, x k * x k) = ⊤
  · have hr : rs x = 0 := by
      unfold rs; rw [hv, width_eq, Ideal.div_coe (by norm_num), hE, EReal.top_mul_coe_of_pos (by norm_num), EReal.top_add_coe, Ideal.rsqrt_top]
    have hb : back x t = 0 := by
      unfold back
      rw [hr, hv, width_eq, Ideal.div_coe (by norm_num), Ideal.div_coe (by norm_num), hE, EReal.top_mul_coe_of_pos (by norm_num), EReal.top_add_coe]
      simp [Ideal.div]
    rw [hr, hb]; simp
  · have hx : ∀ k, ∃ ξ : ℝ, x k = (ξ : EReal) := by
      intro k
      have hle : x k * x k ≤ ∑ k, x k * x k := Finset.single_le_sum (f := fun k => x k * x k) (fun k _ => sq_nonneg' (x k)) (Finset.mem_univ k)
      have hne : x k * x k ≠ ⊤ := fun h => hv (top_le_iff.mp (h ▸ hle))
      generalize x k = z at hne
      induction z with
      | bot => simp at hne
      | top => simp at hne
      | coe z => exact ⟨z, rfl⟩
    choose ξ hξ using hx
    have hs : (∑ k, x k * x k) = ((∑ k, ξ k * ξ k : ℝ) : EReal) := by
      rw [coe_sum]; exact Finset.sum_congr rfl fun k _ => by rw [hξ k, EReal.coe_mul]
    obtain ⟨v, hv0, hV⟩ : ∃ v : ℝ, 0 < v ∧ Ideal.div (∑ k, x k * x k) width + eps = (v : EReal) :=
      have h0 : 0 ≤ ∑ k, ξ k * ξ k := Finset.sum_nonneg fun k _ => mul_self_nonneg (ξ k)
      ⟨(∑ k, ξ k * ξ k) * (1 / 1024) + e, by positivity, by rw [hs, width_eq, Ideal.div_coe (by norm_num), hE]; push_cast; rfl⟩
    have hr : rs x = (((Real.sqrt v)⁻¹ : ℝ) : EReal) := by
      unfold rs; rw [hV, Ideal.rsqrt_coe]; simp [not_lt.mpr hv0.le, hv0.ne']
    have hq : 0 < Real.sqrt v := Real.sqrt_pos.mpr hv0
    have hq2 : Real.sqrt v * Real.sqrt v = v := Real.mul_self_sqrt hv0.le
    generalize hρ : (Real.sqrt v)⁻¹ = ρ at hr
    have hρ0 : 0 < ρ := hρ ▸ inv_pos.mpr hq
    have hvi : 1 / v = ρ * ρ := by rw [← hρ, ← mul_inv, hq2, one_div]
    have hS : (∑ k, t k * (x k * rs x)) = (ρ : EReal) * ∑ k, x k * t k := by
      rw [← mul_sum ρ hρ0.le]; exact Finset.sum_congr rfl fun k _ => by rw [hr]; ac_rfl
    unfold back
    rw [hS, hV, hr, width_eq, hξ i, Ideal.div_coe hv0.ne', Ideal.div_coe (by norm_num), Ideal.div_coe (by norm_num), hvi]
    generalize (∑ k, x k * t k) = S
    have hz : ∀ Z : EReal, Z + Z = ((2 : ℝ) : EReal) * Z := fun Z => by
      have := EReal.right_distrib_of_nonneg (a := 1) (b := 1) (c := Z) zero_le_one zero_le_one
      rw [one_mul] at this
      rw [← this]; rw [show (2 : ℝ) = 1 + 1 by norm_num, EReal.coe_add, EReal.coe_one]
    rw [show (ξ i : EReal) * (S * (((-1 / 2 : ℝ) : EReal) * ((ρ : EReal) * ((ρ * ρ : ℝ) : EReal))) * ((1 / 1024 : ℝ) : EReal)) +
        S * (((-1 / 2 : ℝ) : EReal) * ((ρ : EReal) * ((ρ * ρ : ℝ) : EReal))) * ((1 / 1024 : ℝ) : EReal) * (ξ i : EReal) = ((-(ξ i * ρ * ρ * ρ * (1 / 1024)) : ℝ) : EReal) * S from ?_]
    · rw [sub_eq_add_neg, EReal.left_distrib_of_nonneg_of_ne_top (EReal.coe_nonneg.mpr hρ0.le) (EReal.coe_ne_top ρ), mul_comm (ρ : EReal) (t i)]
      congr 1
      rw [EReal.coe_neg, EReal.neg_mul, mul_neg]
      congr 1
      push_cast
      ac_rfl
    · have hc : S * (((-1 / 2 : ℝ) : EReal) * ((ρ : EReal) * ((ρ * ρ : ℝ) : EReal))) * ((1 / 1024 : ℝ) : EReal) * (ξ i : EReal) = ((-1 / 2 * (ξ i * ρ * ρ * ρ * (1 / 1024)) : ℝ) : EReal) * S := by
        push_cast; ac_rfl
      rw [mul_comm (ξ i : EReal), hc, hz, ← mul_assoc, ← EReal.coe_mul]
      congr 2; ring

/-- The squared ReLU's derivative: the root of the square is the ReLU, and zero takes the place of the selection. -/
theorem sqrt_sq (a : EReal) : Ideal.sqrt (max a 0 * max a 0) = max a 0 := by
  have h : 0 ≤ max a 0 := le_max_right a 0
  generalize max a 0 = z at h
  induction z with
  | bot => simp at h
  | top => simp
  | coe z =>
    have hz := EReal.coe_nonneg.mp h
    rw [← EReal.coe_mul, Ideal.sqrt_coe]
    simp [not_lt.mpr (mul_self_nonneg z), Real.sqrt_mul_self hz]

/-- The reference's minus one half and two. -/
def half : EReal := Ideal.ofBits .f32 0xBF000000#32
def two : EReal := Ideal.ofBits .f32 0x40000000#32

theorem half_eq : half = (((-1 / 2 : ℝ) : ℝ) : EReal) := by
  simp [half, Ideal.ofBits, Ideal.ieee, -EReal.coe_mul]; norm_num

/-- The gradient a norm passes to its row, from the normed row's gradient. -/
def dn (x t : Fin 1024 → EReal) (i : Fin 1024) : EReal := rs x * (t i - x i * rs x * Ideal.div (∑ k, t k * (x k * rs x)) width)
/-- The same, as the reference computes it. -/
def dnRef (x t : Fin 1024 → EReal) (i : Fin 1024) : EReal :=
  t i * rs x + x i * Ideal.div ((∑ k, x k * t k) * (half * Ideal.div (rs x) (Ideal.div (∑ k, x k * x k) width + eps))) width
    + Ideal.div ((∑ k, x k * t k) * (half * Ideal.div (rs x) (Ideal.div (∑ k, x k * x k) width + eps))) width * x i

theorem dnRef_eq (x t : Fin 1024 → EReal) (i : Fin 1024) : dnRef x t i = dn x t i := by
  unfold dnRef dn
  rw [rms_back, half_eq, add_assoc]
  rfl

/-- The gated output's gradient, before the norm. -/
def tf (d gate post : Fin 1024 → EReal) (j : Fin 1024) : EReal := d j * gate j * post j
/-- The gradient of the hidden layer before its activation. -/
def da (df : Fin 1024 → EReal) (wo : Fin 4096 → Fin 1024 → EReal) (r : Fin 4096 → EReal) (i : Fin 4096) : EReal :=
  (∑ k, df k * wo i k) * (two * Ideal.sqrt (r i))
/-- The hidden row's gradient. -/
def dh (a : Fin 4096 → EReal) (wi : Fin 1024 → Fin 4096 → EReal) (j : Fin 1024) : EReal := ∑ i, a i * wi j i
/-- The residual's gradient. -/
def dx (d x h sc g : Fin 1024 → EReal) (j : Fin 1024) : EReal := d j + dn x (fun k => h k * (1 + sc k) * g k) j

open Classical in
theorem select_sqrt (a z : EReal) : (if 0 < a then z * (two * max a 0) else 0) = z * (two * Ideal.sqrt (max a 0 * max a 0)) := by
  rw [sqrt_sq]
  split
  · rfl
  · next h => rw [max_eq_right (not_lt.mp h), mul_zero, mul_zero]

/-- A sum over the tokens, tile by tile. -/
theorem sum_tiles (f : Fin 4096 → EReal) : ∑ t : Fin 16, ∑ p : Fin 256, f ⟨256 * t.val + p.val, by omega⟩ = ∑ P, f P := by
  rw [← Fintype.sum_prod_type']
  refine Fintype.sum_equiv (finProdFinEquiv (m := 16) (n := 256)) _ _ fun x => ?_
  exact congrArg f (Fin.ext (Nat.add_comm _ _))

/-- A sum over one tile of 256 tokens. -/
def seg (f : Fin 4096 → EReal) (t : ℕ) : EReal := ∑ p : Fin 256, f ⟨(256 * t + p.val) % 4096, Nat.mod_lt _ (by omega)⟩

theorem seg_sum (f : Fin 4096 → EReal) : ∑ t ∈ Finset.range 16, seg f t = ∑ P, f P := by
  rw [← sum_tiles, Finset.sum_range]
  refine Finset.sum_congr rfl fun t _ => Finset.sum_congr rfl fun p _ => congrArg f (Fin.ext ?_)
  exact Nat.mod_eq_of_lt (by omega)

end Cert.Mlp
end
-- ==== Proof.MlpBwdPoint.lean ====
module

public import proofs.«01_k».proof.Defs
public import proofs.«01_k».proof.Proof.Gen.Kernel7Ideal.Frame
public import proofs.«01_k».proof.Proof.MlpGrad
public import Idealize.ShloMosaic.Lib.Pipeline.ValueKit
public import Idealize.ShloMosaic.Lib.WritesUnit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward call: what a tile of 256 tokens writes -/

namespace Cert.MlpBwd
open Cert.Kernel7Ideal Cert.Kernel7Ideal.Gen

theorem hz : (![0, 0] : Fin 2 → Nat) = fun _ => 0 := funext fun a => by fin_cases a <;> rfl

/-- A copy of the whole weight leaves the weight. -/
theorem canon_whole (w : S4096x1024.Idx → Elt Ideal .bf16) : View.canon [⟨Rect.whole S4096x1024, w⟩] = w := by
  funext y
  have e : (Rect.whole S4096x1024).emb y = y := funext fun a => Fin.ext (by show 0 + 1 * (y a : ℕ) = y a; omega)
  exact (congrArg (View.canon [⟨Rect.whole S4096x1024, w⟩]) e.symm).trans (View.canon_cons_emb (Rect.whole S4096x1024) w [] y)

theorem readCov_whole {sig : RefSig} {κ : Kind} {sp : Space} (v : View sig κ sp S4096x1024 .bf16) (w : S4096x1024.Idx → Elt Ideal .bf16)
    (hb : ∀ a : Fin 2, (![0, 0] : Fin 2 → Nat) a + (![4096, 1024] : Fin 2 → Nat) a ≤ S4096x1024.size a) :
    v.readCov [⟨Rect.whole S4096x1024, w⟩] (Rect.unit (s := S4096x1024) ![0, 0] ![4096, 1024] hb).toLoadRect = w := by
  rw [View.readCov_eq_canon', canon_whole]
  exact View.ld_unit_zero (S := S4096x1024) hz _ _

/-- What the call adds to the five rows of vector gradients: sums of columns over the tile's rows. -/
theorem pay17_at (v9 : FVec Ideal S1x1024 .f32) (u : Vec Ideal S1x1024 .f32) (v39 v53 : Vec Ideal S256x1024 .f32) (q : Fin 1024) :
    k0_pay17 v9 v39 v53 u (ix2 0 q) = u (ix2 0 q) + ∑ p, v53 (ix2 p q) * (k0_pay16 v39 (ix2 p q) * v9 (ix2 0 q)) := by
  unfold k0_pay17
  generalize k0_pay16 v39 = y
  pointwise []

theorem pay21_at (v50 v64 : FVec Ideal S256x1024 .f32) (u : FVec Ideal S1x1024 .f32) (q : Fin 1024) :
    k0_pay21 v50 v64 u (ix2 0 q) = u (ix2 0 q) + ∑ p, v64 (ix2 p q) * v50 (ix2 p q) := by
  pointwise [k0_pay21]

theorem pay25_at (v38 : FVec Ideal S256x4096 .f32) (v48 : FVec Ideal S256x1 .f32) (v50 v66 : FVec Ideal S256x1024 .f32) (v71 : FVec Ideal S256x1 .f32) (v86 v93 : FVec Ideal S4096x1024 .bf16) (u : FVec Ideal S1x1024 .f32) (q : Fin 1024) :
    k0_pay25 v38 v48 v50 v66 v71 v86 v93 u (ix2 0 q) = u (ix2 0 q) + ∑ p, k0_pay24 v38 v48 v50 v66 v71 v86 v93 (ix2 p q) := by
  unfold k0_pay25
  generalize k0_pay24 v38 v48 v50 v66 v71 v86 v93 = y
  pointwise []

theorem pay1_at (u : FVec Ideal S1x1024 .f32) (v103 : FVec Ideal S256x1024 .f32) (q : Fin 1024) :
    k0_pay1 (k0_pay26 u) v103 (ix2 0 q) = u (ix2 0 q) + ∑ p, v103 (ix2 p q) := by
  pointwise [k0_pay1, k0_pay26]

theorem pay3_at (v11 u : FVec Ideal S1x1024 .f32) (v22 v94 : FVec Ideal S256x1024 .f32) (q : Fin 1024) :
    k0_pay3 v11 v22 v94 u (ix2 0 q) = u (ix2 0 q) + ∑ p, k0_pay2 v11 v94 (ix2 p q) * v22 (ix2 p q) := by
  unfold k0_pay3
  generalize k0_pay2 v11 v94 = y
  pointwise []

theorem ld_row (xo : S16x1024.Idx → Elt Ideal .f32) (r : Fin 16) (hb : ∀ a : Fin 2, (![r.val, 0] : Fin 2 → Nat) a + (![1, 1024] : Fin 2 → Nat) a ≤ S16x1024.size a) (q : Fin 1024) :
    View.ld xo (Rect.unit (s := S16x1024) ![r.val, 0] ![1, 1024] hb) (ix2 0 q) = xo (ix2 r q) := by
  refine congrArg xo (funext fun a => Fin.ext ?_)
  fin_cases a
  · rfl
  · exact (Nat.zero_add _).trans (Nat.one_mul _)

/-- The entries of a buffer after stores of some of its rows, the last first. -/
theorem rows_3 {sig : RefSig} {κ : Kind} {sp : Space} (v : View sig κ sp S16x1024 .f32) (f : v.ty.Contents (Elt Ideal)) (w8 w4 w3 : Vec Ideal S1x1024 .f32) (L : List (View.Piece (Elt Ideal) S16x1024 .f32)) (q : Fin 1024) :
    v.read (Elt Ideal) (v.writes (Elt Ideal) f ((⟨Rect.unit (s := S16x1024) ![8, 0] ![1, 1024] inb_S16x1024_S1x1024_8_0, w8⟩ : View.Piece (Elt Ideal) S16x1024 .f32) :: (⟨Rect.unit (s := S16x1024) ![4, 0] ![1, 1024] inb_S16x1024_S1x1024_4_0, w4⟩ : View.Piece (Elt Ideal) S16x1024 .f32) :: (⟨Rect.unit (s := S16x1024) ![3, 0] ![1, 1024] inb_S16x1024_S1x1024_3_0, w3⟩ : View.Piece (Elt Ideal) S16x1024 .f32) :: L)) (ix2 3 q) = w3 (ix2 0 q) := by
  refine (View.read_writes_cons_rows_of_not_mem (o := 8) (W := 1) v _ _ _ _ _ rfl rfl (by first | exact Or.inl (show 3 < 8 by omega) | exact Or.inr (show 8 + 1 ≤ 3 by omega))).trans ?_
  refine (View.read_writes_cons_rows_of_not_mem (o := 4) (W := 1) v _ _ _ _ _ rfl rfl (by first | exact Or.inl (show 3 < 4 by omega) | exact Or.inr (show 4 + 1 ≤ 3 by omega))).trans ?_
  exact View.read_writes_cons_rows_of_mem (o := 3) v _ _ _ _ (ix2 3 q) (ix2 0 q) rfl rfl rfl

theorem rows_4 {sig : RefSig} {κ : Kind} {sp : Space} (v : View sig κ sp S16x1024 .f32) (f : v.ty.Contents (Elt Ideal)) (w8 w4 : Vec Ideal S1x1024 .f32) (L : List (View.Piece (Elt Ideal) S16x1024 .f32)) (q : Fin 1024) :
    v.read (Elt Ideal) (v.writes (Elt Ideal) f ((⟨Rect.unit (s := S16x1024) ![8, 0] ![1, 1024] inb_S16x1024_S1x1024_8_0, w8⟩ : View.Piece (Elt Ideal) S16x1024 .f32) :: (⟨Rect.unit (s := S16x1024) ![4, 0] ![1, 1024] inb_S16x1024_S1x1024_4_0, w4⟩ : View.Piece (Elt Ideal) S16x1024 .f32) :: L)) (ix2 4 q) = w4 (ix2 0 q) := by
  refine (View.read_writes_cons_rows_of_not_mem (o := 8) (W := 1) v _ _ _ _ _ rfl rfl (by first | exact Or.inl (show 4 < 8 by omega) | exact Or.inr (show 8 + 1 ≤ 4 by omega))).trans ?_
  exact View.read_writes_cons_rows_of_mem (o := 4) v _ _ _ _ (ix2 4 q) (ix2 0 q) rfl rfl rfl

theorem rows_5 {sig : RefSig} {κ : Kind} {sp : Space} (v : View sig κ sp S16x1024 .f32) (f : v.ty.Contents (Elt Ideal)) (w8 w4 w3 w9 w5 : Vec Ideal S1x1024 .f32) (L : List (View.Piece (Elt Ideal) S16x1024 .f32)) (q : Fin 1024) :
    v.read (Elt Ideal) (v.writes (Elt Ideal) f ((⟨Rect.unit (s := S16x1024) ![8, 0] ![1, 1024] inb_S16x1024_S1x1024_8_0, w8⟩ : View.Piece (Elt Ideal) S16x1024 .f32) :: (⟨Rect.unit (s := S16x1024) ![4, 0] ![1, 1024] inb_S16x1024_S1x1024_4_0, w4⟩ : View.Piece (Elt Ideal) S16x1024 .f32) :: (⟨Rect.unit (s := S16x1024) ![3, 0] ![1, 1024] inb_S16x1024_S1x1024_3_0, w3⟩ : View.Piece (Elt Ideal) S16x1024 .f32) :: (⟨Rect.unit (s := S16x1024) ![9, 0] ![1, 1024] inb_S16x1024_S1x1024_9_0, w9⟩ : View.Piece (Elt Ideal) S16x1024 .f32) :: (⟨Rect.unit (s := S16x1024) ![5, 0] ![1, 1024] inb_S16x1024_S1x1024_5_0, w5⟩ : View.Piece (Elt Ideal) S16x1024 .f32) :: L)) (ix2 5 q) = w5 (ix2 0 q) := by
  refine (View.read_writes_cons_rows_of_not_mem (o := 8) (W := 1) v _ _ _ _ _ rfl rfl (by first | exact Or.inl (show 5 < 8 by omega) | exact Or.inr (show 8 + 1 ≤ 5 by omega))).trans ?_
  refine (View.read_writes_cons_rows_of_not_mem (o := 4) (W := 1) v _ _ _ _ _ rfl rfl (by first | exact Or.inl (show 5 < 4 by omega) | exact Or.inr (show 4 + 1 ≤ 5 by omega))).trans ?_
  refine (View.read_writes_cons_rows_of_not_mem (o := 3) (W := 1) v _ _ _ _ _ rfl rfl (by first | exact Or.inl (show 5 < 3 by omega) | exact Or.inr (show 3 + 1 ≤ 5 by omega))).trans ?_
  refine (View.read_writes_cons_rows_of_not_mem (o := 9) (W := 1) v _ _ _ _ _ rfl rfl (by first | exact Or.inl (show 5 < 9 by omega) | exact Or.inr (show 9 + 1 ≤ 5 by omega))).trans ?_
  exact View.read_writes_cons_rows_of_mem (o := 5) v _ _ _ _ (ix2 5 q) (ix2 0 q) rfl rfl rfl

theorem rows_8 {sig : RefSig} {κ : Kind} {sp : Space} (v : View sig κ sp S16x1024 .f32) (f : v.ty.Contents (Elt Ideal)) (w8 : Vec Ideal S1x1024 .f32) (L : List (View.Piece (Elt Ideal) S16x1024 .f32)) (q : Fin 1024) :
    v.read (Elt Ideal) (v.writes (Elt Ideal) f ((⟨Rect.unit (s := S16x1024) ![8, 0] ![1, 1024] inb_S16x1024_S1x1024_8_0, w8⟩ : View.Piece (Elt Ideal) S16x1024 .f32) :: L)) (ix2 8 q) = w8 (ix2 0 q) := by
  exact View.read_writes_cons_rows_of_mem (o := 8) v _ _ _ _ (ix2 8 q) (ix2 0 q) rfl rfl rfl

theorem rows_9 {sig : RefSig} {κ : Kind} {sp : Space} (v : View sig κ sp S16x1024 .f32) (f : v.ty.Contents (Elt Ideal)) (w8 w4 w3 w9 : Vec Ideal S1x1024 .f32) (L : List (View.Piece (Elt Ideal) S16x1024 .f32)) (q : Fin 1024) :
    v.read (Elt Ideal) (v.writes (Elt Ideal) f ((⟨Rect.unit (s := S16x1024) ![8, 0] ![1, 1024] inb_S16x1024_S1x1024_8_0, w8⟩ : View.Piece (Elt Ideal) S16x1024 .f32) :: (⟨Rect.unit (s := S16x1024) ![4, 0] ![1, 1024] inb_S16x1024_S1x1024_4_0, w4⟩ : View.Piece (Elt Ideal) S16x1024 .f32) :: (⟨Rect.unit (s := S16x1024) ![3, 0] ![1, 1024] inb_S16x1024_S1x1024_3_0, w3⟩ : View.Piece (Elt Ideal) S16x1024 .f32) :: (⟨Rect.unit (s := S16x1024) ![9, 0] ![1, 1024] inb_S16x1024_S1x1024_9_0, w9⟩ : View.Piece (Elt Ideal) S16x1024 .f32) :: L)) (ix2 9 q) = w9 (ix2 0 q) := by
  refine (View.read_writes_cons_rows_of_not_mem (o := 8) (W := 1) v _ _ _ _ _ rfl rfl (by first | exact Or.inl (show 9 < 8 by omega) | exact Or.inr (show 8 + 1 ≤ 9 by omega))).trans ?_
  refine (View.read_writes_cons_rows_of_not_mem (o := 4) (W := 1) v _ _ _ _ _ rfl rfl (by first | exact Or.inl (show 9 < 4 by omega) | exact Or.inr (show 4 + 1 ≤ 9 by omega))).trans ?_
  refine (View.read_writes_cons_rows_of_not_mem (o := 3) (W := 1) v _ _ _ _ _ rfl rfl (by first | exact Or.inl (show 9 < 3 by omega) | exact Or.inr (show 3 + 1 ≤ 9 by omega))).trans ?_
  exact View.read_writes_cons_rows_of_mem (o := 9) v _ _ _ _ (ix2 9 q) (ix2 0 q) rfl rfl rfl

theorem zero_3 {sig : RefSig} {κ : Kind} {sp : Space} (v : View sig κ sp S16x1024 .f32) (w9 w5 : Vec Ideal S1x1024 .f32) (z : Vec Ideal S16x1024 .f32) (q : Fin 1024) :
    v.readCov ((⟨Rect.unit (s := S16x1024) ![9, 0] ![1, 1024] inb_S16x1024_S1x1024_9_0, w9⟩ : View.Piece (Elt Ideal) S16x1024 .f32) :: (⟨Rect.unit (s := S16x1024) ![5, 0] ![1, 1024] inb_S16x1024_S1x1024_5_0, w5⟩ : View.Piece (Elt Ideal) S16x1024 .f32) :: [(⟨Rect.unit (s := S16x1024) ![0, 0] ![16, 1024] inb_S16x1024_S16x1024_0_0, z⟩ : View.Piece (Elt Ideal) S16x1024 .f32)]) (Rect.unit (s := S16x1024) ![3, 0] ![1, 1024] inb_S16x1024_S1x1024_3_0).toLoadRect (ix2 0 q) = z (ix2 3 q) := by
  have e : (Rect.unit (s := S16x1024) ![3, 0] ![1, 1024] inb_S16x1024_S1x1024_3_0).toLoadRect.idx (ix2 0 q) = ix2 3 q := funext fun a => Fin.ext (by
    fin_cases a
    · rfl
    · exact (Nat.zero_add _).trans (Nat.one_mul _))
  show v.read (Elt Ideal) (v.writes (Elt Ideal) v.junk _) _ = _
  rw [e]
  refine (View.read_writes_cons_rows_of_not_mem (o := 9) (W := 1) v _ _ _ _ _ rfl rfl (by first | exact Or.inl (show 3 < 9 by omega) | exact Or.inr (show 9 + 1 ≤ 3 by omega))).trans ?_
  refine (View.read_writes_cons_rows_of_not_mem (o := 5) (W := 1) v _ _ _ _ _ rfl rfl (by first | exact Or.inl (show 3 < 5 by omega) | exact Or.inr (show 5 + 1 ≤ 3 by omega))).trans ?_
  exact View.read_writes_cons_rows_of_mem (o := 0) v _ _ _ _ _ (ix2 3 q) rfl (Nat.zero_add _).symm rfl

theorem zero_4 {sig : RefSig} {κ : Kind} {sp : Space} (v : View sig κ sp S16x1024 .f32) (w3 w9 w5 : Vec Ideal S1x1024 .f32) (z : Vec Ideal S16x1024 .f32) (q : Fin 1024) :
    v.readCov ((⟨Rect.unit (s := S16x1024) ![3, 0] ![1, 1024] inb_S16x1024_S1x1024_3_0, w3⟩ : View.Piece (Elt Ideal) S16x1024 .f32) :: (⟨Rect.unit (s := S16x1024) ![9, 0] ![1, 1024] inb_S16x1024_S1x1024_9_0, w9⟩ : View.Piece (Elt Ideal) S16x1024 .f32) :: (⟨Rect.unit (s := S16x1024) ![5, 0] ![1, 1024] inb_S16x1024_S1x1024_5_0, w5⟩ : View.Piece (Elt Ideal) S16x1024 .f32) :: [(⟨Rect.unit (s := S16x1024) ![0, 0] ![16, 1024] inb_S16x1024_S16x1024_0_0, z⟩ : View.Piece (Elt Ideal) S16x1024 .f32)]) (Rect.unit (s := S16x1024) ![4, 0] ![1, 1024] inb_S16x1024_S1x1024_4_0).toLoadRect (ix2 0 q) = z (ix2 4 q) := by
  have e : (Rect.unit (s := S16x1024) ![4, 0] ![1, 1024] inb_S16x1024_S1x1024_4_0).toLoadRect.idx (ix2 0 q) = ix2 4 q := funext fun a => Fin.ext (by
    fin_cases a
    · rfl
    · exact (Nat.zero_add _).trans (Nat.one_mul _))
  show v.read (Elt Ideal) (v.writes (Elt Ideal) v.junk _) _ = _
  rw [e]
  refine (View.read_writes_cons_rows_of_not_mem (o := 3) (W := 1) v _ _ _ _ _ rfl rfl (by first | exact Or.inl (show 4 < 3 by omega) | exact Or.inr (show 3 + 1 ≤ 4 by omega))).trans ?_
  refine (View.read_writes_cons_rows_of_not_mem (o := 9) (W := 1) v _ _ _ _ _ rfl rfl (by first | exact Or.inl (show 4 < 9 by omega) | exact Or.inr (show 9 + 1 ≤ 4 by omega))).trans ?_
  refine (View.read_writes_cons_rows_of_not_mem (o := 5) (W := 1) v _ _ _ _ _ rfl rfl (by first | exact Or.inl (show 4 < 5 by omega) | exact Or.inr (show 5 + 1 ≤ 4 by omega))).trans ?_
  exact View.read_writes_cons_rows_of_mem (o := 0) v _ _ _ _ _ (ix2 4 q) rfl (Nat.zero_add _).symm rfl

theorem zero_5 {sig : RefSig} {κ : Kind} {sp : Space} (v : View sig κ sp S16x1024 .f32) (z : Vec Ideal S16x1024 .f32) (q : Fin 1024) :
    v.readCov ([(⟨Rect.unit (s := S16x1024) ![0, 0] ![16, 1024] inb_S16x1024_S16x1024_0_0, z⟩ : View.Piece (Elt Ideal) S16x1024 .f32)]) (Rect.unit (s := S16x1024) ![5, 0] ![1, 1024] inb_S16x1024_S1x1024_5_0).toLoadRect (ix2 0 q) = z (ix2 5 q) := by
  have e : (Rect.unit (s := S16x1024) ![5, 0] ![1, 1024] inb_S16x1024_S1x1024_5_0).toLoadRect.idx (ix2 0 q) = ix2 5 q := funext fun a => Fin.ext (by
    fin_cases a
    · rfl
    · exact (Nat.zero_add _).trans (Nat.one_mul _))
  show v.read (Elt Ideal) (v.writes (Elt Ideal) v.junk _) _ = _
  rw [e]
  exact View.read_writes_cons_rows_of_mem (o := 0) v _ _ _ _ _ (ix2 5 q) rfl (Nat.zero_add _).symm rfl

theorem zero_8 {sig : RefSig} {κ : Kind} {sp : Space} (v : View sig κ sp S16x1024 .f32) (w4 w3 w9 w5 : Vec Ideal S1x1024 .f32) (z : Vec Ideal S16x1024 .f32) (q : Fin 1024) :
    v.readCov ((⟨Rect.unit (s := S16x1024) ![4, 0] ![1, 1024] inb_S16x1024_S1x1024_4_0, w4⟩ : View.Piece (Elt Ideal) S16x1024 .f32) :: (⟨Rect.unit (s := S16x1024) ![3, 0] ![1, 1024] inb_S16x1024_S1x1024_3_0, w3⟩ : View.Piece (Elt Ideal) S16x1024 .f32) :: (⟨Rect.unit (s := S16x1024) ![9, 0] ![1, 1024] inb_S16x1024_S1x1024_9_0, w9⟩ : View.Piece (Elt Ideal) S16x1024 .f32) :: (⟨Rect.unit (s := S16x1024) ![5, 0] ![1, 1024] inb_S16x1024_S1x1024_5_0, w5⟩ : View.Piece (Elt Ideal) S16x1024 .f32) :: [(⟨Rect.unit (s := S16x1024) ![0, 0] ![16, 1024] inb_S16x1024_S16x1024_0_0, z⟩ : View.Piece (Elt Ideal) S16x1024 .f32)]) (Rect.unit (s := S16x1024) ![8, 0] ![1, 1024] inb_S16x1024_S1x1024_8_0).toLoadRect (ix2 0 q) = z (ix2 8 q) := by
  have e : (Rect.unit (s := S16x1024) ![8, 0] ![1, 1024] inb_S16x1024_S1x1024_8_0).toLoadRect.idx (ix2 0 q) = ix2 8 q := funext fun a => Fin.ext (by
    fin_cases a
    · rfl
    · exact (Nat.zero_add _).trans (Nat.one_mul _))
  show v.read (Elt Ideal) (v.writes (Elt Ideal) v.junk _) _ = _
  rw [e]
  refine (View.read_writes_cons_rows_of_not_mem (o := 4) (W := 1) v _ _ _ _ _ rfl rfl (by first | exact Or.inl (show 8 < 4 by omega) | exact Or.inr (show 4 + 1 ≤ 8 by omega))).trans ?_
  refine (View.read_writes_cons_rows_of_not_mem (o := 3) (W := 1) v _ _ _ _ _ rfl rfl (by first | exact Or.inl (show 8 < 3 by omega) | exact Or.inr (show 3 + 1 ≤ 8 by omega))).trans ?_
  refine (View.read_writes_cons_rows_of_not_mem (o := 9) (W := 1) v _ _ _ _ _ rfl rfl (by first | exact Or.inl (show 8 < 9 by omega) | exact Or.inr (show 9 + 1 ≤ 8 by omega))).trans ?_
  refine (View.read_writes_cons_rows_of_not_mem (o := 5) (W := 1) v _ _ _ _ _ rfl rfl (by first | exact Or.inl (show 8 < 5 by omega) | exact Or.inr (show 5 + 1 ≤ 8 by omega))).trans ?_
  exact View.read_writes_cons_rows_of_mem (o := 0) v _ _ _ _ _ (ix2 8 q) rfl (Nat.zero_add _).symm rfl

theorem zero_9 {sig : RefSig} {κ : Kind} {sp : Space} (v : View sig κ sp S16x1024 .f32) (w5 : Vec Ideal S1x1024 .f32) (z : Vec Ideal S16x1024 .f32) (q : Fin 1024) :
    v.readCov ((⟨Rect.unit (s := S16x1024) ![5, 0] ![1, 1024] inb_S16x1024_S1x1024_5_0, w5⟩ : View.Piece (Elt Ideal) S16x1024 .f32) :: [(⟨Rect.unit (s := S16x1024) ![0, 0] ![16, 1024] inb_S16x1024_S16x1024_0_0, z⟩ : View.Piece (Elt Ideal) S16x1024 .f32)]) (Rect.unit (s := S16x1024) ![9, 0] ![1, 1024] inb_S16x1024_S1x1024_9_0).toLoadRect (ix2 0 q) = z (ix2 9 q) := by
  have e : (Rect.unit (s := S16x1024) ![9, 0] ![1, 1024] inb_S16x1024_S1x1024_9_0).toLoadRect.idx (ix2 0 q) = ix2 9 q := funext fun a => Fin.ext (by
    fin_cases a
    · rfl
    · exact (Nat.zero_add _).trans (Nat.one_mul _))
  show v.read (Elt Ideal) (v.writes (Elt Ideal) v.junk _) _ = _
  rw [e]
  refine (View.read_writes_cons_rows_of_not_mem (o := 5) (W := 1) v _ _ _ _ _ rfl rfl (by first | exact Or.inl (show 9 < 5 by omega) | exact Or.inr (show 5 + 1 ≤ 9 by omega))).trans ?_
  exact View.read_writes_cons_rows_of_mem (o := 0) v _ _ _ _ _ (ix2 9 q) rfl (Nat.zero_add _).symm rfl

section point
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x4096 .bf16) (harg3 : arg3.IsWhole) (arg4 : Memref sig .tc .vmem S256x1024 .f32) (harg4 : arg4.IsWhole) (arg5 : Memref sig .tc .vmem S1x16x1024 .f32) (harg5 : arg5.IsWhole) (arg8 : Memref sig .tc .vmem S256x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S16x1024 .f32) (harg12 : arg12.IsWhole) (arg13 : Memref sig .tc .vmem S4096x1024 .bf16) (harg13 : arg13.IsWhole) (arg14 : Memref sig .tc .vmem S4096x1024 .bf16) (harg14 : arg14.IsWhole)
  (x0 x1 : Vec Ideal S256x1024 .f32) (x2 : Vec Ideal S256x4096 .bf16) (x3 : Vec Ideal S256x1024 .f32) (x4 : Vec Ideal S1x16x1024 .f32) (xo9 : Vec Ideal S16x1024 .f32) (xs0 xs1 : Vec Ideal S4096x1024 .bf16) (fh0 : HbBuf0 (F := Ideal) c hbM0_0) (fh1 : HbBuf0 (F := Ideal) c hbM0_1)

/-- A row of the packed vectors. -/
abbrev vrow3 : Vec Ideal S1x1x1024 .f32 := View.ld x4 (Rect.unit ![0, 3, 0] ![1, 1, 1024] inb_S1x16x1024_S1x1x1024_0_3_0)
abbrev vrow4 : Vec Ideal S1x1x1024 .f32 := View.ld x4 (Rect.unit ![0, 4, 0] ![1, 1, 1024] inb_S1x16x1024_S1x1x1024_0_4_0)
abbrev vrow5 : Vec Ideal S1x1x1024 .f32 := View.ld x4 (Rect.unit ![0, 5, 0] ![1, 1, 1024] inb_S1x16x1024_S1x1x1024_0_5_0)
abbrev vrow8 : Vec Ideal S1x1x1024 .f32 := View.ld x4 (Rect.unit ![0, 8, 0] ![1, 1, 1024] inb_S1x16x1024_S1x1x1024_0_8_0)
abbrev vrow9 : Vec Ideal S1x1x1024 .f32 := View.ld x4 (Rect.unit ![0, 9, 0] ![1, 1, 1024] inb_S1x16x1024_S1x1x1024_0_9_0)

/-- The tile's products: what it writes of the hidden row, the output's and the activations' gradients, the hidden row's gradient and the residual's. -/
abbrev tileH : FVec Ideal S256x1024 .bf16 := k0_pay12 (vrow8 x4) (vrow4 x4) x1 (vrow3 x4)
abbrev tileDf : FVec Ideal S256x1024 .bf16 := k0_pay22 (k0_pay15 x3) (k0_pay16 x3) (k0_pay19 (k0_pay7 (vrow9 x4)) x0 (vrow5 x4)) (k0_pay20 (k0_pay7 (vrow9 x4)) x3 x0 (vrow5 x4))
abbrev tileDa : FVec Ideal S256x4096 .bf16 := k0_pay23 (k0_pay13 x2) (k0_pay15 x3) (k0_pay16 x3) (k0_pay19 (k0_pay7 (vrow9 x4)) x0 (vrow5 x4)) (k0_pay20 (k0_pay7 (vrow9 x4)) x3 x0 (vrow5 x4)) xs1
abbrev tileDh : FVec Ideal S256x1024 .f32 := k0_pay24 (k0_pay13 x2) (k0_pay15 x3) (k0_pay16 x3) (k0_pay19 (k0_pay7 (vrow9 x4)) x0 (vrow5 x4)) (k0_pay20 (k0_pay7 (vrow9 x4)) x3 x0 (vrow5 x4)) xs1 xs0
abbrev tileDx : FVec Ideal S256x1024 .f32 := k0_pay4 (k0_pay6 (vrow8 x4)) (k0_pay8 (vrow4 x4)) (k0_pay9 x1) (k0_pay10 x1) x0 (tileDh x0 x2 x3 x4 xs0 xs1)

abbrev tileDhn : FVec Ideal S256x1024 .f32 := k0_pay27 (k0_pay11 (vrow8 x4) x1) (k0_pay13 x2) (k0_pay15 x3) (k0_pay16 x3) (k0_pay19 (k0_pay7 (vrow9 x4)) x0 (vrow5 x4)) (k0_pay20 (k0_pay7 (vrow9 x4)) x3 x0 (vrow5 x4)) xs1 xs0

/-- A tile's column sums, by the row of vector gradients they are added to. -/
abbrev col3 (q : Fin 1024) : EReal := ∑ p, tileDh x0 x2 x3 x4 xs0 xs1 (ix2 p q)
abbrev col4 (q : Fin 1024) : EReal := ∑ p, tileDhn x0 x1 x2 x3 x4 xs0 xs1 (ix2 p q)
abbrev col5 (q : Fin 1024) : EReal := ∑ p, x0 (ix2 p q) * (k0_pay16 x3 (ix2 p q) * k0_pay7 (vrow9 x4) (ix2 0 q))
abbrev col8 (q : Fin 1024) : EReal := ∑ p, k0_pay2 (k0_pay8 (vrow4 x4)) (tileDh x0 x2 x3 x4 xs0 xs1) (ix2 p q) * k0_pay10 x1 (ix2 p q)
abbrev col9 (q : Fin 1024) : EReal := ∑ p, k0_pay18 x0 (vrow5 x4) (ix2 p q) * k0_pay16 x3 (ix2 p q)

theorem A_5 (hc0 : cond0_0 i) (hc1 : cond0_1 i) : out0_A_5 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = tileDx x0 x1 x2 x3 x4 fh0 fh1 := by
  unfold out0_A_5
  rw [View.read_writes_eq_canon _ _ _ (cover0_A_5 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  simp only [readCov_whole]
  rfl

theorem A_6 (hc0 : cond0_0 i) (hc1 : cond0_1 i) : out0_A_6 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = tileH x1 x4 := by
  unfold out0_A_6
  rw [View.read_writes_eq_canon _ _ _ (cover0_A_6 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem A_7 (hc0 : cond0_0 i) (hc1 : cond0_1 i) : out0_A_7 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = tileDa x0 x2 x3 x4 fh1 := by
  unfold out0_A_7
  rw [View.read_writes_eq_canon _ _ _ (cover0_A_7 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [View.canon_unit_zero (S := S256x4096) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  simp only [readCov_whole]
  rfl

theorem A_8 (hc0 : cond0_0 i) (hc1 : cond0_1 i) : out0_A_8 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = tileDf x0 x3 x4 := by
  unfold out0_A_8
  rw [View.read_writes_eq_canon _ _ _ (cover0_A_8 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem B_5 (hc0 : ¬cond0_0 i) (hc1 : ¬cond0_1 i) : out0_B_5 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 = tileDx x0 x1 x2 x3 x4 xs0 xs1 := by
  unfold out0_B_5
  rw [View.read_writes_eq_canon _ _ _ (cover0_B_5 c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1)]
  unfold kernelRun0_B
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem B_6 (hc0 : ¬cond0_0 i) (hc1 : ¬cond0_1 i) : out0_B_6 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 = tileH x1 x4 := by
  unfold out0_B_6
  rw [View.read_writes_eq_canon _ _ _ (cover0_B_6 c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1)]
  unfold kernelRun0_B
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem B_7 (hc0 : ¬cond0_0 i) (hc1 : ¬cond0_1 i) : out0_B_7 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 = tileDa x0 x2 x3 x4 xs1 := by
  unfold out0_B_7
  rw [View.read_writes_eq_canon _ _ _ (cover0_B_7 c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1)]
  unfold kernelRun0_B
  dsimp only
  sl_unfold_words
  rw [View.canon_unit_zero (S := S256x4096) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem B_8 (hc0 : ¬cond0_0 i) (hc1 : ¬cond0_1 i) : out0_B_8 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 = tileDf x0 x3 x4 := by
  unfold out0_B_8
  rw [View.read_writes_eq_canon _ _ _ (cover0_B_8 c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1)]
  unfold kernelRun0_B
  dsimp only
  sl_unfold_words
  rw [View.canon_unit_zero (S := S256x1024) hz]
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]

theorem sA_0 (hc0 : cond0_0 i) (hc1 : cond0_1 i) : sout0_A_0 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = (fh0 : Vec Ideal S4096x1024 .bf16) := by
  unfold sout0_A_0
  rw [View.read_writes_eq_canon _ _ _ (scover0_A_0 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [canon_whole]
  rfl

theorem sA_1 (hc0 : cond0_0 i) (hc1 : cond0_1 i) : sout0_A_1 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 = (fh1 : Vec Ideal S4096x1024 .bf16) := by
  unfold sout0_A_1
  rw [View.read_writes_eq_canon _ _ _ (scover0_A_1 c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1)]
  unfold kernelRun0_A
  dsimp only
  sl_unfold_words
  rw [canon_whole]
  rfl

theorem B9_3 (hc0 : ¬cond0_0 i) (hc1 : ¬cond0_1 i) (q : Fin 1024) : out0_B_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 (ix2 3 q) = xo9 (ix2 3 q) + col3 x0 x2 x3 x4 xs0 xs1 q := by
  unfold out0_B_9
  unfold kernelRun0_B
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_3 _ _ _ _ _ _ q).trans ?_
  refine (pay25_at _ _ _ _ _ _ _ _ q).trans ?_
  rw [harg12.read_unread]
  exact congrArg (· + _) (ld_row xo9 3 _ q)

theorem A9_3 (hc0 : cond0_0 i) (hc1 : cond0_1 i) (q : Fin 1024) : out0_A_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 (ix2 3 q) = 0 + col3 x0 x2 x3 x4 fh0 fh1 q := by
  unfold out0_A_9
  unfold kernelRun0_A
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_3 _ _ _ _ _ _ q).trans ?_
  simp only [readCov_whole]
  refine (pay25_at _ _ _ _ _ _ _ _ q).trans ?_
  refine congrArg (· + _) ((zero_3 _ _ _ _ q).trans ?_)
  pointwise [k0_pay5]

theorem B9_4 (hc0 : ¬cond0_0 i) (hc1 : ¬cond0_1 i) (q : Fin 1024) : out0_B_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 (ix2 4 q) = xo9 (ix2 4 q) + col4 x0 x1 x2 x3 x4 xs0 xs1 q := by
  unfold out0_B_9
  unfold kernelRun0_B
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_4 _ _ _ _ _ q).trans ?_
  refine (pay1_at _ _ q).trans ?_
  rw [harg12.read_unread]
  exact congrArg (· + _) (ld_row xo9 4 _ q)

theorem A9_4 (hc0 : cond0_0 i) (hc1 : cond0_1 i) (q : Fin 1024) : out0_A_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 (ix2 4 q) = 0 + col4 x0 x1 x2 x3 x4 fh0 fh1 q := by
  unfold out0_A_9
  unfold kernelRun0_A
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_4 _ _ _ _ _ q).trans ?_
  simp only [readCov_whole]
  refine (pay1_at _ _ q).trans ?_
  refine congrArg (· + _) ((zero_4 _ _ _ _ _ q).trans ?_)
  pointwise [k0_pay5]

theorem B9_5 (hc0 : ¬cond0_0 i) (hc1 : ¬cond0_1 i) (q : Fin 1024) : out0_B_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 (ix2 5 q) = xo9 (ix2 5 q) + col5 x0 x3 x4 q := by
  unfold out0_B_9
  unfold kernelRun0_B
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_5 _ _ _ _ _ _ _ _ q).trans ?_
  refine (pay17_at _ _ _ _ q).trans ?_
  rw [harg12.read_unread]
  exact congrArg (· + _) (ld_row xo9 5 _ q)

theorem A9_5 (hc0 : cond0_0 i) (hc1 : cond0_1 i) (q : Fin 1024) : out0_A_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 (ix2 5 q) = 0 + col5 x0 x3 x4 q := by
  unfold out0_A_9
  unfold kernelRun0_A
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_5 _ _ _ _ _ _ _ _ q).trans ?_
  refine (pay17_at _ _ _ _ q).trans ?_
  refine congrArg (· + _) ((zero_5 _ _ q).trans ?_)
  pointwise [k0_pay5]

theorem B9_8 (hc0 : ¬cond0_0 i) (hc1 : ¬cond0_1 i) (q : Fin 1024) : out0_B_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 (ix2 8 q) = xo9 (ix2 8 q) + col8 x0 x1 x2 x3 x4 xs0 xs1 q := by
  unfold out0_B_9
  unfold kernelRun0_B
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_8 _ _ _ _ q).trans ?_
  refine (pay3_at _ _ _ _ q).trans ?_
  rw [harg12.read_unread]
  exact congrArg (· + _) (ld_row xo9 8 _ q)

theorem A9_8 (hc0 : cond0_0 i) (hc1 : cond0_1 i) (q : Fin 1024) : out0_A_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 (ix2 8 q) = 0 + col8 x0 x1 x2 x3 x4 fh0 fh1 q := by
  unfold out0_A_9
  unfold kernelRun0_A
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_8 _ _ _ _ q).trans ?_
  simp only [readCov_whole]
  refine (pay3_at _ _ _ _ q).trans ?_
  refine congrArg (· + _) ((zero_8 _ _ _ _ _ _ q).trans ?_)
  pointwise [k0_pay5]

theorem B9_9 (hc0 : ¬cond0_0 i) (hc1 : ¬cond0_1 i) (q : Fin 1024) : out0_B_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 xo9 xs0 xs1 fh0 fh1 (ix2 9 q) = xo9 (ix2 9 q) + col9 x0 x3 x4 q := by
  unfold out0_B_9
  unfold kernelRun0_B
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_9 _ _ _ _ _ _ _ q).trans ?_
  refine (pay21_at _ _ _ q).trans ?_
  rw [harg12.read_unread]
  exact congrArg (· + _) (ld_row xo9 9 _ q)

theorem A9_9 (hc0 : cond0_0 i) (hc1 : cond0_1 i) (q : Fin 1024) : out0_A_9 (F := Ideal) c i arg1 harg1 arg2 harg2 arg3 harg3 arg4 harg4 arg5 harg5 arg8 harg8 arg9 harg9 arg10 harg10 arg11 harg11 arg12 harg12 arg13 harg13 arg14 harg14 hc0 hc1 x0 x1 x2 x3 x4 fh0 fh1 (ix2 9 q) = 0 + col9 x0 x3 x4 q := by
  unfold out0_A_9
  unfold kernelRun0_A
  dsimp only
  sl_unfold_words
  simp only [View.readAt_eq_ld, harg1.read_unread, harg2.read_unread, harg3.read_unread, harg4.read_unread, harg5.read_unread, harg13.read_unread, harg14.read_unread, View.ld_unit_zero (S := S256x1024) hz, View.ld_unit_zero (S := S256x4096) hz, View.ld_unit_zero (S := S4096x1024) hz]
  refine (rows_9 _ _ _ _ _ _ _ q).trans ?_
  refine (pay21_at _ _ _ q).trans ?_
  refine congrArg (· + _) ((zero_9 _ _ _ q).trans ?_)
  pointwise [k0_pay5]

end point

end Cert.MlpBwd
end
-- ==== Proof.MlpBwdEntry.lean ====
module

public import proofs.«01_k».proof.Proof.MlpBwdPoint
public import Idealize.ShloMosaic.Lib.Pipeline.ValueKit
public import Idealize.ShloMosaic.Lib.WritesUnit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward call: the entries of a tile -/

namespace Cert.MlpBwd
open Cert.Kernel7Ideal Cert.Kernel7Ideal.Gen

section entries
variable (x0 x1 : Vec Ideal S256x1024 .f32) (x2 : Vec Ideal S256x4096 .bf16) (x3 : Vec Ideal S256x1024 .f32) (x4 : Vec Ideal S1x16x1024 .f32) (xs0 xs1 : Vec Ideal S4096x1024 .bf16)

theorem row_at (j : Fin 1024) :
    vrow3 x4 (ix3 0 0 j) = x4 (ix3 0 3 j) ∧ vrow4 x4 (ix3 0 0 j) = x4 (ix3 0 4 j) ∧ vrow5 x4 (ix3 0 0 j) = x4 (ix3 0 5 j)
      ∧ vrow8 x4 (ix3 0 0 j) = x4 (ix3 0 8 j) ∧ vrow9 x4 (ix3 0 0 j) = x4 (ix3 0 9 j) := by
  refine ⟨?_, ?_, ?_, ?_, ?_⟩ <;>
  · refine congrArg x4 (funext fun a => Fin.ext ?_)
    fin_cases a
    · rfl
    · rfl
    · exact (Nat.zero_add _).trans (Nat.one_mul _)

theorem h_at (v6 v10 v29 : Vec Ideal S1x1x1024 .f32) (p : Fin 256) (q : Fin 1024) : k0_pay12 v6 v10 x1 v29 (ix2 p q) =
    Mlp.hid (fun k => x1 (ix2 p k)) (fun k => v29 (ix3 0 0 k)) (fun k => v10 (ix3 0 0 k)) (fun k => v6 (ix3 0 0 k)) q := by
  pointwise [k0_pay12, k0_pay11, k0_pay10, k0_pay9, k0_pay8, k0_pay6]
  rfl

theorem norm_at (p : Fin 256) (q : Fin 1024) : k0_pay10 x1 (ix2 p q) = x1 (ix2 p q) * Mlp.rs (fun k => x1 (ix2 p k)) := by
  pointwise [k0_pay10, k0_pay9]
  rfl

theorem fnorm_at (p : Fin 256) (q : Fin 1024) : k0_pay16 x3 (ix2 p q) = x3 (ix2 p q) * Mlp.rs (fun k => x3 (ix2 p k)) := by
  pointwise [k0_pay16, k0_pay15, k0_pay14]
  rfl

theorem n_at (v6 : Vec Ideal S1x1x1024 .f32) (p : Fin 256) (q : Fin 1024) : k0_pay11 v6 x1 (ix2 p q) = x1 (ix2 p q) * Mlp.rs (fun k => x1 (ix2 p k)) * v6 (ix3 0 0 q) := by
  pointwise [k0_pay11, k0_pay10, k0_pay9, k0_pay6]
  rfl

theorem gate_at (v61 : Vec Ideal S1x1x1024 .f32) (p : Fin 256) (q : Fin 1024) : k0_pay18 x0 v61 (ix2 p q) = x0 (ix2 p q) * v61 (ix3 0 0 q) := by
  pointwise [k0_pay18]

theorem post_at (v8 : Vec Ideal S1x1x1024 .f32) (q : Fin 1024) : k0_pay7 v8 (ix2 0 q) = v8 (ix3 0 0 q) := by
  pointwise [k0_pay7]

theorem tf_at (v8 v61 : Vec Ideal S1x1x1024 .f32) (p : Fin 256) (q : Fin 1024) : k0_pay19 (k0_pay7 v8) x0 v61 (ix2 p q) =
    Mlp.tf (fun k => x0 (ix2 p k)) (fun k => v61 (ix3 0 0 k)) (fun k => v8 (ix3 0 0 k)) q := by
  pointwise [k0_pay19, k0_pay18, k0_pay7]
  rfl

theorem df_at (v8 v61 : Vec Ideal S1x1x1024 .f32) (p : Fin 256) (q : Fin 1024) :
    k0_pay22 (k0_pay15 x3) (k0_pay16 x3) (k0_pay19 (k0_pay7 v8) x0 v61) (k0_pay20 (k0_pay7 v8) x3 x0 v61) (ix2 p q) =
      Mlp.dn (fun k => x3 (ix2 p k)) (fun k => k0_pay19 (k0_pay7 v8) x0 v61 (ix2 p k)) q := by
  unfold k0_pay20
  generalize k0_pay19 (k0_pay7 v8) x0 v61 = t
  pointwise [k0_pay22, k0_pay16, k0_pay15, k0_pay14]
  rfl

theorem da_at (v48 : FVec Ideal S256x1 .f32) (v50 v66 : FVec Ideal S256x1024 .f32) (v71 : FVec Ideal S256x1 .f32) (p : Fin 256) (q : Fin 4096) :
    k0_pay23 (k0_pay13 x2) v48 v50 v66 v71 xs1 (ix2 p q) =
      Mlp.da (fun k => k0_pay22 v48 v50 v66 v71 (ix2 p k)) (fun i k => xs1 (ix2 i k)) (fun i => x2 (ix2 p i)) q := by
  unfold k0_pay23
  generalize k0_pay22 v48 v50 v66 v71 = d
  pointwise [k0_pay13]
  rfl

theorem dh_at (v38 : FVec Ideal S256x4096 .f32) (v48 : FVec Ideal S256x1 .f32) (v50 v66 : FVec Ideal S256x1024 .f32) (v71 : FVec Ideal S256x1 .f32) (p : Fin 256) (q : Fin 1024) :
    k0_pay24 v38 v48 v50 v66 v71 xs1 xs0 (ix2 p q) =
      Mlp.dh (fun i => k0_pay23 v38 v48 v50 v66 v71 xs1 (ix2 p i)) (fun j i => xs0 (ix2 i j)) q := by
  unfold k0_pay24
  generalize k0_pay23 v38 v48 v50 v66 v71 xs1 = d
  pointwise []
  rfl

theorem dhn_at (v24 : FVec Ideal S256x1024 .f32) (v38 : FVec Ideal S256x4096 .f32) (v48 : FVec Ideal S256x1 .f32) (v50 v66 : FVec Ideal S256x1024 .f32) (v71 : FVec Ideal S256x1 .f32) (p : Fin 256) (q : Fin 1024) :
    k0_pay27 v24 v38 v48 v50 v66 v71 xs1 xs0 (ix2 p q) = k0_pay24 v38 v48 v50 v66 v71 xs1 xs0 (ix2 p q) * v24 (ix2 p q) := by
  unfold k0_pay27
  generalize k0_pay24 v38 v48 v50 v66 v71 xs1 xs0 = d
  pointwise []

theorem dhs_at (v10 : Vec Ideal S1x1x1024 .f32) (d : FVec Ideal S256x1024 .f32) (p : Fin 256) (q : Fin 1024) :
    k0_pay2 (k0_pay8 v10) d (ix2 p q) = d (ix2 p q) * (1 + v10 (ix3 0 0 q)) := by
  pointwise [k0_pay2, k0_pay8]

theorem dx_at (v6 v10 : Vec Ideal S1x1x1024 .f32) (d : FVec Ideal S256x1024 .f32) (p : Fin 256) (q : Fin 1024) :
    k0_pay4 (k0_pay6 v6) (k0_pay8 v10) (k0_pay9 x1) (k0_pay10 x1) x0 d (ix2 p q) =
      Mlp.dx (fun k => x0 (ix2 p k)) (fun k => x1 (ix2 p k)) (fun k => d (ix2 p k)) (fun k => v10 (ix3 0 0 k)) (fun k => v6 (ix3 0 0 k)) q := by
  pointwise [k0_pay4, k0_pay2, k0_pay6, k0_pay8, k0_pay10, k0_pay9]
  rfl

end entries

end Cert.MlpBwd
end
-- ==== Proof.MlpBwdHost.lean ====
module

public import proofs.«01_k».proof.Proof.MlpBwdEntry
public import Idealize.ShloMosaic.Lib.Pipeline.ValueKit
public import Idealize.ShloMosaic.Lib.WritesUnit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward call: what the host code before it prepares -/

namespace Cert.MlpBwd
open Cert.Kernel7Ideal Cert.Kernel7Ideal.Gen

variable (m : (ℓ : Loc nD τ sig) → Buf (Elt Ideal) ℓ) (c : Dev nD)

/-- The arguments: the tokens' rows, the gradient, their modulation, the gains and the weights. -/
def X (p : Fin 4096) (k : Fin 1024) : EReal := (show FVec Ideal S4096x1024 .f32 from m ((c : Thread nD τ).loc main_arg0)) (ix2 p k)
def D (p : Fin 4096) (k : Fin 1024) : EReal := (show FVec Ideal S4096x1024 .f32 from m ((c : Thread nD τ).loc main_arg1)) (ix2 p k)
def SH (j : Fin 1024) : EReal := (show FVec Ideal S4x6144 .f32 from m ((c : Thread nD τ).loc main_arg2)) (ix2 0 ⟨3072 + j.val, by omega⟩)
def SC (j : Fin 1024) : EReal := (show FVec Ideal S4x6144 .f32 from m ((c : Thread nD τ).loc main_arg2)) (ix2 0 ⟨4096 + j.val, by omega⟩)
def GT (j : Fin 1024) : EReal := (show FVec Ideal S4x6144 .f32 from m ((c : Thread nD τ).loc main_arg2)) (ix2 0 ⟨5120 + j.val, by omega⟩)
def G (j : Fin 1024) : EReal := (show FVec Ideal S4x1024 .f32 from m ((c : Thread nD τ).loc main_arg5)) (ix2 0 j)
def PO (j : Fin 1024) : EReal := (show FVec Ideal S4x1024 .f32 from m ((c : Thread nD τ).loc main_arg6)) (ix2 0 j)
def WI (k : Fin 1024) (i : Fin 4096) : EReal := (show FVec Ideal S1024x4096 .f32 from m ((c : Thread nD τ).loc main_arg7)) (ix2 k i)
def WO (i : Fin 4096) (j : Fin 1024) : EReal := (show FVec Ideal S4096x1024 .f32 from m ((c : Thread nD τ).loc main_arg8)) (ix2 i j)

/-- The rows of the forward: the hidden row, its activations, their product. -/
def hrow (p : Fin 4096) : Fin 1024 → EReal := Mlp.hid (X m c p) (SH m c) (SC m c) (G m c)
def rrow (p : Fin 4096) : Fin 4096 → EReal := Mlp.sq (Mlp.act (hrow m c p) (WI m c))
def frow (p : Fin 4096) : Fin 1024 → EReal := Mlp.outp (rrow m c p) (WO m c)

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => exact ih _

theorem V0_eq : V0 m c = StableHlo.after hostOps0_2 (StableHlo.after hostOps0_1 (StableHlo.after hostOps0 (launchContents m c))) := by
  show StableHlo.after (hostOps0 ++ (hostOps0_1 ++ (hostOps0_2 ++ []))) (launchContents m c) = _
  rw [after_app, after_app, List.append_nil]

/-- The lines after the hidden layer's product leave the arrays the call reads as they are. -/
theorem keep6 (W : Valuation τ sig (Elt Ideal)) : StableHlo.after hostOps0_2 (StableHlo.after hostOps0_1 W) main_v6 = W main_v6 := by
  after_results
theorem keep8 (W : Valuation τ sig (Elt Ideal)) : StableHlo.after hostOps0_2 (StableHlo.after hostOps0_1 W) main_v8 = W main_v8 := by
  after_results
theorem keep9 (W : Valuation τ sig (Elt Ideal)) : StableHlo.after hostOps0_2 (StableHlo.after hostOps0_1 W) main_v9 = W main_v9 := by
  after_results

theorem V8 (i : Fin 4096) (k : Fin 1024) : (V m c main_v8 : FVec Ideal S4096x1024 .bf16) (ix2 i k) = WI m c k i := by
  show (V0 m c main_v8 : FVec Ideal S4096x1024 .bf16) _ = _
  rw [V0_eq, keep8]
  after_results
  rw [launchContents_devRef]
  pointwise []
  rfl

theorem V9 (i : Fin 4096) (k : Fin 1024) : (V m c main_v9 : FVec Ideal S4096x1024 .bf16) (ix2 i k) = WO m c i k := by
  show (V0 m c main_v9 : FVec Ideal S4096x1024 .bf16) _ = _
  rw [V0_eq, keep9]
  after_results
  rw [launchContents_devRef]
  rfl

theorem V6_3 (j : Fin 1024) : (V m c main_v6 : FVec Ideal S4x16x1024 .f32) (ix3 0 3 j) = SH m c j := by
  show (V0 m c main_v6 : FVec Ideal S4x16x1024 .f32) _ = _
  rw [V0_eq, keep6]
  after_results_simp
  pointwise []
  after_results_simp
  pointwise []
  rfl

theorem V6_4 (j : Fin 1024) : (V m c main_v6 : FVec Ideal S4x16x1024 .f32) (ix3 0 4 j) = SC m c j := by
  show (V0 m c main_v6 : FVec Ideal S4x16x1024 .f32) _ = _
  rw [V0_eq, keep6]
  after_results_simp
  pointwise []
  after_results_simp
  pointwise []
  rfl

theorem V6_5 (j : Fin 1024) : (V m c main_v6 : FVec Ideal S4x16x1024 .f32) (ix3 0 5 j) = GT m c j := by
  show (V0 m c main_v6 : FVec Ideal S4x16x1024 .f32) _ = _
  rw [V0_eq, keep6]
  after_results_simp
  pointwise []
  after_results_simp
  pointwise []
  rfl

theorem V6_8 (j : Fin 1024) : (V m c main_v6 : FVec Ideal S4x16x1024 .f32) (ix3 0 8 j) = G m c j := by
  show (V0 m c main_v6 : FVec Ideal S4x16x1024 .f32) _ = _
  rw [V0_eq, keep6]
  after_results_simp
  pointwise []
  after_results_simp
  pointwise []
  rfl

theorem V6_9 (j : Fin 1024) : (V m c main_v6 : FVec Ideal S4x16x1024 .f32) (ix3 0 9 j) = PO m c j := by
  show (V0 m c main_v6 : FVec Ideal S4x16x1024 .f32) _ = _
  rw [V0_eq, keep6]
  after_results_simp
  pointwise []
  after_results_simp
  pointwise []
  rfl

/-- The hidden rows, as the host code leaves them. -/
theorem W40 (p : Fin 4096) (q : Fin 1024) : (StableHlo.after hostOps0 (launchContents m c) main_v40 : FVec Ideal S4096x1024 .f32) (ix2 p q) = hrow m c p q := by
  after_results_simp
  pointwise []
  rfl

/-- Their product with the first weights. -/
theorem W41 (p : Fin 4096) (q : Fin 4096) : (StableHlo.after hostOps0 (launchContents m c) main_v41 : FVec Ideal S4096x4096 .f32) (ix2 p q) = Mlp.act (hrow m c p) (WI m c) q := by
  have e : (StableHlo.after hostOps0 (launchContents m c) main_v41 : FVec Ideal S4096x4096 .f32) =
      Host.dotGeneral (F := Ideal) (φ₁ := .f32) (φ₂ := .f32) dot_S4096x1024_S1024x4096_S4096x4096_1_0_0_1_n_n none (StableHlo.after hostOps0 (launchContents m c) main_v40 : FVec Ideal S4096x1024 .f32) (launchContents m c main_arg7 : FVec Ideal S1024x4096 .f32) := by
    after_results_simp
  rw [e]
  have h := W40 m c
  generalize (StableHlo.after hostOps0 (launchContents m c) main_v40 : FVec Ideal S4096x1024 .f32) = a at h ⊢
  pointwise [h]
  rfl

theorem W42 (W : Valuation τ sig (Elt Ideal)) : (StableHlo.after hostOps0_1 W main_v42 : FVec Ideal S4096x4096 .f32) =
    maximumf (F := Ideal) (W main_v41 : FVec Ideal S4096x4096 .f32) (broadcastInDim S4096x4096 ![] bcast_S_S4096x4096 (constant (F := Ideal) S_ .f32 0x00000000#32)) := by
  after_results_simp
  rfl

theorem W43 (W : Valuation τ sig (Elt Ideal)) (p : Fin 4096) (q : Fin 4096) :
    (StableHlo.after hostOps0_2 (StableHlo.after hostOps0_1 W) main_v43 : FVec Ideal S4096x4096 .f32) (ix2 p q) = Mlp.sq (fun k => (W main_v41 : FVec Ideal S4096x4096 .f32) (ix2 p k)) q := by
  have e : (StableHlo.after hostOps0_2 (StableHlo.after hostOps0_1 W) main_v43 : FVec Ideal S4096x4096 .f32) =
      mulf (F := Ideal) (s := S4096x4096) (φ := .f32) (StableHlo.after hostOps0_1 W main_v42 : FVec Ideal S4096x4096 .f32) (StableHlo.after hostOps0_1 W main_v42 : FVec Ideal S4096x4096 .f32) := by
    generalize StableHlo.after hostOps0_1 W = W'
    after_results_simp
  rw [e, W42]
  pointwise []
  rfl

theorem W44 (W : Valuation τ sig (Elt Ideal)) (p : Fin 4096) (q : Fin 4096) :
    (StableHlo.after hostOps0_2 W main_v44 : FVec Ideal S4096x4096 .bf16) (ix2 p q) = (StableHlo.after hostOps0_2 W main_v43 : FVec Ideal S4096x4096 .f32) (ix2 p q) := by
  after_results_simp
  rfl

theorem W45 (W : Valuation τ sig (Elt Ideal)) (p : Fin 4096) (q : Fin 1024) :
    (StableHlo.after hostOps0_2 W main_v45 : FVec Ideal S4096x1024 .f32) (ix2 p q) =
      Mlp.outp (fun k => (StableHlo.after hostOps0_2 W main_v43 : FVec Ideal S4096x4096 .f32) (ix2 p k)) (fun i j => (W main_arg8 : FVec Ideal S4096x1024 .f32) (ix2 i j)) q := by
  have e : (StableHlo.after hostOps0_2 W main_v45 : FVec Ideal S4096x1024 .f32) =
      Host.dotGeneral (F := Ideal) (φ₁ := .f32) (φ₂ := .f32) dot_S4096x4096_S4096x1024_S4096x1024_1_0_0_1_n_n none (StableHlo.after hostOps0_2 W main_v43 : FVec Ideal S4096x4096 .f32) (W main_arg8 : FVec Ideal S4096x1024 .f32) := by
    after_results_simp
  rw [e]
  generalize (StableHlo.after hostOps0_2 W main_v43 : FVec Ideal S4096x4096 .f32) = a
  pointwise []
  rfl

theorem W8 : StableHlo.after hostOps0_1 (StableHlo.after hostOps0 (launchContents m c)) main_arg8 = m ((c : Thread nD τ).loc main_arg8) := by
  after_results_simp

/-- The activations the call reads. -/
theorem V44 (p : Fin 4096) : (fun i => (V m c main_v44 : FVec Ideal S4096x4096 .bf16) (ix2 p i)) = rrow m c p := by
  show (fun i => (V0 m c main_v44 : FVec Ideal S4096x4096 .bf16) (ix2 p i)) = _
  rw [V0_eq]
  funext i
  refine (W44 _ p i).trans ((W43 _ p i).trans ?_)
  exact congrFun (congrArg Mlp.sq (funext fun k => W41 m c p k)) i

/-- Their products. -/
theorem V45 (p : Fin 4096) : (fun i => (V m c main_v45 : FVec Ideal S4096x1024 .f32) (ix2 p i)) = frow m c p := by
  show (fun i => (V0 m c main_v45 : FVec Ideal S4096x1024 .f32) (ix2 p i)) = _
  rw [V0_eq]
  funext i
  refine (W45 _ p i).trans ?_
  rw [W8]
  refine congrFun (congrArg (fun r => Mlp.outp r (WO m c)) (funext fun k => (W43 _ p k).trans ?_)) i
  exact congrFun (congrArg Mlp.sq (funext fun k => W41 m c p k)) k

end Cert.MlpBwd
end
-- ==== Proof.MlpBwdRun.lean ====
module

public import proofs.«01_k».proof.Proof.MlpBwdHost
public import Idealize.ShloMosaic.Lib.Pipeline.ValueKit
public import Idealize.ShloMosaic.Lib.WritesUnit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward call: what it leaves -/

namespace Cert.MlpBwd
open Cert.Kernel7Ideal Cert.Kernel7Ideal.Gen

variable (m : (ℓ : Loc nD τ sig) → Buf (Elt Ideal) ℓ) (c : Dev nD)

/-- The rows of the backward: the gradients of the product, of the hidden layer, of the hidden row and of the tokens. -/
def dfrow (p : Fin 4096) : Fin 1024 → EReal := Mlp.dn (frow m c p) (Mlp.tf (D m c p) (GT m c) (PO m c))
def darow (p : Fin 4096) : Fin 4096 → EReal := Mlp.da (dfrow m c p) (WO m c) (rrow m c p)
def dhrow (p : Fin 4096) : Fin 1024 → EReal := Mlp.dh (darow m c p) (WI m c)
def dxrow (p : Fin 4096) : Fin 1024 → EReal := Mlp.dx (D m c p) (X m c p) (dhrow m c p) (SC m c) (G m c)
/-- What a token adds to the gradients of the modulation and of the gains. -/
def csh (q : Fin 1024) (p : Fin 4096) : EReal := dhrow m c p q
def csc (q : Fin 1024) (p : Fin 4096) : EReal := dhrow m c p q * (X m c p q * Mlp.rs (X m c p) * G m c q)
def cgt (q : Fin 1024) (p : Fin 4096) : EReal := D m c p q * (frow m c p q * Mlp.rs (frow m c p) * PO m c q)
def cpre (q : Fin 1024) (p : Fin 4096) : EReal := dhrow m c p q * (1 + SC m c q) * (X m c p q * Mlp.rs (X m c p))
def cpost (q : Fin 1024) (p : Fin 4096) : EReal := D m c p q * GT m c q * (frow m c p q * Mlp.rs (frow m c p))

/-- A tile of the results, from a tile of the rows. -/
theorem tile_at (x0 x1 : Vec Ideal S256x1024 .f32) (x2 : Vec Ideal S256x4096 .bf16) (x3 : Vec Ideal S256x1024 .f32) (x4 : Vec Ideal S1x16x1024 .f32) (w8 w9 : Vec Ideal S4096x1024 .bf16) (p : Fin 256) (P : Fin 4096)
    (hd : (fun k => x0 (ix2 p k)) = D m c P) (hx : (fun k => x1 (ix2 p k)) = X m c P) (hr : (fun k => x2 (ix2 p k)) = rrow m c P) (hf : (fun k => x3 (ix2 p k)) = frow m c P)
    (h3 : ∀ j, x4 (ix3 0 3 j) = SH m c j) (h4 : ∀ j, x4 (ix3 0 4 j) = SC m c j) (h5 : ∀ j, x4 (ix3 0 5 j) = GT m c j)
    (h8 : ∀ j, x4 (ix3 0 8 j) = G m c j) (h9 : ∀ j, x4 (ix3 0 9 j) = PO m c j) (hi : (fun j i => w8 (ix2 i j)) = WI m c) (ho : (fun i k => w9 (ix2 i k)) = WO m c) :
    ((∀ q, tileH x1 x4 (ix2 p q) = hrow m c P q) ∧ (∀ q, tileDf x0 x3 x4 (ix2 p q) = dfrow m c P q) ∧ (∀ q, tileDa x0 x2 x3 x4 w9 (ix2 p q) = darow m c P q)
      ∧ ∀ q, tileDx x0 x1 x2 x3 x4 w8 w9 (ix2 p q) = dxrow m c P q) ∧ ∀ q, tileDh x0 x2 x3 x4 w8 w9 (ix2 p q) = csh m c q P
      ∧ tileDhn x0 x1 x2 x3 x4 w8 w9 (ix2 p q) = csc m c q P
      ∧ x0 (ix2 p q) * (k0_pay16 x3 (ix2 p q) * k0_pay7 (vrow9 x4) (ix2 0 q)) = cgt m c q P
      ∧ k0_pay2 (k0_pay8 (vrow4 x4)) (tileDh x0 x2 x3 x4 w8 w9) (ix2 p q) * k0_pay10 x1 (ix2 p q) = cpre m c q P
      ∧ k0_pay18 x0 (vrow5 x4) (ix2 p q) * k0_pay16 x3 (ix2 p q) = cpost m c q P := by
  have e3 : (fun k => vrow3 x4 (ix3 0 0 k)) = SH m c := funext fun j => (row_at x4 j).1.trans (h3 j)
  have e4 : (fun k => vrow4 x4 (ix3 0 0 k)) = SC m c := funext fun j => (row_at x4 j).2.1.trans (h4 j)
  have e5 : (fun k => vrow5 x4 (ix3 0 0 k)) = GT m c := funext fun j => (row_at x4 j).2.2.1.trans (h5 j)
  have e8 : (fun k => vrow8 x4 (ix3 0 0 k)) = G m c := funext fun j => (row_at x4 j).2.2.2.1.trans (h8 j)
  have e9 : (fun k => vrow9 x4 (ix3 0 0 k)) = PO m c := funext fun j => (row_at x4 j).2.2.2.2.trans (h9 j)
  have t : (fun k => k0_pay19 (k0_pay7 (vrow9 x4)) x0 (vrow5 x4) (ix2 p k)) = Mlp.tf (D m c P) (GT m c) (PO m c) :=
    funext fun q => (tf_at x0 _ _ p q).trans (by rw [hd, e5, e9])
  have df : ∀ q, tileDf x0 x3 x4 (ix2 p q) = dfrow m c P q := fun q => (df_at x0 x3 _ _ p q).trans (by rw [hf, t]; rfl)
  have da : ∀ q, tileDa x0 x2 x3 x4 w9 (ix2 p q) = darow m c P q := fun q =>
    (da_at x2 w9 _ _ _ _ p q).trans (by rw [ho, hr, show (fun k => k0_pay22 _ _ _ _ (ix2 p k)) = dfrow m c P from funext df]; rfl)
  have dh : ∀ q, tileDh x0 x2 x3 x4 w8 w9 (ix2 p q) = dhrow m c P q := fun q =>
    (dh_at w8 w9 _ _ _ _ _ p q).trans (by rw [hi, show (fun k => k0_pay23 _ _ _ _ _ _ (ix2 p k)) = darow m c P from funext da]; rfl)
  have xq : ∀ q, x1 (ix2 p q) = X m c P q := fun q => congrFun hx q
  have dq : ∀ q, x0 (ix2 p q) = D m c P q := fun q => congrFun hd q
  have fq : ∀ q, x3 (ix2 p q) = frow m c P q := fun q => congrFun hf q
  have n : ∀ q, k0_pay10 x1 (ix2 p q) = X m c P q * Mlp.rs (X m c P) := fun q => (norm_at x1 p q).trans (by rw [hx, xq])
  have fn : ∀ q, k0_pay16 x3 (ix2 p q) = frow m c P q * Mlp.rs (frow m c P) := fun q => (fnorm_at x3 p q).trans (by rw [hf, fq])
  refine ⟨⟨fun q => (h_at x1 _ _ _ p q).trans (by rw [hx, e3, e4, e8]; rfl), df, da, fun q => (dx_at x0 x1 _ _ _ p q).trans ?_⟩, fun q => ⟨dh q, (dhn_at w8 w9 _ _ _ _ _ _ p q).trans ?_, ?_, ?_, ?_⟩⟩
  · rw [hd, hx, e4, e8, show (fun k => tileDh x0 x2 x3 x4 w8 w9 (ix2 p k)) = dhrow m c P from funext dh]
    rfl
  · refine congrArg₂ (HMul.hMul : EReal → EReal → EReal) (dh q) ((n_at x1 _ p q).trans ?_)
    rw [hx, xq]
    exact congrArg (_ * ·) (congrFun e8 q)
  · refine congrArg₂ (HMul.hMul : EReal → EReal → EReal) (dq q) (congrArg₂ (HMul.hMul : EReal → EReal → EReal) (fn q) ((post_at _ q).trans (congrFun e9 q)))
  · refine congrArg₂ (HMul.hMul : EReal → EReal → EReal) ((dhs_at _ _ p q).trans (congrArg₂ (HMul.hMul : EReal → EReal → EReal) (dh q) (congrArg (1 + ·) (congrFun e4 q)))) (n q)
  · refine congrArg₂ (HMul.hMul : EReal → EReal → EReal) ((gate_at x0 _ p q).trans (congrArg₂ (HMul.hMul : EReal → EReal → EReal) (dq q) (congrFun e5 q))) (fn q)

theorem bound (t : Fin cfg0.N) : t.val < 16 := lt_of_lt_of_eq t.isLt (show cfg0.N = 16 from N_0)

/-- After every point the two scratches hold the weights. -/
theorem scratches (n : ℕ) (hn : n < cfg0.N) :
    (outsAt0 m c n hn).2.2.2.2.2.1 = (V m c main_v8 : FVec Ideal S4096x1024 .bf16) ∧ (outsAt0 m c n hn).2.2.2.2.2.2 = (V m c main_v9 : FVec Ideal S4096x1024 .bf16) := by
  induction n with
  | zero => rw [show outsAt0 m c 0 hn = _ from outsAt0_A m c ⟨0, hn⟩ rfl rfl]; dsimp only; exact ⟨sA_0 .., sA_1 ..⟩
  | succ n ih =>
    by_cases h : (n + 1) % 16 = 0
    · rw [show outsAt0 m c (n + 1) hn = _ from outsAt0_A m c ⟨n + 1, hn⟩ h h]; dsimp only; exact ⟨sA_0 .., sA_1 ..⟩
    · rw [show outsAt0 m c (n + 1) hn = _ from outsAt0_B m c ⟨n + 1, hn⟩ h h]; dsimp only; exact ih (by omega)

/-- What a point writes. -/
theorem vals (t : Fin cfg0.N) :
    (outsAt0 m c t.val t.isLt).1 = tileDx (iblk m c 0 t) (iblk m c 1 t) (iblk m c 2 t) (iblk m c 3 t) (iblk m c 4 t) (V m c main_v8) (V m c main_v9)
    ∧ (outsAt0 m c t.val t.isLt).2.1 = tileH (iblk m c 1 t) (iblk m c 4 t)
    ∧ (outsAt0 m c t.val t.isLt).2.2.1 = tileDa (iblk m c 0 t) (iblk m c 2 t) (iblk m c 3 t) (iblk m c 4 t) (V m c main_v9)
    ∧ (outsAt0 m c t.val t.isLt).2.2.2.1 = tileDf (iblk m c 0 t) (iblk m c 3 t) (iblk m c 4 t) := by
  by_cases h : t.val % 16 = 0
  · rw [outsAt0_A m c t h h]; dsimp only; exact ⟨A_5 .., A_6 .., A_7 .., A_8 ..⟩
  · have e := scratches m c (t.val - 1) (Nat.lt_of_le_of_lt (Nat.sub_le _ _) t.isLt)
    rw [outsAt0_B m c t h h, e.1, e.2]; dsimp only; exact ⟨B_5 .., B_6 .., B_7 .., B_8 ..⟩

/-- The sums' row 3: the first point starts it, the others add to it. -/
theorem first_3 (t : Fin cfg0.N) (h : t.val % 16 = 0) (q : Fin 1024) :
    (outsAt0 m c t.val t.isLt).2.2.2.2.1 (ix2 3 q) = 0 + col3 (iblk m c 0 t) (iblk m c 2 t) (iblk m c 3 t) (iblk m c 4 t) (V m c main_v8) (V m c main_v9) q := by
  rw [outsAt0_A m c t h h]; dsimp only; exact A9_3 (q := q) ..

theorem next_3 (t : Fin cfg0.N) (h : ¬t.val % 16 = 0) (q : Fin 1024) :
    (outsAt0 m c t.val t.isLt).2.2.2.2.1 (ix2 3 q) = (outsAt0 m c (t.val - 1) (Nat.lt_of_le_of_lt (Nat.sub_le _ _) t.isLt)).2.2.2.2.1 (ix2 3 q) + col3 (iblk m c 0 t) (iblk m c 2 t) (iblk m c 3 t) (iblk m c 4 t) (V m c main_v8) (V m c main_v9) q := by
  have e := scratches m c (t.val - 1) (Nat.lt_of_le_of_lt (Nat.sub_le _ _) t.isLt)
  rw [outsAt0_B m c t h h, e.1, e.2]; dsimp only; exact B9_3 (q := q) ..

/-- The sums' row 4: the first point starts it, the others add to it. -/
theorem first_4 (t : Fin cfg0.N) (h : t.val % 16 = 0) (q : Fin 1024) :
    (outsAt0 m c t.val t.isLt).2.2.2.2.1 (ix2 4 q) = 0 + col4 (iblk m c 0 t) (iblk m c 1 t) (iblk m c 2 t) (iblk m c 3 t) (iblk m c 4 t) (V m c main_v8) (V m c main_v9) q := by
  rw [outsAt0_A m c t h h]; dsimp only; exact A9_4 (q := q) ..

theorem next_4 (t : Fin cfg0.N) (h : ¬t.val % 16 = 0) (q : Fin 1024) :
    (outsAt0 m c t.val t.isLt).2.2.2.2.1 (ix2 4 q) = (outsAt0 m c (t.val - 1) (Nat.lt_of_le_of_lt (Nat.sub_le _ _) t.isLt)).2.2.2.2.1 (ix2 4 q) + col4 (iblk m c 0 t) (iblk m c 1 t) (iblk m c 2 t) (iblk m c 3 t) (iblk m c 4 t) (V m c main_v8) (V m c main_v9) q := by
  have e := scratches m c (t.val - 1) (Nat.lt_of_le_of_lt (Nat.sub_le _ _) t.isLt)
  rw [outsAt0_B m c t h h, e.1, e.2]; dsimp only; exact B9_4 (q := q) ..

/-- The sums' row 5: the first point starts it, the others add to it. -/
theorem first_5 (t : Fin cfg0.N) (h : t.val % 16 = 0) (q : Fin 1024) :
    (outsAt0 m c t.val t.isLt).2.2.2.2.1 (ix2 5 q) = 0 + col5 (iblk m c 0 t) (iblk m c 3 t) (iblk m c 4 t) q := by
  rw [outsAt0_A m c t h h]; dsimp only; exact A9_5 (q := q) ..

theorem next_5 (t : Fin cfg0.N) (h : ¬t.val % 16 = 0) (q : Fin 1024) :
    (outsAt0 m c t.val t.isLt).2.2.2.2.1 (ix2 5 q) = (outsAt0 m c (t.val - 1) (Nat.lt_of_le_of_lt (Nat.sub_le _ _) t.isLt)).2.2.2.2.1 (ix2 5 q) + col5 (iblk m c 0 t) (iblk m c 3 t) (iblk m c 4 t) q := by
  have e := scratches m c (t.val - 1) (Nat.lt_of_le_of_lt (Nat.sub_le _ _) t.isLt)
  rw [outsAt0_B m c t h h, e.1, e.2]; dsimp only; exact B9_5 (q := q) ..

/-- The sums' row 8: the first point starts it, the others add to it. -/
theorem first_8 (t : Fin cfg0.N) (h : t.val % 16 = 0) (q : Fin 1024) :
    (outsAt0 m c t.val t.isLt).2.2.2.2.1 (ix2 8 q) = 0 + col8 (iblk m c 0 t) (iblk m c 1 t) (iblk m c 2 t) (iblk m c 3 t) (iblk m c 4 t) (V m c main_v8) (V m c main_v9) q := by
  rw [outsAt0_A m c t h h]; dsimp only; exact A9_8 (q := q) ..

theorem next_8 (t : Fin cfg0.N) (h : ¬t.val % 16 = 0) (q : Fin 1024) :
    (outsAt0 m c t.val t.isLt).2.2.2.2.1 (ix2 8 q) = (outsAt0 m c (t.val - 1) (Nat.lt_of_le_of_lt (Nat.sub_le _ _) t.isLt)).2.2.2.2.1 (ix2 8 q) + col8 (iblk m c 0 t) (iblk m c 1 t) (iblk m c 2 t) (iblk m c 3 t) (iblk m c 4 t) (V m c main_v8) (V m c main_v9) q := by
  have e := scratches m c (t.val - 1) (Nat.lt_of_le_of_lt (Nat.sub_le _ _) t.isLt)
  rw [outsAt0_B m c t h h, e.1, e.2]; dsimp only; exact B9_8 (q := q) ..

/-- The sums' row 9: the first point starts it, the others add to it. -/
theorem first_9 (t : Fin cfg0.N) (h : t.val % 16 = 0) (q : Fin 1024) :
    (outsAt0 m c t.val t.isLt).2.2.2.2.1 (ix2 9 q) = 0 + col9 (iblk m c 0 t) (iblk m c 3 t) (iblk m c 4 t) q := by
  rw [outsAt0_A m c t h h]; dsimp only; exact A9_9 (q := q) ..

theorem next_9 (t : Fin cfg0.N) (h : ¬t.val % 16 = 0) (q : Fin 1024) :
    (outsAt0 m c t.val t.isLt).2.2.2.2.1 (ix2 9 q) = (outsAt0 m c (t.val - 1) (Nat.lt_of_le_of_lt (Nat.sub_le _ _) t.isLt)).2.2.2.2.1 (ix2 9 q) + col9 (iblk m c 0 t) (iblk m c 3 t) (iblk m c 4 t) q := by
  have e := scratches m c (t.val - 1) (Nat.lt_of_le_of_lt (Nat.sub_le _ _) t.isLt)
  rw [outsAt0_B m c t h h, e.1, e.2]; dsimp only; exact B9_9 (q := q) ..

theorem idx : ∀ t : Fin cfg0.N, win0_0.index t = ![t.val, 0] ∧ win0_1.index t = ![t.val, 0] ∧ win0_2.index t = ![t.val, 0] ∧ win0_3.index t = ![t.val, 0] ∧ win0_4.index t = ![0, 0, 0] ∧
    win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, _)

theorem blk0 (t : Fin cfg0.N) (p : Fin 256) (k : Fin 1024) :
    (iblk m c 0 t : FVec Ideal S256x1024 .f32) (ix2 p k) = D m c ⟨256 * t.val + p.val, by have := bound t; omega⟩ k := by
  unfold D; rw [← V_main_arg1 m c]; blk_ext [iblk, idx t]

theorem blk1 (t : Fin cfg0.N) (p : Fin 256) (k : Fin 1024) :
    (iblk m c 1 t : FVec Ideal S256x1024 .f32) (ix2 p k) = X m c ⟨256 * t.val + p.val, by have := bound t; omega⟩ k := by
  unfold X; rw [← V_main_arg0 m c]; blk_ext [iblk, idx t]

theorem blk2 (t : Fin cfg0.N) (p : Fin 256) (k : Fin 4096) :
    (iblk m c 2 t : FVec Ideal S256x4096 .bf16) (ix2 p k) = (V m c main_v44 : FVec Ideal S4096x4096 .bf16) (ix2 ⟨256 * t.val + p.val, by have := bound t; omega⟩ k) := by
  blk_ext [iblk, idx t]

theorem blk3 (t : Fin cfg0.N) (p : Fin 256) (k : Fin 1024) :
    (iblk m c 3 t : FVec Ideal S256x1024 .f32) (ix2 p k) = (V m c main_v45 : FVec Ideal S4096x1024 .f32) (ix2 ⟨256 * t.val + p.val, by have := bound t; omega⟩ k) := by
  blk_ext [iblk, idx t]

theorem blk4 (t : Fin cfg0.N) (r : Fin 16) (k : Fin 1024) :
    (iblk m c 4 t : FVec Ideal S1x16x1024 .f32) (ix3 0 r k) = (V m c main_v6 : FVec Ideal S4x16x1024 .f32) (ix3 0 r k) := by
  blk_ext [iblk, idx t]

theorem point (t : Fin cfg0.N) (p : Fin 256) (P : Fin 4096) (hP : P.val = 256 * t.val + p.val) :
    ((∀ q, tileH (iblk m c 1 t) (iblk m c 4 t) (ix2 p q) = hrow m c P q) ∧ (∀ q, tileDf (iblk m c 0 t) (iblk m c 3 t) (iblk m c 4 t) (ix2 p q) = dfrow m c P q) ∧ (∀ q, tileDa (iblk m c 0 t) (iblk m c 2 t) (iblk m c 3 t) (iblk m c 4 t) (V m c main_v9) (ix2 p q) = darow m c P q)
      ∧ ∀ q, tileDx (iblk m c 0 t) (iblk m c 1 t) (iblk m c 2 t) (iblk m c 3 t) (iblk m c 4 t) (V m c main_v8) (V m c main_v9) (ix2 p q) = dxrow m c P q) ∧ ∀ q, tileDh (iblk m c 0 t) (iblk m c 2 t) (iblk m c 3 t) (iblk m c 4 t) (V m c main_v8) (V m c main_v9) (ix2 p q) = csh m c q P
      ∧ tileDhn (iblk m c 0 t) (iblk m c 1 t) (iblk m c 2 t) (iblk m c 3 t) (iblk m c 4 t) (V m c main_v8) (V m c main_v9) (ix2 p q) = csc m c q P
      ∧ (HMul.hMul : EReal → EReal → EReal) ((iblk m c 0 t : FVec Ideal S256x1024 .f32) (ix2 p q)) (k0_pay16 (iblk m c 3 t) (ix2 p q) * k0_pay7 (vrow9 (iblk m c 4 t)) (ix2 0 q)) = cgt m c q P
      ∧ k0_pay2 (k0_pay8 (vrow4 (iblk m c 4 t))) (tileDh (iblk m c 0 t) (iblk m c 2 t) (iblk m c 3 t) (iblk m c 4 t) (V m c main_v8) (V m c main_v9)) (ix2 p q) * k0_pay10 (iblk m c 1 t) (ix2 p q) = cpre m c q P
      ∧ k0_pay18 (iblk m c 0 t) (vrow5 (iblk m c 4 t)) (ix2 p q) * k0_pay16 (iblk m c 3 t) (ix2 p q) = cpost m c q P :=
  have hP' : (⟨256 * t.val + p.val, by have := bound t; omega⟩ : Fin 4096) = P := Fin.ext hP.symm
  tile_at m c (iblk m c 0 t) (iblk m c 1 t) (iblk m c 2 t) (iblk m c 3 t) (iblk m c 4 t) (V m c main_v8) (V m c main_v9) p P
    (funext fun k => (blk0 m c t p k).trans (congrArg (D m c · k) hP')) (funext fun k => (blk1 m c t p k).trans (congrArg (X m c · k) hP'))
    (funext fun k => (blk2 m c t p k).trans ((congrArg (fun P => (V m c main_v44 : FVec Ideal S4096x4096 .bf16) (ix2 P k)) hP').trans (congrFun (V44 m c P) k)))
    (funext fun k => (blk3 m c t p k).trans ((congrArg (fun P => (V m c main_v45 : FVec Ideal S4096x1024 .f32) (ix2 P k)) hP').trans (congrFun (V45 m c P) k)))
    (fun j => (blk4 m c t 3 j).trans (V6_3 m c j)) (fun j => (blk4 m c t 4 j).trans (V6_4 m c j)) (fun j => (blk4 m c t 5 j).trans (V6_5 m c j))
    (fun j => (blk4 m c t 8 j).trans (V6_8 m c j)) (fun j => (blk4 m c t 9 j).trans (V6_9 m c j))
    (funext fun j => funext fun i => V8 m c i j) (funext fun i => funext fun j => V9 m c i j)

/-- The results: the tokens' gradient, the hidden rows, the gradients of the hidden layer and of the product. -/
def dxA : FVec Ideal S4096x1024 .f32 := fun i => dxrow m c (i 0) (i 1)
def hA : FVec Ideal S4096x1024 .bf16 := fun i => hrow m c (i 0) (i 1)
def daA : FVec Ideal S4096x4096 .bf16 := fun i => darow m c (i 0) (i 1)
def dfA : FVec Ideal S4096x1024 .bf16 := fun i => dfrow m c (i 0) (i 1)

theorem point_dx (t : Fin cfg0.N) (y : S256x1024.Idx) (i : S4096x1024.Idx) (h0 : (i 0 : ℕ) = t.val * 256 + (y 0 : ℕ)) (h1 : (i 1 : ℕ) = (y 1 : ℕ)) :
    (outsAt0 m c t.val t.isLt).1 y = dxA m c i := by
  rw [(vals m c t).1, eq_ix2 y]
  exact ((point m c t (y 0) (i 0) (by omega)).1.2.2.2 (y 1)).trans (congrArg (dxrow m c (i 0)) (Fin.ext h1.symm))

theorem final_dx : (dats m 0 c).arrAt 5 cfg0.N = dxA m c := by
  refine (dats m 0 c).arrAt_eq_of_covers 5 _ (by decide +kernel) fun t hf y => ?_
  blk_simp
  rw [after0_5]
  refine point_dx m c t y _ ?_ ?_ <;> blk_simp [idx t] <;> try omega

theorem point_h (t : Fin cfg0.N) (y : S256x1024.Idx) (i : S4096x1024.Idx) (h0 : (i 0 : ℕ) = t.val * 256 + (y 0 : ℕ)) (h1 : (i 1 : ℕ) = (y 1 : ℕ)) :
    (outsAt0 m c t.val t.isLt).2.1 y = hA m c i := by
  rw [(vals m c t).2.1, eq_ix2 y]
  exact ((point m c t (y 0) (i 0) (by omega)).1.1 (y 1)).trans (congrArg (hrow m c (i 0)) (Fin.ext h1.symm))

theorem final_h : (dats m 0 c).arrAt 6 cfg0.N = hA m c := by
  refine (dats m 0 c).arrAt_eq_of_covers 6 _ (by decide +kernel) fun t hf y => ?_
  blk_simp
  rw [after0_6]
  refine point_h m c t y _ ?_ ?_ <;> blk_simp [idx t] <;> try omega

theorem point_da (t : Fin cfg0.N) (y : S256x4096.Idx) (i : S4096x4096.Idx) (h0 : (i 0 : ℕ) = t.val * 256 + (y 0 : ℕ)) (h1 : (i 1 : ℕ) = (y 1 : ℕ)) :
    (outsAt0 m c t.val t.isLt).2.2.1 y = daA m c i := by
  rw [(vals m c t).2.2.1, eq_ix2 y]
  exact ((point m c t (y 0) (i 0) (by omega)).1.2.2.1 (y 1)).trans (congrArg (darow m c (i 0)) (Fin.ext h1.symm))

theorem final_da : (dats m 0 c).arrAt 7 cfg0.N = daA m c := by
  refine (dats m 0 c).arrAt_eq_of_covers 7 _ (by decide +kernel) fun t hf y => ?_
  blk_simp
  rw [after0_7]
  refine point_da m c t y _ ?_ ?_ <;> blk_simp [idx t] <;> try omega

theorem point_df (t : Fin cfg0.N) (y : S256x1024.Idx) (i : S4096x1024.Idx) (h0 : (i 0 : ℕ) = t.val * 256 + (y 0 : ℕ)) (h1 : (i 1 : ℕ) = (y 1 : ℕ)) :
    (outsAt0 m c t.val t.isLt).2.2.2.1 y = dfA m c i := by
  rw [(vals m c t).2.2.2, eq_ix2 y]
  exact ((point m c t (y 0) (i 0) (by omega)).1.2.1 (y 1)).trans (congrArg (dfrow m c (i 0)) (Fin.ext h1.symm))

theorem final_df : (dats m 0 c).arrAt 8 cfg0.N = dfA m c := by
  refine (dats m 0 c).arrAt_eq_of_covers 8 _ (by decide +kernel) fun t hf y => ?_
  blk_simp
  rw [after0_8]
  refine point_df m c t y _ ?_ ?_ <;> blk_simp [idx t] <;> try omega

theorem seg_3 (t : Fin cfg0.N) (q : Fin 1024) : col3 (iblk m c 0 t) (iblk m c 2 t) (iblk m c 3 t) (iblk m c 4 t) (V m c main_v8) (V m c main_v9) q = Mlp.seg (csh m c q) t.val :=
  Finset.sum_congr rfl fun p _ => ((point m c t p ⟨(256 * t.val + p.val) % 4096, Nat.mod_lt _ (by omega)⟩ (Nat.mod_eq_of_lt (by have := bound t; omega))).2 q).1

theorem sums_3 (q : Fin 1024) (n : ℕ) (hn : n < cfg0.N) :
    (outsAt0 m c n hn).2.2.2.2.1 (ix2 3 q) = ∑ t ∈ Finset.range (n + 1), Mlp.seg (csh m c q) t := by
  induction n with
  | zero => rw [Finset.sum_range_one]; exact (first_3 m c ⟨0, hn⟩ rfl q).trans ((zero_add _).trans (seg_3 m c ⟨0, hn⟩ q))
  | succ n ih =>
    have h : ¬(n + 1) % 16 = 0 := by have := bound ⟨n + 1, hn⟩; dsimp only at this; omega
    rw [Finset.sum_range_succ, ← ih (by omega)]
    exact (next_3 m c ⟨n + 1, hn⟩ h q).trans (congrArg (_ + ·) (seg_3 m c ⟨n + 1, hn⟩ q))

theorem seg_4 (t : Fin cfg0.N) (q : Fin 1024) : col4 (iblk m c 0 t) (iblk m c 1 t) (iblk m c 2 t) (iblk m c 3 t) (iblk m c 4 t) (V m c main_v8) (V m c main_v9) q = Mlp.seg (csc m c q) t.val :=
  Finset.sum_congr rfl fun p _ => ((point m c t p ⟨(256 * t.val + p.val) % 4096, Nat.mod_lt _ (by omega)⟩ (Nat.mod_eq_of_lt (by have := bound t; omega))).2 q).2.1

theorem sums_4 (q : Fin 1024) (n : ℕ) (hn : n < cfg0.N) :
    (outsAt0 m c n hn).2.2.2.2.1 (ix2 4 q) = ∑ t ∈ Finset.range (n + 1), Mlp.seg (csc m c q) t := by
  induction n with
  | zero => rw [Finset.sum_range_one]; exact (first_4 m c ⟨0, hn⟩ rfl q).trans ((zero_add _).trans (seg_4 m c ⟨0, hn⟩ q))
  | succ n ih =>
    have h : ¬(n + 1) % 16 = 0 := by have := bound ⟨n + 1, hn⟩; dsimp only at this; omega
    rw [Finset.sum_range_succ, ← ih (by omega)]
    exact (next_4 m c ⟨n + 1, hn⟩ h q).trans (congrArg (_ + ·) (seg_4 m c ⟨n + 1, hn⟩ q))

theorem seg_5 (t : Fin cfg0.N) (q : Fin 1024) : col5 (iblk m c 0 t) (iblk m c 3 t) (iblk m c 4 t) q = Mlp.seg (cgt m c q) t.val :=
  Finset.sum_congr rfl fun p _ => ((point m c t p ⟨(256 * t.val + p.val) % 4096, Nat.mod_lt _ (by omega)⟩ (Nat.mod_eq_of_lt (by have := bound t; omega))).2 q).2.2.1

theorem sums_5 (q : Fin 1024) (n : ℕ) (hn : n < cfg0.N) :
    (outsAt0 m c n hn).2.2.2.2.1 (ix2 5 q) = ∑ t ∈ Finset.range (n + 1), Mlp.seg (cgt m c q) t := by
  induction n with
  | zero => rw [Finset.sum_range_one]; exact (first_5 m c ⟨0, hn⟩ rfl q).trans ((zero_add _).trans (seg_5 m c ⟨0, hn⟩ q))
  | succ n ih =>
    have h : ¬(n + 1) % 16 = 0 := by have := bound ⟨n + 1, hn⟩; dsimp only at this; omega
    rw [Finset.sum_range_succ, ← ih (by omega)]
    exact (next_5 m c ⟨n + 1, hn⟩ h q).trans (congrArg (_ + ·) (seg_5 m c ⟨n + 1, hn⟩ q))

theorem seg_8 (t : Fin cfg0.N) (q : Fin 1024) : col8 (iblk m c 0 t) (iblk m c 1 t) (iblk m c 2 t) (iblk m c 3 t) (iblk m c 4 t) (V m c main_v8) (V m c main_v9) q = Mlp.seg (cpre m c q) t.val :=
  Finset.sum_congr rfl fun p _ => ((point m c t p ⟨(256 * t.val + p.val) % 4096, Nat.mod_lt _ (by omega)⟩ (Nat.mod_eq_of_lt (by have := bound t; omega))).2 q).2.2.2.1

theorem sums_8 (q : Fin 1024) (n : ℕ) (hn : n < cfg0.N) :
    (outsAt0 m c n hn).2.2.2.2.1 (ix2 8 q) = ∑ t ∈ Finset.range (n + 1), Mlp.seg (cpre m c q) t := by
  induction n with
  | zero => rw [Finset.sum_range_one]; exact (first_8 m c ⟨0, hn⟩ rfl q).trans ((zero_add _).trans (seg_8 m c ⟨0, hn⟩ q))
  | succ n ih =>
    have h : ¬(n + 1) % 16 = 0 := by have := bound ⟨n + 1, hn⟩; dsimp only at this; omega
    rw [Finset.sum_range_succ, ← ih (by omega)]
    exact (next_8 m c ⟨n + 1, hn⟩ h q).trans (congrArg (_ + ·) (seg_8 m c ⟨n + 1, hn⟩ q))

theorem seg_9 (t : Fin cfg0.N) (q : Fin 1024) : col9 (iblk m c 0 t) (iblk m c 3 t) (iblk m c 4 t) q = Mlp.seg (cpost m c q) t.val :=
  Finset.sum_congr rfl fun p _ => ((point m c t p ⟨(256 * t.val + p.val) % 4096, Nat.mod_lt _ (by omega)⟩ (Nat.mod_eq_of_lt (by have := bound t; omega))).2 q).2.2.2.2

theorem sums_9 (q : Fin 1024) (n : ℕ) (hn : n < cfg0.N) :
    (outsAt0 m c n hn).2.2.2.2.1 (ix2 9 q) = ∑ t ∈ Finset.range (n + 1), Mlp.seg (cpost m c q) t := by
  induction n with
  | zero => rw [Finset.sum_range_one]; exact (first_9 m c ⟨0, hn⟩ rfl q).trans ((zero_add _).trans (seg_9 m c ⟨0, hn⟩ q))
  | succ n ih =>
    have h : ¬(n + 1) % 16 = 0 := by have := bound ⟨n + 1, hn⟩; dsimp only at this; omega
    rw [Finset.sum_range_succ, ← ih (by omega)]
    exact (next_9 m c ⟨n + 1, hn⟩ h q).trans (congrArg (_ + ·) (seg_9 m c ⟨n + 1, hn⟩ q))

/-- The sums after the last point. -/
def sumsA : FVec Ideal S16x1024 .f32 := (outsAt0 m c 15 (by show 15 < cfg0.N; rw [show cfg0.N = 16 from N_0]; omega)).2.2.2.2.1

theorem outs_congr (n n' : ℕ) (h : n = n') (hn : n < cfg0.N) (hn' : n' < cfg0.N) : outsAt0 m c n hn = outsAt0 m c n' hn' := by
  subst h; rfl

theorem sums_at (t : Fin cfg0.N) (ht : t.val = 15) (y i : S16x1024.Idx) (h : y = i) : (outsAt0 m c t.val t.isLt).2.2.2.2.1 y = sumsA m c i := by
  unfold sumsA
  rw [h, outs_congr m c t.val 15 ht t.isLt _]

theorem final_sums : (dats m 0 c).arrAt 9 cfg0.N = sumsA m c := by
  refine (dats m 0 c).arrAt_eq_of_covers 9 _ (by decide +kernel) fun t hf y => ?_
  have ht : t.val % 16 = 15 := (flush0_9 t).mp hf
  have hb := bound t
  blk_simp
  rw [after0_9]
  refine sums_at m c t (by omega) y _ (funext fun a => Fin.ext ?_)
  fin_cases a <;> blk_simp [idx t] <;> try omega

theorem sumsA_3 (q : Fin 1024) : sumsA m c (ix2 3 q) = ∑ P, csh m c q P :=
  (sums_3 m c q 15 _).trans (Mlp.seg_sum _)

theorem sumsA_4 (q : Fin 1024) : sumsA m c (ix2 4 q) = ∑ P, csc m c q P :=
  (sums_4 m c q 15 _).trans (Mlp.seg_sum _)

theorem sumsA_5 (q : Fin 1024) : sumsA m c (ix2 5 q) = ∑ P, cgt m c q P :=
  (sums_5 m c q 15 _).trans (Mlp.seg_sum _)

theorem sumsA_8 (q : Fin 1024) : sumsA m c (ix2 8 q) = ∑ P, cpre m c q P :=
  (sums_8 m c q 15 _).trans (Mlp.seg_sum _)

theorem sumsA_9 (q : Fin 1024) : sumsA m c (ix2 9 q) = ∑ P, cpost m c q P :=
  (sums_9 m c q 15 _).trans (Mlp.seg_sum _)

/-- The gradients of the modulation and of the gains: the sums over the tokens. -/
def shA : FVec Ideal S1024 .f32 := fun i => ∑ P, csh m c (i 0) P
def scA : FVec Ideal S1024 .f32 := fun i => ∑ P, csc m c (i 0) P
def gtA : FVec Ideal S1024 .f32 := fun i => ∑ P, cgt m c (i 0) P
def preA : FVec Ideal S1024 .f32 := fun i => ∑ P, cpre m c (i 0) P
def postA : FVec Ideal S1024 .f32 := fun i => ∑ P, cpost m c (i 0) P

theorem shared : Pipeline.SharedIn spec0 := by decide

theorem with_sums : Pipeline.withArrays (cfgs 0).spec c (V0 m c) (fun w => (dats m 0 c).arrAt w (cfgs 0).N) (Proc.devRef .tc main_v46_4) = sumsA m c :=
  (Dat.withArrays_arrAt (dats m 0 c) shared (V0 m c) (A_eq m c) 9).trans (final_sums m c)

theorem slice_3 (x : FVec Ideal S16x1024 .f32) (q : Fin 1024) :
    shapeCast S1024 (extractStridedSlice S1x1024 ![3, 0] x slices_S16x1024_S1x1024_3_0) shapeCasts_S1x1024_S1024 (ix1 q) = x (ix2 3 q) := by
  pointwise []

theorem tail_3 : Pipeline.afterTail₀ cfgs (dats m) 0 (V0 m) [hostOps1] c main_v48 = shA m c := by
  unfold Pipeline.afterTail₀
  show StableHlo.after hostOps1 _ _ = _
  after_results
  rw [with_sums]
  funext i
  rw [← ix1_eta i]
  exact (slice_3 (sumsA m c) (i 0)).trans (sumsA_3 m c (i 0))

theorem rest_3 : main_v48 ∈ Pipeline.restRefs sig (cfgs 0).spec :=
  Pipeline.mem_restRefs_of _ (by decide) (by decide)

theorem slice_4 (x : FVec Ideal S16x1024 .f32) (q : Fin 1024) :
    shapeCast S1024 (extractStridedSlice S1x1024 ![4, 0] x slices_S16x1024_S1x1024_4_0) shapeCasts_S1x1024_S1024 (ix1 q) = x (ix2 4 q) := by
  pointwise []

theorem tail_4 : Pipeline.afterTail₀ cfgs (dats m) 0 (V0 m) [hostOps1] c main_v50 = scA m c := by
  unfold Pipeline.afterTail₀
  show StableHlo.after hostOps1 _ _ = _
  after_results
  rw [with_sums]
  funext i
  rw [← ix1_eta i]
  exact (slice_4 (sumsA m c) (i 0)).trans (sumsA_4 m c (i 0))

theorem rest_4 : main_v50 ∈ Pipeline.restRefs sig (cfgs 0).spec :=
  Pipeline.mem_restRefs_of _ (by decide) (by decide)

theorem slice_5 (x : FVec Ideal S16x1024 .f32) (q : Fin 1024) :
    shapeCast S1024 (extractStridedSlice S1x1024 ![5, 0] x slices_S16x1024_S1x1024_5_0) shapeCasts_S1x1024_S1024 (ix1 q) = x (ix2 5 q) := by
  pointwise []

theorem tail_5 : Pipeline.afterTail₀ cfgs (dats m) 0 (V0 m) [hostOps1] c main_v52 = gtA m c := by
  unfold Pipeline.afterTail₀
  show StableHlo.after hostOps1 _ _ = _
  after_results
  rw [with_sums]
  funext i
  rw [← ix1_eta i]
  exact (slice_5 (sumsA m c) (i 0)).trans (sumsA_5 m c (i 0))

theorem rest_5 : main_v52 ∈ Pipeline.restRefs sig (cfgs 0).spec :=
  Pipeline.mem_restRefs_of _ (by decide) (by decide)

theorem slice_8 (x : FVec Ideal S16x1024 .f32) (q : Fin 1024) :
    shapeCast S1024 (extractStridedSlice S1x1024 ![8, 0] x slices_S16x1024_S1x1024_8_0) shapeCasts_S1x1024_S1024 (ix1 q) = x (ix2 8 q) := by
  pointwise []

theorem tail_8 : Pipeline.afterTail₀ cfgs (dats m) 0 (V0 m) [hostOps1] c main_v54 = preA m c := by
  unfold Pipeline.afterTail₀
  show StableHlo.after hostOps1 _ _ = _
  after_results
  rw [with_sums]
  funext i
  rw [← ix1_eta i]
  exact (slice_8 (sumsA m c) (i 0)).trans (sumsA_8 m c (i 0))

theorem rest_8 : main_v54 ∈ Pipeline.restRefs sig (cfgs 0).spec :=
  Pipeline.mem_restRefs_of _ (by decide) (by decide)

theorem slice_9 (x : FVec Ideal S16x1024 .f32) (q : Fin 1024) :
    shapeCast S1024 (extractStridedSlice S1x1024 ![9, 0] x slices_S16x1024_S1x1024_9_0) shapeCasts_S1x1024_S1024 (ix1 q) = x (ix2 9 q) := by
  pointwise []

theorem tail_9 : Pipeline.afterTail₀ cfgs (dats m) 0 (V0 m) [hostOps1] c main_v56 = postA m c := by
  unfold Pipeline.afterTail₀
  show StableHlo.after hostOps1 _ _ = _
  after_results
  rw [with_sums]
  funext i
  rw [← ix1_eta i]
  exact (slice_9 (sumsA m c) (i 0)).trans (sumsA_9 m c (i 0))

theorem rest_9 : main_v56 ∈ Pipeline.restRefs sig (cfgs 0).spec :=
  Pipeline.mem_restRefs_of _ (by decide) (by decide)

/-- The kernel's run: its nine results and its arguments. -/
theorem kernel_run (g : Dev nD → PrngReg) : θ_run defs (onTc (τ := τ) (main (F := Ideal))) ⟨m, fun _ => 0, g⟩ (fun r => ∀ c : Dev nD,
      r.2.mem ((c.tc : Thread nD τ).loc main_v46_0) = dxA m c
      ∧ r.2.mem ((c.tc : Thread nD τ).loc main_v46_1) = hA m c
      ∧ r.2.mem ((c.tc : Thread nD τ).loc main_v46_2) = daA m c
      ∧ r.2.mem ((c.tc : Thread nD τ).loc main_v46_3) = dfA m c
      ∧ r.2.mem ((c.tc : Thread nD τ).loc main_v48) = shA m c
      ∧ r.2.mem ((c.tc : Thread nD τ).loc main_v50) = scA m c
      ∧ r.2.mem ((c.tc : Thread nD τ).loc main_v52) = gtA m c
      ∧ r.2.mem ((c.tc : Thread nD τ).loc main_v54) = preA m c
      ∧ r.2.mem ((c.tc : Thread nD τ).loc main_v56) = postA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun r h c => ⟨((h.1 c).1 5).trans (final_dx m c), ((h.1 c).1 6).trans (final_h m c), ((h.1 c).1 7).trans (final_da m c), ((h.1 c).1 8).trans (final_df m c),
      ((h.1 c).2 main_v48 rest_3).trans (tail_3 m c), ((h.1 c).2 main_v50 rest_4).trans (tail_4 m c), ((h.1 c).2 main_v52 rest_5).trans (tail_5 m c), ((h.1 c).2 main_v54 rest_8).trans (tail_8 m c), ((h.1 c).2 main_v56 rest_9).trans (tail_9 m c), h.2 c⟩)
    (θ_run_and (run_main m g) (unchanged m g))

end Cert.MlpBwd
end
-- ==== Proof.MlpBwdRef.lean ====
module

public import proofs.«01_k».proof.Defs
public import proofs.«01_k».proof.Proof.Gen.Reference7Ideal.Run
public import proofs.«01_k».proof.Proof.Gen.Reference7Ideal.Read
public import proofs.«01_k».proof.Proof.MlpGrad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward reference, entry by entry -/

namespace Cert.MlpBwd
open Cert.Reference7Ideal Cert.Reference7Ideal.Read

section reference
variable (x0 x1 : FVec Ideal S4096x1024 .f32) (x2 : FVec Ideal S4x6144 .f32) (x5 x6 : FVec Ideal S4x1024 .f32) (x7 : FVec Ideal S1024x4096 .f32) (x8 : FVec Ideal S4096x1024 .f32)

theorem ref_h (p : Fin 4096) (q : Fin 1024) : val_main_v33 (F := Ideal) x0 x2 x5 (ix2 p q) =
    Mlp.hid (fun k => x0 (ix2 p k)) (fun j => x2 (ix2 0 ⟨3072 + j.val, by omega⟩)) (fun j => x2 (ix2 0 ⟨4096 + j.val, by omega⟩)) (fun j => x5 (ix2 0 j)) q := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  rfl

theorem ref_a (p : Fin 4096) (q : Fin 4096) : val_main_v34 (F := Ideal) x0 x2 x5 x7 (ix2 p q) =
    Mlp.act (fun k => val_main_v33 (F := Ideal) x0 x2 x5 (ix2 p k)) (fun k i => x7 (ix2 k i)) q := by
  unfold val_main_v34
  generalize val_main_v33 (F := Ideal) x0 x2 x5 = h
  pointwise []
  rfl

theorem ref_r (p : Fin 4096) (q : Fin 4096) : val_main_v39 (F := Ideal) x0 x2 x5 x7 (ix2 p q) =
    Mlp.sq (fun k => val_main_v34 (F := Ideal) x0 x2 x5 x7 (ix2 p k)) q := by
  unfold val_main_v39 val_main_v35
  generalize val_main_v34 (F := Ideal) x0 x2 x5 x7 = a
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  rfl

theorem ref_f (p : Fin 4096) (q : Fin 1024) : val_main_v42 (F := Ideal) x0 x2 x5 x7 x8 (ix2 p q) =
    Mlp.outp (fun k => val_main_v39 (F := Ideal) x0 x2 x5 x7 (ix2 p k)) (fun k j => x8 (ix2 k j)) q := by
  unfold val_main_v42
  generalize val_main_v39 (F := Ideal) x0 x2 x5 x7 = r
  pointwise []
  rfl

theorem ref_t (p : Fin 4096) (q : Fin 1024) : val_main_v76 (F := Ideal) x1 x2 x6 (ix2 p q) =
    Mlp.tf (fun k => x1 (ix2 p k)) (fun j => x2 (ix2 0 ⟨5120 + j.val, by omega⟩)) (fun j => x6 (ix2 0 j)) q := by
  pointwise [val_main_v76, val_main_v75, val_main_v65, val_main_v66, val_main_v67, val_main_v58, val_main_v59, val_main_v60, val_main_v61, val_main_v62, val_main_v43, val_main_v44, val_main_v0, val_main_v1, val_main_v2, val_main_v3, val_main_v4, val_main_v5, val_main_v6, val_main_v7]
  exact congrArg (· * _) (mul_comm _ _)

theorem ref_df (p : Fin 4096) (q : Fin 1024) : val_main_v91 (F := Ideal) x0 x1 x2 x5 x6 x7 x8 (ix2 p q) =
    Mlp.dnRef (fun k => val_main_v42 (F := Ideal) x0 x2 x5 x7 x8 (ix2 p k)) (fun k => val_main_v76 (F := Ideal) x1 x2 x6 (ix2 p k)) q := by
  unfold val_main_v91 val_main_v90 val_main_v89 val_main_v88 val_main_v87 val_main_v86 val_main_v85 val_main_v84 val_main_v83 val_main_v82 val_main_v81 val_main_v80 val_main_v79 val_main_v78 val_main_v55 val_main_v54 val_main_v53 val_main_v52 val_main_v51 val_main_v50 val_main_v49 val_main_v48 val_main_v47 val_main_v46 val_main_v45
  generalize val_main_v42 (F := Ideal) x0 x2 x5 x7 x8 = f
  generalize val_main_v76 (F := Ideal) x1 x2 x6 = t
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  simp only [Fin.sum_univ_one]
  rfl

theorem ref_da (p : Fin 4096) (q : Fin 4096) : val_main_v95 (F := Ideal) x0 x1 x2 x5 x6 x7 x8 (ix2 p q) =
    Mlp.da (fun k => val_main_v91 (F := Ideal) x0 x1 x2 x5 x6 x7 x8 (ix2 p k)) (fun i k => x8 (ix2 i k)) (fun i => val_main_v39 (F := Ideal) x0 x2 x5 x7 (ix2 p i)) q := by
  unfold val_main_v95 val_main_v94 val_main_v93 val_main_v92 val_main_v41 val_main_v40 val_main_v39 val_main_v37 val_main_v36 val_main_v35
  generalize val_main_v34 (F := Ideal) x0 x2 x5 x7 = a
  generalize val_main_v91 (F := Ideal) x0 x1 x2 x5 x6 x7 x8 = d
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Mlp.select_sqrt _ _

theorem ref_dh (p : Fin 4096) (q : Fin 1024) : val_main_v96 (F := Ideal) x0 x1 x2 x5 x6 x7 x8 (ix2 p q) =
    Mlp.dh (fun k => val_main_v95 (F := Ideal) x0 x1 x2 x5 x6 x7 x8 (ix2 p k)) (fun j i => x7 (ix2 j i)) q := by
  unfold val_main_v96
  generalize val_main_v95 (F := Ideal) x0 x1 x2 x5 x6 x7 x8 = d
  pointwise []
  rfl

theorem ref_n (p : Fin 4096) (q : Fin 1024) : val_main_v22 (F := Ideal) x0 (ix2 p q) = x0 (ix2 p q) * Mlp.rs (fun k => x0 (ix2 p k)) := by
  pointwise [val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  rfl

theorem ref_ng (p : Fin 4096) (q : Fin 1024) : val_main_v25 (F := Ideal) x0 x5 (ix2 p q) = x0 (ix2 p q) * Mlp.rs (fun k => x0 (ix2 p k)) * x5 (ix2 0 q) := by
  unfold val_main_v25
  refine (by pointwise [] : _ = val_main_v22 (F := Ideal) x0 (ix2 p q) * val_main_v24 (F := Ideal) x5 (ix2 p q)).trans ?_
  rw [ref_n]
  pointwise [val_main_v24, val_main_v23, val_main_v8, val_main_v9]

theorem ref_fn (p : Fin 4096) (q : Fin 1024) : val_main_v57 (F := Ideal) x0 x2 x5 x7 x8 (ix2 p q) =
    val_main_v42 (F := Ideal) x0 x2 x5 x7 x8 (ix2 p q) * Mlp.rs (fun k => val_main_v42 (F := Ideal) x0 x2 x5 x7 x8 (ix2 p k)) := by
  unfold val_main_v57 val_main_v56 val_main_v52 val_main_v51 val_main_v50 val_main_v49 val_main_v48 val_main_v47 val_main_v46 val_main_v45
  generalize val_main_v42 (F := Ideal) x0 x2 x5 x7 x8 = f
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  rfl

theorem ref_fp (p : Fin 4096) (q : Fin 1024) : val_main_v60 (F := Ideal) x0 x2 x5 x6 x7 x8 (ix2 p q) =
    val_main_v57 (F := Ideal) x0 x2 x5 x7 x8 (ix2 p q) * x6 (ix2 0 q) := by
  unfold val_main_v60
  generalize val_main_v57 (F := Ideal) x0 x2 x5 x7 x8 = f
  pointwise [val_main_v59, val_main_v58, val_main_v44, val_main_v43]

theorem ref_gd (p : Fin 4096) (q : Fin 1024) : val_main_v67 (F := Ideal) x1 x2 (ix2 p q) = x1 (ix2 p q) * x2 (ix2 0 ⟨5120 + q.val, by omega⟩) := by
  pointwise [val_main_v65, val_main_v66, val_main_v67, val_main_v61, val_main_v7, val_main_v0, val_main_v1]
  exact mul_comm _ _

theorem ref_dhs (p : Fin 4096) (q : Fin 1024) : val_main_v104 (F := Ideal) x0 x1 x2 x5 x6 x7 x8 (ix2 p q) =
    val_main_v96 (F := Ideal) x0 x1 x2 x5 x6 x7 x8 (ix2 p q) * (1 + x2 (ix2 0 ⟨4096 + q.val, by omega⟩)) := by
  unfold val_main_v104
  generalize val_main_v96 (F := Ideal) x0 x1 x2 x5 x6 x7 x8 = d
  pointwise [val_main_v103, val_main_v28, val_main_v27, val_main_v26, val_main_v6, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]

theorem ref_t2 (p : Fin 4096) (q : Fin 1024) : val_main_v110 (F := Ideal) x0 x1 x2 x5 x6 x7 x8 (ix2 p q) =
    val_main_v104 (F := Ideal) x0 x1 x2 x5 x6 x7 x8 (ix2 p q) * x5 (ix2 0 q) := by
  unfold val_main_v110
  generalize val_main_v104 (F := Ideal) x0 x1 x2 x5 x6 x7 x8 = d
  pointwise [val_main_v109, val_main_v23, val_main_v9, val_main_v8]

theorem ref_dx (p : Fin 4096) (q : Fin 1024) : val_main_v126 (F := Ideal) x0 x1 x2 x5 x6 x7 x8 (ix2 p q) =
    x1 (ix2 p q) + Mlp.dnRef (fun k => x0 (ix2 p k)) (fun k => val_main_v110 (F := Ideal) x0 x1 x2 x5 x6 x7 x8 (ix2 p k)) q := by
  unfold val_main_v126 val_main_v125 val_main_v124 val_main_v123 val_main_v122 val_main_v121 val_main_v120 val_main_v119 val_main_v118 val_main_v117 val_main_v116 val_main_v115 val_main_v114 val_main_v113 val_main_v112
  generalize val_main_v110 (F := Ideal) x0 x1 x2 x5 x6 x7 x8 = t
  pointwise [val_main_v10, val_main_v11, val_main_v12, val_main_v13, val_main_v14, val_main_v15, val_main_v16, val_main_v17, val_main_v18, val_main_v19, val_main_v20, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  simp only [Fin.sum_univ_one]
  rfl

theorem ref_sh (q : Fin 1024) : val_main_v99 (F := Ideal) x0 x1 x2 x5 x6 x7 x8 (ix1 q) = ∑ P : Fin 4096, val_main_v96 (F := Ideal) x0 x1 x2 x5 x6 x7 x8 (ix2 P q) := by
  unfold val_main_v99 val_main_v98 val_main_v97
  generalize val_main_v96 (F := Ideal) x0 x1 x2 x5 x6 x7 x8 = a
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Fin.sum_univ_one _

theorem ref_sc (q : Fin 1024) : val_main_v105 (F := Ideal) x0 x1 x2 x5 x6 x7 x8 (ix1 q) = ∑ P : Fin 4096, val_main_v25 (F := Ideal) x0 x5 (ix2 P q) * val_main_v96 (F := Ideal) x0 x1 x2 x5 x6 x7 x8 (ix2 P q) := by
  unfold val_main_v105 val_main_v102 val_main_v101 val_main_v100
  generalize val_main_v25 (F := Ideal) x0 x5 = a
  generalize val_main_v96 (F := Ideal) x0 x1 x2 x5 x6 x7 x8 = b
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Fin.sum_univ_one _

theorem ref_g2 (q : Fin 1024) : val_main_v71 (F := Ideal) x0 x1 x2 x5 x6 x7 x8 (ix1 q) = ∑ P : Fin 4096, x1 (ix2 P q) * val_main_v60 (F := Ideal) x0 x2 x5 x6 x7 x8 (ix2 P q) := by
  unfold val_main_v71 val_main_v70 val_main_v69 val_main_v68 val_main_v65
  generalize val_main_v60 (F := Ideal) x0 x2 x5 x6 x7 x8 = a
  generalize x1 = b
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Fin.sum_univ_one _

theorem ref_pre (q : Fin 1024) : val_main_v111 (F := Ideal) x0 x1 x2 x5 x6 x7 x8 (ix1 q) = ∑ P : Fin 4096, val_main_v22 (F := Ideal) x0 (ix2 P q) * val_main_v104 (F := Ideal) x0 x1 x2 x5 x6 x7 x8 (ix2 P q) := by
  unfold val_main_v111 val_main_v108 val_main_v107 val_main_v106
  generalize val_main_v22 (F := Ideal) x0 = a
  generalize val_main_v104 (F := Ideal) x0 x1 x2 x5 x6 x7 x8 = b
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Fin.sum_univ_one _

theorem ref_post (q : Fin 1024) : val_main_v77 (F := Ideal) x0 x1 x2 x5 x7 x8 (ix1 q) = ∑ P : Fin 4096, val_main_v57 (F := Ideal) x0 x2 x5 x7 x8 (ix2 P q) * val_main_v67 (F := Ideal) x1 x2 (ix2 P q) := by
  unfold val_main_v77 val_main_v74 val_main_v73 val_main_v72
  generalize val_main_v57 (F := Ideal) x0 x2 x5 x7 x8 = a
  generalize val_main_v67 (F := Ideal) x1 x2 = b
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_call0_cst, val_main_call0_v0]
  exact Fin.sum_univ_one _

end reference

end Cert.MlpBwd
end
-- ==== Proof.MlpBwd.lean ====
module

public import proofs.«01_k».proof.Proof.MlpBwdRun
public import proofs.«01_k».proof.Proof.MlpBwdRef
public import Idealize.ShloMosaic.Lib.Pipeline.ValueKit
public import Idealize.ShloMosaic.Lib.WritesUnit
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo (launchContents launchContents_devRef)

/-! # The MLP's backward call: both programs agree -/

namespace Cert.MlpBwd
open Cert.Reference7Ideal Cert.Reference7Ideal.Read

/-- The reference's run, its results as functions of its arguments. -/
theorem ref_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v126) = val_main_v126 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v127) = val_main_v127 (F := Ideal) (m ((c.tc : Thread nD τ).loc main_arg0)) (m ((c.tc : Thread nD τ).loc main_arg2)) (m ((c.tc : Thread nD τ).loc main_arg5))
      ∧ r.2.mem ((c.tc : Thread nD τ).loc main_v128) = val_main_v128 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v129) = val_main_v129 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v99) = val_main_v99 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v105) = val_main_v105 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v111) = val_main_v111 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (val_main_v126_eq (launchContents m c)), (h c).2.1.trans (val_main_v127_eq (launchContents m c)), (h c).2.2.1.trans (val_main_v128_eq (launchContents m c)), (h c).2.2.2.1.trans (val_main_v129_eq (launchContents m c)), (h c).2.2.2.2.1.trans (val_main_v99_eq (launchContents m c)), (h c).2.2.2.2.2.1.trans (val_main_v105_eq (launchContents m c)), (h c).2.2.2.2.2.2.1.trans (val_main_v71_eq (launchContents m c)), (h c).2.2.2.2.2.2.2.1.trans (val_main_v111_eq (launchContents m c)), (h c).2.2.2.2.2.2.2.2.1.trans (val_main_v77_eq (launchContents m c)), (h c).2.2.2.2.2.2.2.2.2⟩)
    (Cert.Reference7Ideal.Value.run m g)

/-- The reference's arguments end unchanged and its counters at zero: it declares none. -/
theorem ref_frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2.2.2.2.2.2.2.2, Idealize.ShloMosaic.sem_eq_zero_of_no_sems (by decide) r.2⟩) (ref_run m g)

section agree
variable (m : (ℓ : Loc Cert.Kernel7Ideal.nD Cert.Kernel7Ideal.τ Cert.Kernel7Ideal.sig) → Buf (Elt Ideal) ℓ) (c : Dev Cert.Kernel7Ideal.nD)

/-- The reference's values at the kernel's arguments are the kernel's. -/
theorem agree_h (p : Fin 4096) : (fun q => val_main_v33 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (ix2 p q)) = hrow m c p :=
  funext fun q => ref_h _ _ _ p q

theorem agree_r (p : Fin 4096) : (fun q => val_main_v39 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg7)) (ix2 p q)) = rrow m c p := by
  funext q
  refine (ref_r _ _ _ _ p q).trans (congrFun (congrArg Mlp.sq (funext fun k => (ref_a _ _ _ _ p k).trans ?_)) q)
  exact congrFun (congrArg (fun h => Mlp.act h (WI m c)) (agree_h m c p)) k

theorem agree_f (p : Fin 4096) : (fun q => val_main_v42 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q)) = frow m c p := by
  funext q
  refine (ref_f _ _ _ _ _ p q).trans ?_
  exact congrFun (congrArg (fun r => Mlp.outp r (WO m c)) (agree_r m c p)) q

theorem agree_t (p : Fin 4096) : (fun q => val_main_v76 (F := Ideal) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg6)) (ix2 p q)) = Mlp.tf (D m c p) (GT m c) (PO m c) :=
  funext fun q => ref_t _ _ _ p q

theorem agree_df (p : Fin 4096) : (fun q => val_main_v91 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q)) = dfrow m c p := by
  funext q
  refine (ref_df _ _ _ _ _ _ _ p q).trans ((Mlp.dnRef_eq _ _ q).trans ?_)
  exact congrFun (congrArg₂ Mlp.dn (agree_f m c p) (agree_t m c p)) q

theorem agree_da (p : Fin 4096) : (fun q => val_main_v95 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q)) = darow m c p := by
  funext q
  refine (ref_da _ _ _ _ _ _ _ p q).trans ?_
  exact congrFun (congrArg₂ (fun d r => Mlp.da d (WO m c) r) (agree_df m c p) (agree_r m c p)) q

theorem agree_dh (p : Fin 4096) : (fun q => val_main_v96 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q)) = dhrow m c p := by
  funext q
  refine (ref_dh _ _ _ _ _ _ _ p q).trans ?_
  exact congrFun (congrArg (fun d => Mlp.dh d (WI m c)) (agree_da m c p)) q

theorem agree_dhs (p : Fin 4096) (q : Fin 1024) : val_main_v104 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q) = dhrow m c p q * (1 + SC m c q) :=
  (ref_dhs _ _ _ _ _ _ _ p q).trans (congrArg (· * (1 + SC m c q)) (congrFun (agree_dh m c p) q))

theorem agree_dx (p : Fin 4096) (q : Fin 1024) : val_main_v126 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q) = dxrow m c p q := by
  refine (ref_dx _ _ _ _ _ _ _ p q).trans (congrArg (D m c p q + ·) ((Mlp.dnRef_eq _ _ q).trans ?_))
  refine congrFun (congrArg (Mlp.dn (X m c p)) (funext fun k => (ref_t2 _ _ _ _ _ _ _ p k).trans ?_)) q
  exact congrArg (· * G m c k) (agree_dhs m c p k)

theorem agree_fn (p : Fin 4096) (q : Fin 1024) : val_main_v57 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix2 p q) = frow m c p q * Mlp.rs (frow m c p) := by
  refine (ref_fn _ _ _ _ _ p q).trans ?_
  exact congrArg₂ (HMul.hMul : EReal → EReal → EReal) (congrFun (agree_f m c p) q) (congrArg Mlp.rs (agree_f m c p))

theorem agree_sh (q : Fin 1024) : val_main_v99 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix1 q) = ∑ P, csh m c q P :=
  (ref_sh _ _ _ _ _ _ _ q).trans (Finset.sum_congr rfl fun p _ => congrFun (agree_dh m c p) q)

theorem agree_sc (q : Fin 1024) : val_main_v105 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix1 q) = ∑ P, csc m c q P := by
  refine (ref_sc _ _ _ _ _ _ _ q).trans (Finset.sum_congr rfl fun p _ => ?_)
  refine (congrArg₂ (HMul.hMul : EReal → EReal → EReal) (ref_ng _ _ p q) (congrFun (agree_dh m c p) q)).trans ?_
  exact mul_comm _ _

theorem agree_gt (q : Fin 1024) : val_main_v71 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix1 q) = ∑ P, cgt m c q P := by
  refine (ref_g2 _ _ _ _ _ _ _ q).trans (Finset.sum_congr rfl fun p _ => ?_)
  refine congrArg (D m c p q * ·) ((ref_fp _ _ _ _ _ _ p q).trans ?_)
  exact congrArg (· * PO m c q) (agree_fn m c p q)

theorem agree_pre (q : Fin 1024) : val_main_v111 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg6)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix1 q) = ∑ P, cpre m c q P := by
  refine (ref_pre _ _ _ _ _ _ _ q).trans (Finset.sum_congr rfl fun p _ => ?_)
  refine (congrArg₂ (HMul.hMul : EReal → EReal → EReal) (ref_n _ p q) (agree_dhs m c p q)).trans ?_
  exact mul_comm _ _

theorem agree_post (q : Fin 1024) : val_main_v77 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg5)) (m ((c : Thread Cert.Kernel7Ideal.nD Cert.Kernel7Ideal.τ).loc Cert.Kernel7Ideal.main_arg7)) (m ((c : Thread Cert.Kernel7Ideal.nD Cert.Kernel7Ideal.τ).loc Cert.Kernel7Ideal.main_arg8)) (ix1 q) = ∑ P, cpost m c q P := by
  refine (ref_post _ _ _ _ _ _ q).trans (Finset.sum_congr rfl fun p _ => ?_)
  refine (congrArg₂ (HMul.hMul : EReal → EReal → EReal) (agree_fn m c p q) (ref_gd _ _ p q)).trans ?_
  exact mul_comm _ _

end agree

/-- Both programs end with the same nine results. -/
theorem algebraic : @Cert.algebraic_Kernel7Ideal_Reference7Ideal Cert.Kernel7Ideal.Gen.facts Cert.Reference7Ideal.Gen.facts := by
  intro m g m' g' hpre hag
  refine ⟨fun c => dxA m c, fun c => hA m c, fun c => daA m c, fun c => dfA m c, fun c => shA m c, fun c => scA m c, fun c => gtA m c, fun c => preA m c, fun c => postA m c,
    kernel_run m g, ?_⟩
  refine (θ_run Cert.Reference7Ideal.defs _ _).mono (fun r h c => ?_) (ref_run m' g')
  obtain ⟨a0, a1, a2, a3, a4, a5, a6, a7, a8⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  · rw [a0, a1, a2, a5, a6, a7, a8]
    funext i
    exact (congrArg _ (eq_ix2 i)).trans (agree_dx m c (i 0) (i 1))
  · rw [a0, a2, a5]
    funext i
    exact (congrArg _ (eq_ix2 i)).trans (congrFun (agree_h m c (i 0)) (i 1))
  · rw [a0, a1, a2, a5, a6, a7, a8]
    funext i
    exact (congrArg _ (eq_ix2 i)).trans (congrFun (agree_da m c (i 0)) (i 1))
  · rw [a0, a1, a2, a5, a6, a7, a8]
    funext i
    exact (congrArg _ (eq_ix2 i)).trans (congrFun (agree_df m c (i 0)) (i 1))
  · rw [a0, a1, a2, a5, a6, a7, a8]
    funext i
    exact (congrArg _ (ix1_eta i).symm).trans (agree_sh m c (i 0))
  · rw [a0, a1, a2, a5, a6, a7, a8]
    funext i
    exact (congrArg _ (ix1_eta i).symm).trans (agree_sc m c (i 0))
  · rw [a0, a1, a2, a5, a6, a7, a8]
    funext i
    exact (congrArg _ (ix1_eta i).symm).trans (agree_gt m c (i 0))
  · rw [a0, a1, a2, a5, a6, a7, a8]
    funext i
    exact (congrArg _ (ix1_eta i).symm).trans (agree_pre m c (i 0))
  · rw [a0, a1, a2, a5, a7, a8]
    funext i
    exact (congrArg _ (ix1_eta i).symm).trans (agree_post m c (i 0))

end Cert.MlpBwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite
public import proofs.«01_k».proof.Proof.Gen.ReferenceIdeal.Run
public import proofs.«01_k».proof.Proof.Gen.ReferenceIdeal.Read
public import proofs.«01_k».proof.Proof.Joined
public import proofs.«01_k».proof.Proof.Gen.Kernel2Ideal.Value
public import proofs.«01_k».proof.Proof.Gen.Reference2Ideal.Run
public import proofs.«01_k».proof.Proof.Gen.Reference2Ideal.Read
public import proofs.«01_k».proof.Proof.OutWeights
public import proofs.«01_k».proof.Proof.Gen.Kernel3Ideal.Value
public import proofs.«01_k».proof.Proof.Gen.Reference3Ideal.Run
public import proofs.«01_k».proof.Proof.Gen.Reference3Ideal.Read
public import proofs.«01_k».proof.Proof.InWeights
public import proofs.«01_k».proof.Proof.Gen.Kernel4Ideal.Value
public import proofs.«01_k».proof.Proof.Gen.Reference4Ideal.Run
public import proofs.«01_k».proof.Proof.Gen.Reference4Ideal.Read
public import proofs.«01_k».proof.Proof.MixOutWeights
public import proofs.«01_k».proof.Proof.Gen.Kernel5Ideal.Value
public import proofs.«01_k».proof.Proof.Gen.Reference5Ideal.Run
public import proofs.«01_k».proof.Proof.Gen.Reference5Ideal.Read
public import proofs.«01_k».proof.Proof.MixInWeights
public import proofs.«01_k».proof.Proof.Gen.Kernel6Ideal.Value
public import proofs.«01_k».proof.Proof.Gen.Reference6Ideal.Run
public import proofs.«01_k».proof.Proof.Gen.Reference6Ideal.Read
public import proofs.«01_k».proof.Proof.MlpFwd
public import proofs.«01_k».proof.Proof.Gen.Reference7Ideal.Run
public import proofs.«01_k».proof.Proof.Gen.Reference7Ideal.Read
public import proofs.«01_k».proof.Proof.MlpBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.shapes,
  fun m ρ _ => Cert.Kernel.Gen.frame m ρ,
  fun m ρ _ => Cert.KernelIdeal.Gen.frame m ρ,
  fun m ρ _ => Cert.KernelIdeal.Gen.frame m ρ,
  fun m ρ _ => Cert.Joined.ref_frame m ρ,
  fun m ρ _ => Cert.Joined.ref_frame m ρ,
  fun m ρ _ => Cert.Kernel2.Gen.frame m ρ,
  fun m ρ _ => Cert.Kernel2Ideal.Gen.frame m ρ,
  fun m ρ _ => Cert.OutWeights.ref_frame m ρ,
  fun m ρ _ => Cert.Kernel3.Gen.frame m ρ,
  fun m ρ _ => Cert.Kernel3Ideal.Gen.frame m ρ,
  fun m ρ _ => Cert.InWeights.ref_frame m ρ,
  fun m ρ _ => Cert.Kernel4.Gen.frame m ρ,
  fun m ρ _ => Cert.Kernel4Ideal.Gen.frame m ρ,
  fun m ρ _ => Cert.MixOutWeights.ref_frame m ρ,
  fun m ρ _ => Cert.Kernel5.Gen.frame m ρ,
  fun m ρ _ => Cert.Kernel5Ideal.Gen.frame m ρ,
  fun m ρ _ => Cert.MixInWeights.ref_frame m ρ,
  fun m ρ _ => Cert.Kernel6.Gen.frame m ρ,
  fun m ρ _ => Cert.Kernel6Ideal.Gen.frame m ρ,
  fun m ρ _ => Cert.MlpFwd.ref_frame m ρ,
  fun m ρ _ => Cert.Kernel7.Gen.frame m ρ,
  fun m ρ _ => Cert.Kernel7Ideal.Gen.frame m ρ,
  fun m ρ _ => Cert.MlpBwd.ref_frame m ρ,
  IdealRules.named_const.statement Cert.KernelIdeal.κ "mask" .f32 0xF149F2CA#32 ⊥ rfl,
  Cert.Joined.algebraic,
  trivial,
  Cert.OutWeights.algebraic,
  trivial,
  Cert.InWeights.algebraic,
  trivial,
  Cert.MixOutWeights.algebraic,
  trivial,
  Cert.MixInWeights.algebraic,
  trivial,
  Cert.MlpFwd.algebraic,
  trivial,
  Cert.MlpBwd.algebraic⟩

end Cert.Proof

end
